-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x8x192 : Shape := ⟨3, ![8192, 8, 192]⟩
abbrev S8192x8x128 : Shape := ⟨3, ![8192, 8, 128]⟩
abbrev S8192x8x640 : Shape := ⟨3, ![8192, 8, 640]⟩
abbrev S_ : Shape := ⟨0, ![]⟩

class Facts : Prop where
  concatenates_S8192x8x192_S8192x8x192_S8192x8x128_S8192x8x128_S8192x8x640_d2 : Shape.Concatenates [S8192x8x192, S8192x8x192, S8192x8x128, S8192x8x128] S8192x8x640 2
  bitsLt_bf16_f32 : FTy.bits .bf16 < FTy.bits .f32
  bcast_S_S8192x8x640 : S_.BroadcastsInDim S8192x8x640 (![] : Fin 0 → Fin S8192x8x640.rank)

variable [Facts]

def fn {F : FTy → Type} [FloatOps F] (main_arg0 : FVec F S8192x8x192 .bf16) (main_arg1 : FVec F S8192x8x192 .bf16) (main_arg2 : FVec F S8192x8x128 .bf16) (main_arg3 : FVec F S8192x8x128 .bf16) : IVec S8192x8x640 1 :=
  let main_v0 : FVec F S8192x8x640 .bf16 := concatenate S8192x8x640 2 [⟨S8192x8x192, main_arg0⟩, ⟨S8192x8x192, main_arg1⟩, ⟨S8192x8x128, main_arg2⟩, ⟨S8192x8x128, main_arg3⟩] concatenates_S8192x8x192_S8192x8x192_S8192x8x128_S8192x8x128_S8192x8x640_d2
  let main_v1 : FVec F S8192x8x640 .f32 := (extf .f32 · bitsLt_bf16_f32) main_v0
  let main_v2 : FVec F S8192x8x640 .f32 := Host.absf main_v1
  let main_cst : FVec F S_ .f32 := constant S_ .f32 0x7F800000#32
  let main_v3 : FVec F S8192x8x640 .f32 := broadcastInDim S8192x8x640 ![] bcast_S_S8192x8x640 main_cst
  let main_v4 : IVec S8192x8x640 1 := cmpf .olt main_v2 main_v3
  main_v4
-- ==== Pre_finite2.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S8192x5632 .f32 := (extf .f32 · bitsLt_bf16_f32) main_arg3
  let main_v12 : FVec F S8192x5632 .f32 := Host.absf main_v11
  let main_cst_2 : FVec F S_ .f32 := constant S_ .f32 0x7F800000#32
  let main_v13 : FVec F S8192x5632 .f32 := broadcastInDim S8192x5632 ![] bcast_S_S8192x5632 main_cst_2
  let main_v14 : IVec S8192x5632 1 := cmpf .olt main_v12 main_v13
  let main_c_3 : IVec S_ 1 := constantI S_ 1 1#1
  let main_v15 : IVec S_ 1 := (fun x v => Host.reduce IntOp.andi x v reducesTo_S8192x5632_S_d0_1 h_S_) main_v14 main_c_3
  let main_v16 : IVec S_ 1 := andi main_v10 main_v15
  main_v16
-- ==== Kernel.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8192x8x256 : Shape := ⟨3, ![8192, 8, 256]⟩
abbrev S8192x2048 : Shape := ⟨2, ![8192, 2048]⟩
abbrev S8192x1024 : Shape := ⟨2, ![8192, 1024]⟩
abbrev S16x512x2048 : Shape := ⟨3, ![16, 512, 2048]⟩
abbrev S16x2048x512 : Shape := ⟨3, ![16, 2048, 512]⟩
abbrev S16x512x1024 : Shape := ⟨3, ![16, 512, 1024]⟩
abbrev S16x1024x512 : Shape := ⟨3, ![16, 1024, 512]⟩
abbrev S8x16x1x512 : Shape := ⟨4, ![8, 16, 1, 512]⟩
abbrev S8x16x8x512 : Shape := ⟨4, ![8, 16, 8, 512]⟩
abbrev S8192x512 : Shape := ⟨2, ![8192, 512]⟩
abbrev S16x512x512 : Shape := ⟨3, ![16, 512, 512]⟩
abbrev S8192x256 : Shape := ⟨2, ![8192, 256]⟩
abbrev S16x256x512 : Shape := ⟨3, ![16, 256, 512]⟩
abbrev S2x16x8x512 : Shape := ⟨4, ![2, 16, 8, 512]⟩
abbrev S512x512 : Shape := ⟨2, ![512, 512]⟩
abbrev S1x512x512 : Shape := ⟨3, ![1, 512, 512]⟩
abbrev S512x256 : Shape := ⟨2, ![512, 256]⟩
abbrev S1x256x512 : Shape := ⟨3, ![1, 256, 512]⟩
abbrev S256x512 : Shape := ⟨2, ![256, 512]⟩
abbrev S512x128 : Shape := ⟨2, ![512, 128]⟩
abbrev S1x128x512 : Shape := ⟨3, ![1, 128, 512]⟩
abbrev S128x512 : Shape := ⟨2, ![128, 512]⟩
abbrev S1x1x1x512 : Shape := ⟨4, ![1, 1, 1, 512]⟩
abbrev S1x512 : Shape := ⟨2, ![1, 512]⟩

abbrev nBuf : Space → Nat
  | .hbm => 82
  | .vmem => 26
  | .smem => 0
  | _ => 0

abbrev bufTy : (tb : Table) → Fin (tcTables nBuf tb) → BufTy
  | .hbm, ⟨0, _⟩ => ⟨S8192x8x192, .bf16⟩
  | .hbm, ⟨1, _⟩ => ⟨S8192x8x192, .bf16⟩
  | .hbm, ⟨2, _⟩ => ⟨S8192x8x128, .bf16⟩
  | .hbm, ⟨3, _⟩ => ⟨S8192x8x128, .bf16⟩
  | .hbm, ⟨4, _⟩ => ⟨S8192x8x192, .f32⟩
  | .hbm, ⟨5, _⟩ => ⟨S8192x8x192, .f32⟩
  | .hbm, ⟨6, _⟩ => ⟨S8192x8x128, .f32⟩
  | .hbm, ⟨7, _⟩ => ⟨S8192x8x128, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x128x8192, .f32⟩
  | .hbm, ⟨42, _⟩ => ⟨S8192x8x128, .f32⟩
  | .hbm, ⟨43, _⟩ => ⟨S8192x8x128, .f32⟩
  | .hbm, ⟨44, _⟩ => ⟨S_, .f32⟩
  | .hbm, ⟨45, _⟩ => ⟨S8192x8, .f32⟩
  | .hbm, ⟨46, _⟩ => ⟨S8x8192, .f32⟩
  | .hbm, ⟨47, _⟩ => ⟨S_, .f32⟩
  | .hbm, ⟨48, _⟩ => ⟨S8192x8x192, .f32⟩
  | .hbm, ⟨49, _⟩ => ⟨S8192x8x192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x8x192, .f32⟩
  | .hbm, ⟨54, _⟩ => ⟨S8192x8x192, .f32⟩
  | .hbm, ⟨55, _⟩ => ⟨S_, .i32⟩
  | .hbm, ⟨56, _⟩ => ⟨S_, .f32⟩
  | .hbm, ⟨57, _⟩ => ⟨S8192x8x256, .f32⟩
  | .hbm, ⟨58, _⟩ => ⟨S8192x2048, .f32⟩
  | .hbm, ⟨59, _⟩ => ⟨S8192x2048, .bf16⟩
  | .hbm, ⟨60, _⟩ => ⟨S_, .i32⟩
  | .hbm, ⟨61, _⟩ => ⟨S_, .f32⟩
  | .hbm, ⟨62, _⟩ => ⟨S8192x8x256, .f32⟩
  | .hbm, ⟨63, _⟩ => ⟨S8192x2048, .f32⟩
  | .hbm, ⟨64, _⟩ => ⟨S8192x2048, .bf16⟩
  | .hbm, ⟨65, _⟩ => ⟨S8192x1024, .f32⟩
  | .hbm, ⟨66, _⟩ => ⟨S8192x1024, .bf16⟩
  | .hbm, ⟨67, _⟩ => ⟨S16x512x2048, .bf16⟩
  | .hbm, ⟨68, _⟩ => ⟨S16x2048x512, .bf16⟩
  | .hbm, ⟨69, _⟩ => ⟨S16x512x2048, .bf16⟩
  | .hbm, ⟨70, _⟩ => ⟨S16x2048x512, .bf16⟩
  | .hbm, ⟨71, _⟩ => ⟨S8192x1024, .f32⟩
  | .hbm, ⟨72, _⟩ => ⟨S8192x1024, .bf16⟩
  | .hbm, ⟨73, _⟩ => ⟨S16x512x1024, .bf16⟩
  | .hbm, ⟨74, _⟩ => ⟨S16x1024x512, .bf16⟩
  | .hbm, ⟨75, _⟩ => ⟨S8x16x1x512, .f32⟩
  | .hbm, ⟨76, _⟩ => ⟨S8x16x8x512, .f32⟩
  | .hbm, ⟨77, _⟩ => ⟨S8x16x1x512, .f32⟩
  | .hbm, ⟨78, _⟩ => ⟨S8x16x8x512, .f32⟩
  | .hbm, ⟨79, _⟩ => ⟨S16x2048x512, .f32⟩
  | .hbm, ⟨80, _⟩ => ⟨S8192x2048, .f32⟩
  | .hbm, ⟨81, _⟩ => ⟨S8192x1024, .f32⟩
  | .local _ .vmem, ⟨0, _⟩ => ⟨S8192x512, .bf16⟩
  | .local _ .vmem, ⟨1, _⟩ => ⟨S8192x512, .bf16⟩
  | .local _ .vmem, ⟨2, _⟩ => ⟨S16x512x512, .bf16⟩
  | .local _ .vmem, ⟨3, _⟩ => ⟨S16x512x512, .bf16⟩
  | .local _ .vmem, ⟨4, _⟩ => ⟨S8192x256, .bf16⟩
  | .local _ .vmem, ⟨5, _⟩ => ⟨S8192x256, .bf16⟩
  | .local _ .vmem, ⟨6, _⟩ => ⟨S16x256x512, .bf16⟩
  | .local _ .vmem, ⟨7, _⟩ => ⟨S16x256x512, .bf16⟩
  | .local _ .vmem, ⟨8, _⟩ => ⟨S2x16x8x512, .f32⟩
  | .local _ .vmem, ⟨9, _⟩ => ⟨S2x16x8x512, .f32⟩
  | .local _ .vmem, ⟨10, _⟩ => ⟨S2x16x8x512, .f32⟩
  | .local _ .vmem, ⟨11, _⟩ => ⟨S2x16x8x512, .f32⟩
  | .local _ .vmem, ⟨12, _⟩ => ⟨S512x512, .bf16⟩
  | .local _ .vmem, ⟨13, _⟩ => ⟨S512x512, .bf16⟩
  | .local _ .vmem, ⟨14, _⟩ => ⟨S1x512x512, .bf16⟩
  | .local _ .vmem, ⟨15, _⟩ => ⟨S1x512x512, .bf16⟩
  | .local _ .vmem, ⟨16, _⟩ => ⟨S512x256, .bf16⟩
  | .local _ .vmem, ⟨17, _⟩ => ⟨S512x256, .bf16⟩
  | .local _ .vmem, ⟨18, _⟩ => ⟨S16x512x512, .f32⟩
  | .local _ .vmem, ⟨19, _⟩ => ⟨S16x512x512, .f32⟩
  | .local _ .vmem, ⟨20, _⟩ => ⟨S512x512, .f32⟩
  | .local _ .vmem, ⟨21, _⟩ => ⟨S512x512, .f32⟩
  | .local _ .vmem, ⟨22, _⟩ => ⟨S512x256, .f32⟩
  | .local _ .vmem, ⟨23, _⟩ => ⟨S512x256, .f32⟩
  | .local _ .vmem, ⟨24, _⟩ => ⟨S512x512, .f32⟩
  | .local _ .vmem, ⟨25, _⟩ => ⟨S512x256, .f32⟩
  | _, _ => ⟨S8192x8x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_call2_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60_0 : Ref sig .tc := ⟨.hbm, 79, rfl⟩
abbrev main_v60_1 : Ref sig .tc := ⟨.hbm, 80, rfl⟩
abbrev main_v60_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v23 : BitVec 32 := Scalar.muli arg1 c512_i32
  v23
def k0_off1 (i : grid0.Coords) : Fin 3 → Nat :=
  let arg1 : BitVec 32 := BitVec.ofNat 32 (i 1).val
  let v25 : Index := Scalar.indexCast arg1
  let c0_17 : Index := 0#32
  let c0_18 : Index := 0#32
  ![v25.toNat, 0, 0]
def k0_off2 (i : grid0.Coords) : Fin 3 → Nat :=
  let arg1 : BitVec 32 := BitVec.ofNat 32 (i 1).val
  let v29 : Index := Scalar.indexCast arg1
  let c256_20 : Index := 256#32
  let c0_21 : Index := 0#32
  ![v29.toNat, 256, 0]
def k0_off3 (i : grid0.Coords) : Fin 3 → Nat :=
  let arg1 : BitVec 32 := BitVec.ofNat 32 (i 1).val
  let v33 : Index := Scalar.indexCast arg1
  let c0_23 : Index := 0#32
  let c0_24 : Index := 0#32
  ![v33.toNat, 0, 0]
def k0_off4 (i : grid0.Coords) : Fin 3 → Nat :=
  let arg1 : BitVec 32 := BitVec.ofNat 32 (i 1).val
  let v37 : Index := Scalar.indexCast arg1
  let c128_26 : Index := 128#32
  let c0_27 : Index := 0#32
  ![v37.toNat, 128, 0]
def k0_off5 (i : grid0.Coords) : Fin 4 → Nat :=
  let c0_31 : Index := 0#32
  let arg1 : BitVec 32 := BitVec.ofNat 32 (i 1).val
  let v49 : Index := Scalar.indexCast arg1
  let c0_32 : Index := 0#32
  let c0_33 : Index := 0#32
  ![0, v49.toNat, 0, 0]
def k0_off6 (i : grid0.Coords) : Fin 4 → Nat :=
  let c1 : Index := 1#32
  let arg1 : BitVec 32 := BitVec.ofNat 32 (i 1).val
  let v55 : Index := Scalar.indexCast arg1
  let c0_34 : Index := 0#32
  let c0_35 : Index := 0#32
  ![1, v55.toNat, 0, 0]
def k0_off7 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v73 : Index := Scalar.indexCast v24
  let c0_42 : Index := 0#32
  ![v73.toNat, 0]
def k0_off8 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v78 : Index := Scalar.indexCast v24
  let c128_44 : Index := 128#32
  ![v78.toNat, 128]
def k0_off9 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v83 : Index := Scalar.indexCast v24
  let c0_46 : Index := 0#32
  ![v83.toNat, 0]
def k0_off10 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v88 : Index := Scalar.indexCast v24
  let c256_48 : Index := 256#32
  ![v88.toNat, 256]
@[reducible] def k0_t1_loop (i : grid0.Coords) : Scf.Loop 32 :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_78 : BitVec 32 := 1#32
  ⟨v133, v138, c1_i32_78⟩
def k0_mult2 (i : grid0.Coords) (k0_t1 : Fin (k0_t1_loop i).trips) : BitVec 32 :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let c512_i32_88 : BitVec 32 := 512#32
  let v143 : BitVec 32 := Scalar.muli arg16 c512_i32_88
  v143
def k0_off11 (i : grid0.Coords) (k0_t1 : Fin (k0_t1_loop i).trips) : Fin 3 → Nat :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let v145 : Index := Scalar.indexCast arg16
  let c0_89 : Index := 0#32
  let c0_90 : Index := 0#32
  ![v145.toNat, 0, 0]
def k0_off12 (i : grid0.Coords) (k0_t1 : Fin (k0_t1_loop i).trips) : Fin 3 → Nat :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let v149 : Index := Scalar.indexCast arg16
  let c256_92 : Index := 256#32
  let c0_93 : Index := 0#32
  ![v149.toNat, 256, 0]
def k0_off13 (i : grid0.Coords) (k0_t1 : Fin (k0_t1_loop i).trips) : Fin 3 → Nat :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let v153 : Index := Scalar.indexCast arg16
  let c0_95 : Index := 0#32
  let c0_96 : Index := 0#32
  ![v153.toNat, 0, 0]
def k0_off14 (i : grid0.Coords) (k0_t1 : Fin (k0_t1_loop i).trips) : Fin 3 → Nat :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let v157 : Index := Scalar.indexCast arg16
  let c128_98 : Index := 128#32
  let c0_99 : Index := 0#32
  ![v157.toNat, 128, 0]
def k0_off15 (i : grid0.Coords) (k0_t1 : Fin (k0_t1_loop i).trips) : Fin 4 → Nat :=
  let c0_101 : Index := 0#32
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let v161 : Index := Scalar.indexCast arg16
  let c0_102 : Index := 0#32
  let c0_103 : Index := 0#32
  ![0, v161.toNat, 0, 0]
def k0_off16 (i : grid0.Coords) (k0_t1 : Fin (k0_t1_loop i).trips) : Fin 4 → Nat :=
  let c1_104 : Index := 1#32
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let v167 : Index := Scalar.indexCast arg16
  let c0_105 : Index := 0#32
  let c0_106 : Index := 0#32
  ![1, v167.toNat, 0, 0]
def k0_off17 (i : grid0.Coords) (k0_t1 : Fin (k0_t1_loop i).trips) : Fin 2 → Nat :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let c512_i32_88 : BitVec 32 := 512#32
  let v143 : BitVec 32 := Scalar.muli arg16 c512_i32_88
  let v144 : BitVec 32 := v143
  let v185 : Index := Scalar.indexCast v144
  let c0_113 : Index := 0#32
  ![v185.toNat, 0]
def k0_off18 (i : grid0.Coords) (k0_t1 : Fin (k0_t1_loop i).trips) : Fin 2 → Nat :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let c512_i32_88 : BitVec 32 := 512#32
  let v143 : BitVec 32 := Scalar.muli arg16 c512_i32_88
  let v144 : BitVec 32 := v143
  let v190 : Index := Scalar.indexCast v144
  let c128_115 : Index := 128#32
  ![v190.toNat, 128]
def k0_off19 (i : grid0.Coords) (k0_t1 : Fin (k0_t1_loop i).trips) : Fin 2 → Nat :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let c512_i32_88 : BitVec 32 := 512#32
  let v143 : BitVec 32 := Scalar.muli arg16 c512_i32_88
  let v144 : BitVec 32 := v143
  let v195 : Index := Scalar.indexCast v144
  let c0_117 : Index := 0#32
  ![v195.toNat, 0]
def k0_off20 (i : grid0.Coords) (k0_t1 : Fin (k0_t1_loop i).trips) : Fin 2 → Nat :=
  let arg1 : BitVec 32 := BitVec.ofNat 32 (i 1).val
  let c1_i32 : BitVec 32 := 1#32
  let v133 : BitVec 32 := Scalar.addi arg1 c1_i32
  let c1_i32_78 : BitVec 32 := 1#32
  let arg16 : BitVec 32 := Scf.iv v133 c1_i32_78 k0_t1
  let c512_i32_88 : BitVec 32 := 512#32
  let v143 : BitVec 32 := Scalar.muli arg16 c512_i32_88
  let v144 : BitVec 32 := v143
  let v200 : Index := Scalar.indexCast v144
  let c256_119 : Index := 256#32
  ![v200.toNat, 256]
@[reducible] def k0_t2_loop (i : grid0.Coords) : Scf.Loop 32 :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let v135 : BitVec 32 := Scalar.addi v133 v134
  let c1_i32_79 : BitVec 32 := 1#32
  ⟨v138, v135, c1_i32_79⟩
def k0_mult3 (i : grid0.Coords) (k0_t2 : Fin (k0_t2_loop i).trips) : BitVec 32 :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let c512_i32_88 : BitVec 32 := 512#32
  let v143 : BitVec 32 := Scalar.muli arg16 c512_i32_88
  v143
def k0_off21 (i : grid0.Coords) (k0_t2 : Fin (k0_t2_loop i).trips) : Fin 3 → Nat :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let v145 : Index := Scalar.indexCast arg16
  let c0_89 : Index := 0#32
  let c0_90 : Index := 0#32
  ![v145.toNat, 0, 0]
def k0_off22 (i : grid0.Coords) (k0_t2 : Fin (k0_t2_loop i).trips) : Fin 3 → Nat :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let v149 : Index := Scalar.indexCast arg16
  let c256_92 : Index := 256#32
  let c0_93 : Index := 0#32
  ![v149.toNat, 256, 0]
def k0_off23 (i : grid0.Coords) (k0_t2 : Fin (k0_t2_loop i).trips) : Fin 3 → Nat :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let v153 : Index := Scalar.indexCast arg16
  let c0_95 : Index := 0#32
  let c0_96 : Index := 0#32
  ![v153.toNat, 0, 0]
def k0_off24 (i : grid0.Coords) (k0_t2 : Fin (k0_t2_loop i).trips) : Fin 3 → Nat :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let v157 : Index := Scalar.indexCast arg16
  let c128_98 : Index := 128#32
  let c0_99 : Index := 0#32
  ![v157.toNat, 128, 0]
def k0_off25 (i : grid0.Coords) (k0_t2 : Fin (k0_t2_loop i).trips) : Fin 4 → Nat :=
  let c0_101 : Index := 0#32
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let v161 : Index := Scalar.indexCast arg16
  let c0_102 : Index := 0#32
  let c0_103 : Index := 0#32
  ![0, v161.toNat, 0, 0]
def k0_off26 (i : grid0.Coords) (k0_t2 : Fin (k0_t2_loop i).trips) : Fin 4 → Nat :=
  let c1_104 : Index := 1#32
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let v167 : Index := Scalar.indexCast arg16
  let c0_105 : Index := 0#32
  let c0_106 : Index := 0#32
  ![1, v167.toNat, 0, 0]
def k0_off27 (i : grid0.Coords) (k0_t2 : Fin (k0_t2_loop i).trips) : Fin 2 → Nat :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let c512_i32_88 : BitVec 32 := 512#32
  let v143 : BitVec 32 := Scalar.muli arg16 c512_i32_88
  let v144 : BitVec 32 := v143
  let v185 : Index := Scalar.indexCast v144
  let c0_113 : Index := 0#32
  ![v185.toNat, 0]
def k0_off28 (i : grid0.Coords) (k0_t2 : Fin (k0_t2_loop i).trips) : Fin 2 → Nat :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let c512_i32_88 : BitVec 32 := 512#32
  let v143 : BitVec 32 := Scalar.muli arg16 c512_i32_88
  let v144 : BitVec 32 := v143
  let v190 : Index := Scalar.indexCast v144
  let c128_115 : Index := 128#32
  ![v190.toNat, 128]
def k0_off29 (i : grid0.Coords) (k0_t2 : Fin (k0_t2_loop i).trips) : Fin 2 → Nat :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let c512_i32_88 : BitVec 32 := 512#32
  let v143 : BitVec 32 := Scalar.muli arg16 c512_i32_88
  let v144 : BitVec 32 := v143
  let v195 : Index := Scalar.indexCast v144
  let c0_117 : Index := 0#32
  ![v195.toNat, 0]
def k0_off30 (i : grid0.Coords) (k0_t2 : Fin (k0_t2_loop i).trips) : Fin 2 → Nat :=
  let arg1 : BitVec 32 := BitVec.ofNat 32 (i 1).val
  let c1_i32 : BitVec 32 := 1#32
  let v133 : BitVec 32 := Scalar.addi arg1 c1_i32
  let c16_i32 : BitVec 32 := 16#32
  let v134 : BitVec 32 := Scalar.subi c16_i32 v133
  let c1_i32_77 : BitVec 32 := 1#32
  let v136 : BitVec 32 := Scalar.divsi v134 c1_i32_77
  let v137 : BitVec 32 := Scalar.muli v136 c1_i32_77
  let v138 : BitVec 32 := Scalar.addi v133 v137
  let c1_i32_79 : BitVec 32 := 1#32
  let arg16 : BitVec 32 := Scf.iv v138 c1_i32_79 k0_t2
  let c512_i32_88 : BitVec 32 := 512#32
  let v143 : BitVec 32 := Scalar.muli arg16 c512_i32_88
  let v144 : BitVec 32 := v143
  let v200 : Index := Scalar.indexCast v144
  let c256_119 : Index := 256#32
  ![v200.toNat, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x16x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8192x8x256 : Shape := ⟨3, ![8192, 8, 256]⟩
abbrev S8192x2048 : Shape := ⟨2, ![8192, 2048]⟩
abbrev S16x512x2048 : Shape := ⟨3, ![16, 512, 2048]⟩
abbrev S16x2048x512 : Shape := ⟨3, ![16, 2048, 512]⟩
abbrev S8192x1024 : Shape := ⟨2, ![8192, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8192x8x192, .bf16⟩
  | .hbm, ⟨1, _⟩ => ⟨S8192x8x192, .bf16⟩
  | .hbm, ⟨2, _⟩ => ⟨S8192x8x128, .bf16⟩
  | .hbm, ⟨3, _⟩ => ⟨S8192x8x128, .bf16⟩
  | .hbm, ⟨4, _⟩ => ⟨S8192x8x192, .f32⟩
  | .hbm, ⟨5, _⟩ => ⟨S8192x8x192, .f32⟩
  | .hbm, ⟨6, _⟩ => ⟨S8192x8x128, .f32⟩
  | .hbm, ⟨7, _⟩ => ⟨S8192x8x128, .f32⟩
  | .hbm, ⟨8, _⟩ => ⟨S8x8192x8192, .f32⟩
  | .hbm, ⟨9, _⟩ => ⟨S8x8192x8192, .bf16⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .i1⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S8x8192, .i1⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x1, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x8192x8192, .bf16⟩
  | .hbm, ⟨66, _⟩ => ⟨S8x8192x8192, .f32⟩
  | .hbm, ⟨67, _⟩ => ⟨S8x128x8192, .f32⟩
  | .hbm, ⟨68, _⟩ => ⟨S8192x8x128, .f32⟩
  | .hbm, ⟨69, _⟩ => ⟨S8192x8x128, .bf16⟩
  | .hbm, ⟨70, _⟩ => ⟨S8192x8x128, .f32⟩
  | .hbm, ⟨71, _⟩ => ⟨S8192x8x128, .bf16⟩
  | .hbm, ⟨72, _⟩ => ⟨S8192x8x128, .f32⟩
  | .hbm, ⟨73, _⟩ => ⟨S8x128x8192, .f32⟩
  | .hbm, ⟨74, _⟩ => ⟨S8x8192x8192, .f32⟩
  | .hbm, ⟨75, _⟩ => ⟨S8x128x8192, .f32⟩
  | .hbm, ⟨76, _⟩ => ⟨S8192x8x128, .f32⟩
  | .hbm, ⟨77, _⟩ => ⟨S8x8192x8192, .bf16⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x1, .f32⟩
  | .hbm, ⟨85, _⟩ => ⟨S8x8192x1, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S8x8192x8192, .f32⟩
  | .hbm, ⟨98, _⟩ => ⟨S8x8192x8192, .f32⟩
  | .hbm, ⟨99, _⟩ => ⟨S8x8192x8192, .bf16⟩
  | .hbm, ⟨100, _⟩ => ⟨S8x8192x8192, .f32⟩
  | .hbm, ⟨101, _⟩ => ⟨S8x8192x192, .f32⟩
  | .hbm, ⟨102, _⟩ => ⟨S8192x8x192, .f32⟩
  | .hbm, ⟨103, _⟩ => ⟨S8x8192x192, .f32⟩
  | .hbm, ⟨104, _⟩ => ⟨S8192x8x192, .f32⟩
  | .hbm, ⟨105, _⟩ => ⟨S_, .f32⟩
  | .hbm, ⟨106, _⟩ => ⟨S8192x8x192, .f32⟩
  | .hbm, ⟨107, _⟩ => ⟨S8192x8x192, .f32⟩
  | .hbm, ⟨108, _⟩ => ⟨S_, .i32⟩
  | .hbm, ⟨109, _⟩ => ⟨S_, .f32⟩
  | .hbm, ⟨110, _⟩ => ⟨S8192x8x256, .f32⟩
  | .hbm, ⟨111, _⟩ => ⟨S8192x2048, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S8192x8x192, .f32⟩
  | .hbm, ⟨116, _⟩ => ⟨S8192x8x192, .f32⟩
  | .hbm, ⟨117, _⟩ => ⟨S_, .i32⟩
  | .hbm, ⟨118, _⟩ => ⟨S_, .f32⟩
  | .hbm, ⟨119, _⟩ => ⟨S8192x8x256, .f32⟩
  | .hbm, ⟨120, _⟩ => ⟨S8192x2048, .f32⟩
  | .hbm, ⟨121, _⟩ => ⟨S16x512x2048, .f32⟩
  | .hbm, ⟨122, _⟩ => ⟨S16x2048x512, .f32⟩
  | .hbm, ⟨123, _⟩ => ⟨S8192x1024, .f32⟩
  | _, _ => ⟨S8192x8x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_c : Ref sig .tc := ⟨.hbm, 108, rfl⟩
abbrev main_call2_v0 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_16 : Ref sig .tc := ⟨.hbm, 117, rfl⟩
abbrev main_call3_v0 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x2048, .f32⟩
  | .hbm, ⟨5, _⟩ => ⟨S5632x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | .hbm, ⟨22, _⟩ => ⟨S8192x5632, .f32⟩
  | .hbm, ⟨23, _⟩ => ⟨S8192x5632, .f32⟩
  | .hbm, ⟨24, _⟩ => ⟨S8192x5632, .bf16⟩
  | .hbm, ⟨25, _⟩ => ⟨S8192x5632, .f32⟩
  | .hbm, ⟨26, _⟩ => ⟨S8192x2048, .f32⟩
  | .hbm, ⟨27, _⟩ => ⟨S8192x5632, .f32⟩
  | .hbm, ⟨28, _⟩ => ⟨S8192x5632, .bf16⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .bf16⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .bf16⟩
  | .hbm, ⟨39, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S8192x5632 : Shape := ⟨2, ![8192, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S8192x5632, .f32⟩
  | .hbm, ⟨4, _⟩ => ⟨S_, .f32⟩
  | .hbm, ⟨5, _⟩ => ⟨S2048x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x5632 : Shape := ⟨2, ![8192, 5632]⟩
abbrev S4x2048x1408 : Shape := ⟨3, ![4, 2048, 1408]⟩
abbrev S8192x2048 : Shape := ⟨2, ![8192, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x5632, .bf16⟩
  | .hbm, ⟨3, _⟩ => ⟨S4x2048x1408, .bf16⟩
  | .hbm, ⟨4, _⟩ => ⟨S8192x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S8192x5632 : Shape := ⟨2, ![8192, 5632]⟩
abbrev S4x2048x1408 : Shape := ⟨3, ![4, 2048, 1408]⟩
abbrev S_ : Shape := ⟨0, ![]⟩
abbrev S8192x2048 : Shape := ⟨2, ![8192, 2048]⟩
abbrev S2048x4x1408 : Shape := ⟨3, ![2048, 4, 1408]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x5632, .bf16⟩
  | .hbm, ⟨3, _⟩ => ⟨S4x2048x1408, .bf16⟩
  | .hbm, ⟨4, _⟩ => ⟨S8192x5632, .f32⟩
  | .hbm, ⟨5, _⟩ => ⟨S4x2048x1408, .f32⟩
  | .hbm, ⟨6, _⟩ => ⟨S8192x5632, .f32⟩
  | .hbm, ⟨7, _⟩ => ⟨S4x2048x1408, .f32⟩
  | .hbm, ⟨8, _⟩ => ⟨S_, .f32⟩
  | .hbm, ⟨9, _⟩ => ⟨S8192x2048, .f32⟩
  | .hbm, ⟨10, _⟩ => ⟨S2048x4x1408, .f32⟩
  | .hbm, ⟨11, _⟩ => ⟨S2048x5632, .f32⟩
  | .hbm, ⟨12, _⟩ => ⟨S8192x5632, .f32⟩
  | .hbm, ⟨13, _⟩ => ⟨S2048x4x1408, .f32⟩
  | .hbm, ⟨14, _⟩ => ⟨S2048x5632, .f32⟩
  | .hbm, ⟨15, _⟩ => ⟨S8192x5632, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S8192x2048 : Shape := ⟨2, ![8192, 2048]⟩
abbrev S4x2048x1408 : Shape := ⟨3, ![4, 2048, 1408]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .f32⟩
  | .local _ .vmem, ⟨13, _⟩ => ⟨S512x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 1], ![false, false, false]⟩

def k0_cond2 (i : grid0.Coords) : BitVec 1 :=
  let arg2 : BitVec 32 := BitVec.ofNat 32 (i 2).val
  let c0_i32_17 : BitVec 32 := 0#32
  let v20 : BitVec 1 := Scalar.cmpi .eq arg2 c0_i32_17
  let v21 : BitVec 32 := Scalar.extui v20
  let c0_i32_18 : BitVec 32 := 0#32
  let v22 : BitVec 1 := Scalar.cmpi .ne v21 c0_i32_18
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S8192x2048 : Shape := ⟨2, ![8192, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S8192x5632 : Shape := ⟨2, ![8192, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x2048, .f32⟩
  | .hbm, ⟨4, _⟩ => ⟨S4x2048x1408, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S8192x5632, .f32⟩
  | .hbm, ⟨9, _⟩ => ⟨S8192x5632, .bf16⟩
  | .hbm, ⟨10, _⟩ => ⟨S8192x5632, .f32⟩
  | .hbm, ⟨11, _⟩ => ⟨S2048x4x1408, .f32⟩
  | .hbm, ⟨12, _⟩ => ⟨S2048x5632, .f32⟩
  | .hbm, ⟨13, _⟩ => ⟨S8192x5632, .f32⟩
  | .hbm, ⟨14, _⟩ => ⟨S8192x5632, .bf16⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S_, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .bf16⟩
  | .hbm, ⟨26, _⟩ => ⟨S8192x5632, .f32⟩
  | .hbm, ⟨27, _⟩ => ⟨S8192x5632, .f32⟩
  | .hbm, ⟨28, _⟩ => ⟨S8192x5632, .bf16⟩
  | .hbm, ⟨29, _⟩ => ⟨S8192x5632, .bf16⟩
  | .hbm, ⟨30, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel7.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x2048 : Shape := ⟨2, ![8192, 2048]⟩
abbrev S2048x5376 : Shape := ⟨2, ![2048, 5376]⟩
abbrev S8192x5376 : Shape := ⟨2, ![8192, 5376]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5376, .bf16⟩
  | .hbm, ⟨2, _⟩ => ⟨S8192x5376, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x5376 : Shape := ⟨2, ![2048, 5376]⟩
abbrev S8192x5376 : Shape := ⟨2, ![8192, 5376]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5376, .bf16⟩
  | .hbm, ⟨2, _⟩ => ⟨S8192x2048, .f32⟩
  | .hbm, ⟨3, _⟩ => ⟨S2048x5376, .f32⟩
  | .hbm, ⟨4, _⟩ => ⟨S8192x5376, .f32⟩
  | .hbm, ⟨5, _⟩ => ⟨S8192x5376, .bf16⟩
  | .hbm, ⟨6, _⟩ => ⟨S8192x5376, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S8192x5376 : Shape := ⟨2, ![8192, 5376]⟩
abbrev S2048x5376 : Shape := ⟨2, ![2048, 5376]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5376, .bf16⟩
  | .hbm, ⟨2, _⟩ => ⟨S2048x5376, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x5376 : Shape := ⟨2, ![8192, 5376]⟩
abbrev S_ : Shape := ⟨0, ![]⟩
abbrev S2048x5376 : Shape := ⟨2, ![2048, 5376]⟩
abbrev S5376x2048 : Shape := ⟨2, ![5376, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5376, .bf16⟩
  | .hbm, ⟨2, _⟩ => ⟨S8192x2048, .f32⟩
  | .hbm, ⟨3, _⟩ => ⟨S8192x5376, .f32⟩
  | .hbm, ⟨4, _⟩ => ⟨S_, .f32⟩
  | .hbm, ⟨5, _⟩ => ⟨S2048x5376, .f32⟩
  | .hbm, ⟨6, _⟩ => ⟨S8192x5376, .f32⟩
  | .hbm, ⟨7, _⟩ => ⟨S5376x2048, .f32⟩
  | .hbm, ⟨8, _⟩ => ⟨S2048x5376, .f32⟩
  | .hbm, ⟨9, _⟩ => ⟨S2048x5376, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x5376 : Shape := ⟨2, ![8192, 5376]⟩
abbrev S2048x5376 : Shape := ⟨2, ![2048, 5376]⟩
abbrev S8192x2048 : Shape := ⟨2, ![8192, 2048]⟩
abbrev S1024x1792 : Shape := ⟨2, ![1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5376, .bf16⟩
  | .hbm, ⟨1, _⟩ => ⟨S2048x5376, .bf16⟩
  | .hbm, ⟨2, _⟩ => ⟨S8192x2048, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x5376 : Shape := ⟨2, ![8192, 5376]⟩
abbrev S2048x5376 : Shape := ⟨2, ![2048, 5376]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S2048x5376, .bf16⟩
  | .hbm, ⟨2, _⟩ => ⟨S8192x5376, .f32⟩
  | .hbm, ⟨3, _⟩ => ⟨S2048x5376, .f32⟩
  | .hbm, ⟨4, _⟩ => ⟨S_, .f32⟩
  | .hbm, ⟨5, _⟩ => ⟨S8192x2048, .f32⟩
  | .hbm, ⟨6, _⟩ => ⟨S8192x5376, .f32⟩
  | .hbm, ⟨7, _⟩ => ⟨S8192x2048, .f32⟩
  | .hbm, ⟨8, _⟩ => ⟨S8192x2048, .bf16⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Attention.lean ====
/-
  Causal attention over the reals, and the gradients of its queries, keys and values: the functions both programs compute.
-/
module

public import Mathlib.Analysis.SpecialFunctions.Pow.Real
public import Mathlib.Analysis.SpecialFunctions.Log.Basic
public import Mathlib.Data.EReal.Operations
public import Idealize.ShloMosaic.PureOps.Ideal

@[expose] public section

noncomputable section

namespace Cert.Attention

open Idealize.ShloMosaic

/-- Queries and keys: a row of 192 numbers for each position and head. -/
abbrev Wide := Fin 8192 → Fin 8 → Fin 192 → ℝ
/-- Values and incoming gradients: a row of 128 numbers. -/
abbrev Slim := Fin 8192 → Fin 8 → Fin 128 → ℝ

variable (c : ℝ) (Q K : Wide) (V G : Slim)

/-- The score of key `j` for query `i`. -/
def score (h : Fin 8) (i j : Fin 8192) : ℝ := (∑ d, Q i h d * K j h d) * c
/-- The sum over the keys up to the query of the exponentials of the scores. -/
def denom (h : Fin 8) (i : Fin 8192) : ℝ := ∑ j, if j ≤ i then Real.exp (score c Q K h i j) else 0
/-- The probability of key `j` for query `i`. -/
def prob (h : Fin 8) (i j : Fin 8192) : ℝ := if j ≤ i then Real.exp (score c Q K h i j) / denom c Q K h i else 0
/-- The output. -/
def out (h : Fin 8) (i : Fin 8192) (d : Fin 128) : ℝ := ∑ j, V j h d * prob c Q K h i j
/-- The gradient of a probability. -/
def dprob (h : Fin 8) (i j : Fin 8192) : ℝ := ∑ d, G i h d * V j h d
/-- The output times its gradient, summed. -/
def del (h : Fin 8) (i : Fin 8192) : ℝ := ∑ d, G i h d * out c Q K V h i d
/-- The gradient of a score. -/
def dscore (h : Fin 8) (i j : Fin 8192) : ℝ := prob c Q K h i j * (dprob V G h i j - del c Q K V G h i)

/-- 192 lanes padded to 256 by zeros. -/
def padRow (X : Wide) (i : Fin 8192) (h : Fin 8) (y : Fin 256) : ℝ := if p : y.val < 192 then X i h ⟨y.val, p⟩ else 0
/-- The queries scaled for exponentials to base two. -/
def base2 : Wide := fun i h d => Q i h d * c * (1 / Real.log 2)

/-- The three gradients, in the call's own scaling: that of the queries without the factor of the scores, that of the keys
    against the scaled queries. -/
def gradQ (h : Fin 8) (i : Fin 8192) (y : Fin 256) : ℝ := ∑ j, padRow K j h y * dscore c Q K V G h i j
def gradK (h : Fin 8) (j : Fin 8192) (y : Fin 256) : ℝ := ∑ i, dscore c Q K V G h i j * padRow (base2 c Q) i h y
def gradV (h : Fin 8) (j : Fin 8192) (d : Fin 128) : ℝ := ∑ i, prob c Q K h i j * G i h d

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type} [Fintype ι] {f : ι → EReal} (g : ι → ℝ) (h : ∀ i, f i = (g i : EReal)) :
    ∑ i, f i = ((∑ i, g i : ℝ) : EReal) := by
  rw [coe_sum]; exact Finset.sum_congr rfl fun i _ => h i

/-- The greatest of finitely many scores, not all -∞ and none +∞, is a real number. -/
theorem fold_max_real {ι : Type} [Fintype ι] (f : ι → EReal) (hf : ∀ j, f j ≠ ⊤) (j0 : ι) (h0 : f j0 ≠ ⊥) :
    ∃ M : ℝ, (Finset.univ : Finset ι).fold max ⊥ f = (M : EReal) := by
  have e : (Finset.univ : Finset ι).fold max ⊥ f = Finset.univ.sup f := rfl
  rw [e]
  have t : Finset.univ.sup f ≠ ⊤ := by
    apply ne_of_lt
    rw [Finset.sup_lt_iff bot_lt_top]
    exact fun j _ => lt_top_iff_ne_top.mpr (hf j)
  have b : Finset.univ.sup f ≠ ⊥ := by
    intro hb
    have hle : f j0 ≤ Finset.univ.sup f := Finset.le_sup (Finset.mem_univ j0)
    rw [hb] at hle
    exact h0 (le_bot_iff.mp hle)
  exact ⟨(Finset.univ.sup f).toReal, (EReal.coe_toReal t b).symm⟩

theorem denom_pos (h : Fin 8) (i : Fin 8192) : 0 < denom c Q K h i := by
  unfold denom
  apply Finset.sum_pos'
  · intro j _; split
    · exact (Real.exp_pos _).le
    · exact le_refl _
  · exact ⟨i, Finset.mem_univ i, by simp [Real.exp_pos]⟩

/-- The exponentials taken relative to any number `M`. -/
theorem shifted_sum (M : ℝ) (h : Fin 8) (i : Fin 8192) :
    (∑ j, if j ≤ i then Real.exp (score c Q K h i j - M) else 0) = denom c Q K h i * Real.exp (-M) := by
  unfold denom
  rw [Finset.sum_mul]
  refine Finset.sum_congr rfl fun j _ => ?_
  split
  · rw [sub_eq_add_neg, Real.exp_add]
  · rw [zero_mul]

theorem shifted_pos (M : ℝ) (h : Fin 8) (i : Fin 8192) : 0 < denom c Q K h i * Real.exp (-M) :=
  mul_pos (denom_pos c Q K h i) (Real.exp_pos _)

theorem shifted_prob (M : ℝ) (h : Fin 8) (i j : Fin 8192) :
    (if j ≤ i then Real.exp (score c Q K h i j - M) else 0) / (denom c Q K h i * Real.exp (-M)) = prob c Q K h i j := by
  unfold prob
  split
  · rw [sub_eq_add_neg, Real.exp_add, mul_div_mul_right _ _ (Real.exp_pos _).ne']
  · rw [zero_div]

theorem shifted_log (M : ℝ) (h : Fin 8) (i : Fin 8192) :
    M + Real.log (denom c Q K h i * Real.exp (-M)) = Real.log (denom c Q K h i) := by
  rw [Real.log_mul (denom_pos c Q K h i).ne' (Real.exp_pos _).ne', Real.log_exp]; ring

/-- A product of padded rows is the product of the rows. -/
theorem pad_sum (X Y : Wide) (i j : Fin 8192) (h : Fin 8) :
    ∑ y, padRow X i h y * padRow Y j h y = ∑ d, X i h d * Y j h d := by
  have e : ∑ y : Fin (192 + 64), padRow X i h y * padRow Y j h y = ∑ d, X i h d * Y j h d := by
    rw [Fin.sum_univ_add]
    have z : ∑ y : Fin 64, padRow X i h (Fin.natAdd 192 y) * padRow Y j h (Fin.natAdd 192 y) = 0 := by
      refine Finset.sum_eq_zero fun y _ => ?_
      unfold padRow
      rw [dif_neg (by simp [Fin.natAdd])]; simp
    rw [z, add_zero]
    refine Finset.sum_congr rfl fun d _ => ?_
    unfold padRow
    rw [dif_pos (by simp [Fin.castAdd]), dif_pos (by simp [Fin.castAdd])]
    rfl
  exact e

theorem log2_pos : 0 < Real.log 2 := Real.log_pos (by norm_num)

/-- The call's probability: two to the scaled product less the logarithm of the sum. -/
theorem base2_prob (h : Fin 8) (i j : Fin 8192) (hj : j ≤ i) :
    Real.rpow 2 ((∑ y, padRow K j h y * padRow (base2 c Q) i h y) - Real.log (denom c Q K h i) * (1 / Real.log 2)) = prob c Q K h i j := by
  rw [pad_sum]
  have s : ∑ d, K j h d * base2 c Q i h d = score c Q K h i j * (1 / Real.log 2) := by
    unfold base2 score
    rw [Finset.sum_mul, Finset.sum_mul]
    exact Finset.sum_congr rfl fun d _ => by ring
  rw [s, ← sub_mul, Real.rpow_eq_pow, Real.rpow_def_of_pos (by norm_num), prob, if_pos hj,
    show Real.log 2 * ((score c Q K h i j - Real.log (denom c Q K h i)) * (1 / Real.log 2))
      = score c Q K h i j - Real.log (denom c Q K h i) by field_simp [log2_pos.ne'],
    Real.exp_sub, Real.exp_log (denom_pos c Q K h i)]

theorem dscore_later (h : Fin 8) (i j : Fin 8192) (hj : ¬ j ≤ i) : dscore c Q K V G h i j = 0 := by
  unfold dscore prob; rw [if_neg hj, zero_mul]

/-- The position of row `b` in block `a`. -/
def at512 (a : Fin 16) (b : Fin 512) : Fin 8192 := ⟨512 * a.val + b.val, by omega⟩

/-- A sum over positions, block by block. -/
theorem sum_blocks (f : Fin 8192 → ℝ) : ∑ i, f i = ∑ a : Fin 16, ∑ b : Fin 512, f (at512 a b) := by
  rw [← Fintype.sum_prod_type']
  refine (Fintype.sum_equiv (finProdFinEquiv (m := 16) (n := 512)) _ f fun x => ?_).symm
  refine congrArg f (Fin.ext ?_)
  show 512 * x.1.val + x.2.val = x.2.val + 512 * x.1.val
  omega

end Cert.Attention

end
-- ==== Proof.RefRead.lean ====
/-
  The reference's values at an index, each from the ones before it.
-/
module

public import proofs.«01_k».proof.Proof.Gen.ReferenceIdeal.Read
public import proofs.«01_k».proof.Proof.Attention
public import Idealize.ShloMosaic.Lib.Pointwise

@[expose] public section

set_option maxHeartbeats 4000000
set_option maxRecDepth 100000

noncomputable section

namespace Cert.ReferenceIdeal.Flash

open Cert.ReferenceIdeal Cert.ReferenceIdeal.Gen Cert.ReferenceIdeal.Read Idealize.ShloMosaic Idealize.ShloMosaic.TcCoe

abbrev Wide := (⟨S8192x8x192, .bf16⟩ : BufTy).Contents (Elt Ideal)
abbrev Slim := (⟨S8192x8x128, .bf16⟩ : BufTy).Contents (Elt Ideal)

variable (x0 x1 : Wide) (x2 x3 : Slim) (h : Fin 8) (i j : Fin 8192)

theorem mask_at : val_main_v15_1 (F := Ideal) (ix3 h i j) =
    IntOp.cmpi CmpIPredicate.sle (BitVec.ofNat 32 j.val) (BitVec.ofNat 32 i.val) := by
  pointwise [val_main_v15_1, val_main_v14, val_main_v13, val_main_v12, val_main_v11, val_main_v10, val_main_v9]
theorem scores_at : val_main_v15_0 (F := Ideal) x0 x1 (ix3 h i j) =
    Scalar.select (IntOp.cmpi CmpIPredicate.sle (BitVec.ofNat 32 j.val) (BitVec.ofNat 32 i.val))
      ((∑ x, x0 (ix3 i h x) * x1 (ix3 j h x)) * Ideal.ofBits FTy.f32 0x3D93CD3A#32) (Ideal.ofBits FTy.f32 0xFF800000#32) := by
  rw [← mask_at h i j]
  pointwise [val_main_v15_0, val_main_v8, val_main_v7, val_main_v6, val_main_v5, val_main_v4, val_main_v1, val_main_v0, val_main_cst,
    val_main_call0_v2, val_main_call0_v0, val_main_cst_0, dot_S8192x8x192_S8192x8x192_S8x8192x8192_2_2_0_0_1_1]
  rfl
theorem best_at : val_main_v16 (F := Ideal) x0 x1 (ix2 h i) =
    Finset.fold max (Ideal.ofBits FTy.f32 0xFF800000#32) (fun x => val_main_v15_0 (F := Ideal) x0 x1 (ix3 h i x)) Finset.univ := by
  pointwise [val_main_v16, val_main_cst_1]
theorem bound_at : val_main_v23 (F := Ideal) x0 x1 (ix2 h i) =
    max (Ideal.ofBits FTy.f32 0xFF800000#32) (val_main_v16 (F := Ideal) x0 x1 (ix2 h i)) := by
  rw [val_main_v23_apply, val_main_v22_apply, val_main_cst_3_apply]
  rfl
theorem weights_at : val_main_v36 (F := Ideal) x0 x1 (ix3 h i j) =
    Ideal.exp (val_main_v15_0 (F := Ideal) x0 x1 (ix3 h i j) - val_main_v23 (F := Ideal) x0 x1 (ix2 h i)) := by
  pointwise [val_main_v36, val_main_v35, val_main_v34, val_main_v33]
theorem total_at : val_main_v37 (F := Ideal) x0 x1 (ix2 h i) = ∑ x, val_main_v36 (F := Ideal) x0 x1 (ix3 h i x) := by
  pointwise [val_main_v37, val_main_cst_9]
theorem prob_at : val_main_v45 (F := Ideal) x0 x1 (ix3 h i j) =
    Ideal.div (val_main_v36 (F := Ideal) x0 x1 (ix3 h i j)) (val_main_v37 (F := Ideal) x0 x1 (ix2 h i)) := by
  pointwise [val_main_v45, val_main_v44, val_main_v40, val_main_v39, val_main_v38]
theorem inv_at : val_main_v43 (F := Ideal) x0 x1 (ix3 h i 0) =
    Ideal.div 1 (val_main_v37 (F := Ideal) x0 x1 (ix2 h i) * val_main_v37 (F := Ideal) x0 x1 (ix2 h i)) := by
  pointwise [val_main_v43, val_main_v42, val_main_v41, val_main_v38, val_main_cst_10]
theorem dprob_at : val_main_v57 (F := Ideal) x2 x3 (ix3 h i j) = ∑ d, x3 (ix3 i h d) * x2 (ix3 j h d) := by
  pointwise [val_main_v57, val_main_v56, val_main_v53, val_main_v52, val_main_v51, val_main_v50, val_main_v3, val_main_v2, dot_S8x128x8192_S8192x8x128_S8x8192x8192_1_2_2_0_0_1]
theorem part_at : val_main_v60 (F := Ideal) x0 x1 x2 x3 (ix3 h i j) =
    val_main_v57 (F := Ideal) x2 x3 (ix3 h i j) * val_main_v43 (F := Ideal) x0 x1 (ix3 h i 0) * val_main_v36 (F := Ideal) x0 x1 (ix3 h i j) := by
  pointwise [val_main_v60, val_main_v59, val_main_v58]
theorem parts_at : val_main_v61 (F := Ideal) x0 x1 x2 x3 (ix2 h i) = ∑ x, val_main_v60 (F := Ideal) x0 x1 x2 x3 (ix3 h i x) := by
  pointwise [val_main_v61, val_main_cst_11]
theorem neg_at : val_main_v67 (F := Ideal) x0 x1 x2 x3 (ix3 h i j) = - val_main_v61 (F := Ideal) x0 x1 x2 x3 (ix2 h i) := by
  pointwise [val_main_v67, val_main_v66, val_main_v63, val_main_v62, val_main_cst_12]
  exact Fintype.sum_unique _
theorem dscore_at : val_main_v74 (F := Ideal) x0 x1 x2 x3 (ix3 h i j) =
    Scalar.select (IntOp.cmpi CmpIPredicate.sle (BitVec.ofNat 32 j.val) (BitVec.ofNat 32 i.val))
      ((Ideal.div (val_main_v57 (F := Ideal) x2 x3 (ix3 h i j)) (val_main_v37 (F := Ideal) x0 x1 (ix2 h i))
        + val_main_v67 (F := Ideal) x0 x1 x2 x3 (ix3 h i j)) * val_main_v36 (F := Ideal) x0 x1 (ix3 h i j)) 0
      * Ideal.ofBits FTy.f32 0x3D93CD3A#32 := by
  rw [← mask_at h i j]
  pointwise [val_main_v74, val_main_v73, val_main_v72, val_main_v71, val_main_v70, val_main_v69, val_main_v68, val_main_v65, val_main_v64, val_main_v38,
    val_main_call1_v0, val_main_call1_cst, val_main_cst_13]
theorem dk_at (d : Fin 192) : val_main_v76 (F := Ideal) x0 x1 x2 x3 (ix3 j h d) =
    ∑ i, val_main_v74 (F := Ideal) x0 x1 x2 x3 (ix3 h i j) * x0 (ix3 i h d) := by
  pointwise [val_main_v76, val_main_v75, val_main_v0, dot_S8x8192x8192_S8192x8x192_S8x8192x192_1_0_2_2_0_1]
theorem dq_at (d : Fin 192) : val_main_v78 (F := Ideal) x0 x1 x2 x3 (ix3 i h d) =
    ∑ j, val_main_v74 (F := Ideal) x0 x1 x2 x3 (ix3 h i j) * x1 (ix3 j h d) := by
  pointwise [val_main_v78, val_main_v77, val_main_v1, dot_S8x8192x8192_S8192x8x192_S8x8192x192_2_0_1_2_0_1]
theorem dv_at (d : Fin 128) : val_main_v55 (F := Ideal) x0 x1 x3 (ix3 j h d) =
    ∑ i, x3 (ix3 i h d) * val_main_v45 (F := Ideal) x0 x1 (ix3 h i j) := by
  pointwise [val_main_v55, val_main_v54, val_main_v52, val_main_v51, val_main_v50, val_main_v3, dot_S8x128x8192_S8x8192x8192_S8x128x8192_2_1_1_2_0_0]

/-- The integer zero the padding is converted from. -/
theorem zero_word (k : S_.Idx) : sitofp (F := Ideal) .f32 (constantI S_ 32 0#32) k = 0 := by
  show (((0#32 : BitVec 32).toInt : ℝ) : EReal) = 0
  simp

theorem outQ_at (a : Fin 16) (y : Fin 2048) (b : Fin 512) : val_main_v90 (F := Ideal) x0 x1 x2 x3 (ix3 a y b) =
    if p : y.val % 256 < 192 then Ideal.div (val_main_v78 (F := Ideal) x0 x1 x2 x3
      (ix3 (Attention.at512 a b) ⟨y.val / 256, by omega⟩ ⟨y.val % 256, p⟩)) (Ideal.ofBits FTy.f32 0x3D93CD3A#32) else 0 := by
  pointwise [val_main_v90, val_main_v89, val_main_v82, val_main_v81, val_main_v80, val_main_v79]
  have ha := a.isLt
  have hb := b.isLt
  by_cases p : y.val % 256 < 192
  · rw [dif_pos ⟨by omega, by omega, p⟩, dif_pos p]
    exact congrArg₂ Ideal.div (congrArg (fun r => val_main_v78 (F := Ideal) x0 x1 x2 x3 (ix3 r _ _))
      (Fin.ext (by show a.val * 512 + b.val = 512 * a.val + b.val; omega))) rfl
  · rw [dif_neg (fun q => p q.2.2), dif_neg p]
    exact zero_word _
theorem outK_at (y : Fin 2048) : val_main_v88 (F := Ideal) x0 x1 x2 x3 (ix2 j y) =
    if p : y.val % 256 < 192 then Ideal.div (val_main_v76 (F := Ideal) x0 x1 x2 x3
      (ix3 j ⟨y.val / 256, by omega⟩ ⟨y.val % 256, p⟩)) (Ideal.log (Ideal.ofBits FTy.f32 0x40000000#32)) else 0 := by
  pointwise [val_main_v88, val_main_v87, val_main_v86, val_main_v85, val_main_v84, val_main_v83]
  by_cases p : y.val % 256 < 192
  · rw [dif_pos ⟨by omega, p⟩, dif_pos p]
    rfl
  · rw [dif_neg (fun q => p q.2), dif_neg p]
    exact zero_word _
theorem outV_at (y : Fin 1024) : val_main_v91 (F := Ideal) x0 x1 x3 (ix2 j y) =
    val_main_v55 (F := Ideal) x0 x1 x3 (ix3 j ⟨y.val / 128, by omega⟩ ⟨y.val % 128, by omega⟩) := by
  pointwise [val_main_v91]

end Cert.ReferenceIdeal.Flash

end
-- ==== Proof.RunFirst.lean ====
/-
  The body at the first key block of a group of heads, which clears the query gradient.
-/
module

public import proofs.«01_k».proof.Proof.Gen.KernelIdeal.Frame
public import proofs.«01_k».proof.Proof.Gen.KernelIdeal.Loops
public import Idealize.ShloMosaic.Lib.WritesUnit
public import Idealize.ShloMosaic.Lib.WordCmp
public import Idealize.ShloMosaic.Lib.VecWindow
public import Idealize.ShloMosaic.Lib.Pointwise
public import Idealize.ShloMosaic.Lib.Pipeline.ValueKit.Tiles

@[expose] public section
set_option maxRecDepth 16384
noncomputable section
namespace Cert.KernelIdeal.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- The body at the first key block of a group of heads, which clears the query gradient. The contents left in the three output blocks, and the triple that leaves them there. -/
@[irreducible] def runFirst (c : Dev nD) (i : grid0.Coords) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole)
    (hc0 : (Scalar.cmpi .ne (Scalar.extui (Scalar.cmpi .eq (BitVec.ofNat 32 (i 1).val) 0#32)) 0#32) = 1#1)
    (x0 : Vec F S8192x512 .bf16) (x1 : Vec F S16x512x512 .bf16) (x2 : Vec F S8192x256 .bf16) (x3 : Vec F S16x256x512 .bf16) (x4 : Vec F S2x16x8x512 .f32) (x5 : Vec F S2x16x8x512 .f32) (x6 : Vec F S512x512 .bf16) (x7 : Vec F S1x512x512 .bf16) (x8 : Vec F S512x256 .bf16) :
    Σ' (f11 : BufTy.Contents (Elt F) arg11.view.ty) (g12 : FVec F S512x512 .f32), { g13 : FVec F S512x256 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} f11) ∗ owns (c : Thread nD τ) arg12 fullShare g12 ∗ owns (c : Thread nD τ) arg13 fullShare g13 ∗ (∃ d, owns (c : Thread nD τ) arg14 fullShare d) ∗ (∃ d, owns (c : Thread nD τ) arg15 fullShare d)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_mla_bwd_eq_skeleton]; unfold cc0_mla_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [H10]
    · iexists _; isplitr; swap; · iexact H10
      ipureintro; exact View.read_writes_full _ _ _ _ _
    isplitl [H11]
    · iexists _; isplitr; swap; · iexact H11
      ipureintro; exact View.read_writes_full _ _ _ _ _
    isplitl [HS0]
    · iexists _, _; isplitr; swap; · iexact HS0
      ipureintro; rfl
    iexists _, _; isplitr; swap; · iexact HS1
    ipureintro; rfl

end Cert.KernelIdeal.Flash
-- ==== Proof.RunRest.lean ====
/-
  The body at a later key block, which adds to the query gradient that the blocks before left.
-/
module

public import proofs.«01_k».proof.Proof.Gen.KernelIdeal.Frame
public import proofs.«01_k».proof.Proof.Gen.KernelIdeal.Loops
public import Idealize.ShloMosaic.Lib.WritesUnit
public import Idealize.ShloMosaic.Lib.WordCmp
public import Idealize.ShloMosaic.Lib.VecWindow
public import Idealize.ShloMosaic.Lib.Pointwise
public import Idealize.ShloMosaic.Lib.Pipeline.ValueKit.Tiles

@[expose] public section
set_option maxRecDepth 16384
noncomputable section
namespace Cert.KernelIdeal.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- The body at a later key block, which adds to the query gradient that the blocks before left. The contents left in the three output blocks, and the triple that leaves them there. -/
@[irreducible] def runRest (c : Dev nD) (i : grid0.Coords) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole)
    (hc0 : ¬ ((Scalar.cmpi .ne (Scalar.extui (Scalar.cmpi .eq (BitVec.ofNat 32 (i 1).val) 0#32)) 0#32) = 1#1))
    (x0 : Vec F S8192x512 .bf16) (x1 : Vec F S16x512x512 .bf16) (x2 : Vec F S8192x256 .bf16) (x3 : Vec F S16x256x512 .bf16) (x4 : Vec F S2x16x8x512 .f32) (x5 : Vec F S2x16x8x512 .f32) (x6 : Vec F S512x512 .bf16) (x7 : Vec F S1x512x512 .bf16) (x8 : Vec F S512x256 .bf16) (x9 : Vec F S16x512x512 .f32) :
    Σ' (f11 : BufTy.Contents (Elt F) arg11.view.ty) (g12 : FVec F S512x512 .f32), { g13 : FVec F S512x256 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (arg11.view.loc (c : Thread nD τ) ↦[arg11.view.set]{fullShare} f11) ∗ owns (c : Thread nD τ) arg12 fullShare g12 ∗ owns (c : Thread nD τ) arg13 fullShare g13 ∗ (∃ d, owns (c : Thread nD τ) arg14 fullShare d) ∗ (∃ d, owns (c : Thread nD τ) arg15 fullShare d)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_mla_bwd_eq_skeleton]; unfold cc0_mla_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [H10]
    · iexists _; isplitr; swap; · iexact H10
      ipureintro; exact View.read_writes_full _ _ _ _ _
    isplitl [H11]
    · iexists _; isplitr; swap; · iexact H11
      ipureintro; exact View.read_writes_full _ _ _ _ _
    isplitl [HS0]
    · iexists _, _; isplitr; swap; · iexact HS0
      ipureintro; rfl
    iexists _, _; isplitr; swap; · iexact HS1
    ipureintro; rfl

end Cert.KernelIdeal.Flash
-- ==== Proof.Points.lean ====
/-
  The call's run over any float values, from what each point of its grid leaves in the three results' buffers.
-/
module

public import proofs.«01_k».proof.Defs
public import proofs.«01_k».proof.Proof.Gen.KernelIdeal.Frame
public import proofs.«01_k».proof.Proof.RunFirst
public import proofs.«01_k».proof.Proof.RunRest
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Claim

@[expose] public section
set_option maxRecDepth 16384
noncomputable section
namespace Cert.KernelIdeal.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The key block of a point is its number modulo 16. -/
theorem key_of (t : Fin cfg0.N) : (grid0.coords t 1).val = t.val % 16 := by
  have ht : t.val < 64 := Nat.lt_of_lt_of_eq t.isLt N_0
  have e1 : (grid0.coords t 1).val = t.val / 1 % 16 := Pipeline.Grid.coords_val t 1 (by decide) rfl
  omega

/-- The head group of a point is its number divided by 16. -/
theorem group_of (t : Fin cfg0.N) : (grid0.coords t 0).val = t.val / 16 := by
  have ht : t.val < 64 := Nat.lt_of_lt_of_eq t.isLt N_0
  have e0 : (grid0.coords t 0).val = t.val / 16 % 4 := Pipeline.Grid.coords_val t 0 (by decide) rfl
  omega

/-- The body's condition holds at the first key block of each head group. -/
theorem first_iff (t : Fin cfg0.N) :
    (Scalar.cmpi .ne (Scalar.extui (Scalar.cmpi .eq (BitVec.ofNat 32 (grid0.coords t 1).val) 0#32)) 0#32) = 1#1 ↔ t.val % 16 = 0 := by
  have ht : t.val < 64 := Nat.lt_of_lt_of_eq t.isLt N_0
  simp only [key_of t]
  word_cmp

/-- The point of head group `g` and key block `j`. -/
def pt (g : ℕ) (hg : g < 4) (j : Fin 16) : Fin cfg0.N := ⟨16 * g + j.val, Nat.lt_of_lt_of_eq (by omega : 16 * g + j.val < 64) (N_0).symm⟩

theorem group_lt (t : Fin cfg0.N) : t.val / 16 < 4 := by
  have ht : t.val < 64 := Nat.lt_of_lt_of_eq t.isLt N_0
  omega

abbrev ms0 (t : Fin cfg0.N) : Memref sig .tc .vmem S8192x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x256x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x16x8x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x16x8x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S16x512x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x256 .f32 := win0_11.stage (cfg0.slots t 11)
abbrev hs11 (t : Fin cfg0.N) : (ms11 t).IsWhole := hstage0_11 ((cfg0.slots t 11).cast nbuf0_11)

/-- The launch's invariant, the two accumulators as memrefs owned at some contents. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The body at a point of the first key block, on the buffers that the point has. -/
abbrev firstRun (c : Dev nD) (t : Fin cfg0.N) (h0 : t.val % 16 = 0) :=
  runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (Memref.whole cc0_scratch0) (Memref.isWhole_whole _) (Memref.whole cc0_scratch1) (Memref.isWhole_whole _) ((first_iff t).mpr h0) (iblk m c 0 t) (iblk m c 1 t) (iblk m c 2 t) (iblk m c 3 t) (iblk m c 4 t) (iblk m c 5 t) (iblk m c 6 t) (iblk m c 7 t) (iblk m c 8 t)
/-- The body at a point of a later key block, where the query gradient's buffer holds `x`. -/
abbrev restRun (c : Dev nD) (t : Fin cfg0.N) (h0 : t.val % 16 ≠ 0) (x : Vec F S16x512x512 .f32) :=
  runRest c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (Memref.whole cc0_scratch0) (Memref.isWhole_whole _) (Memref.whole cc0_scratch1) (Memref.isWhole_whole _) (fun h => h0 ((first_iff t).mp h)) (iblk m c 0 t) (iblk m c 1 t) (iblk m c 2 t) (iblk m c 3 t) (iblk m c 4 t) (iblk m c 5 t) (iblk m c 6 t) (iblk m c 7 t) (iblk m c 8 t) x

/-- Contents of the three results' buffers after each point, as the body leaves them. -/
structure Left where
  q : Dev nD → Fin cfg0.N → FVec F S16x512x512 .f32
  k : Dev nD → Fin cfg0.N → FVec F S512x512 .f32
  v : Dev nD → Fin cfg0.N → FVec F S512x256 .f32
  firstQ : ∀ c t h0, (ms9 t).view.read (Elt F) (firstRun m c t h0).1 = q c t
  firstK : ∀ c t h0, (firstRun m c t h0).2.1 = k c t
  firstV : ∀ c t h0, (firstRun m c t h0).2.2.1 = v c t
  restQ : ∀ (c : Dev nD) (t s : Fin cfg0.N) (h0 : t.val % 16 ≠ 0), s.val + 1 = t.val → (ms9 t).view.read (Elt F) (restRun m c t h0 (q c s)).1 = q c t
  restK : ∀ (c : Dev nD) (t s : Fin cfg0.N) (h0 : t.val % 16 ≠ 0), s.val + 1 = t.val → (restRun m c t h0 (q c s)).2.1 = k c t
  restV : ∀ (c : Dev nD) (t s : Fin cfg0.N) (h0 : t.val % 16 ≠ 0), s.val + 1 = t.val → (restRun m c t h0 (q c s)).2.2.1 = v c t

/-- The query gradient's buffer after point `n`, by the points before it. -/
def leftQ (c : Dev nD) : ℕ → FVec F S16x512x512 .f32
  | 0 => (ms9 (⟨0, by decide⟩ : Fin cfg0.N)).view.read (Elt F) (firstRun m c ⟨0, by decide⟩ rfl).1
  | n + 1 =>
    if h : n + 1 < cfg0.N then
      if h0 : (n + 1) % 16 = 0 then (ms9 (⟨n + 1, h⟩ : Fin cfg0.N)).view.read (Elt F) (firstRun m c ⟨n + 1, h⟩ h0).1
      else (ms9 (⟨n + 1, h⟩ : Fin cfg0.N)).view.read (Elt F) (restRun m c ⟨n + 1, h⟩ h0 (leftQ c n)).1
    else leftQ c n

theorem leftQ_first (c : Dev nD) (t : Fin cfg0.N) (h0 : t.val % 16 = 0) :
    leftQ m c t.val = (ms9 t).view.read (Elt F) (firstRun m c t h0).1 := by
  obtain ⟨n, h⟩ := t
  match n with
  | 0 => rfl
  | n + 1 => exact (dif_pos h).trans (dif_pos h0)

theorem leftQ_rest (c : Dev nD) (t s : Fin cfg0.N) (h0 : t.val % 16 ≠ 0) (hs : s.val + 1 = t.val) :
    leftQ m c t.val = (ms9 t).view.read (Elt F) (restRun m c t h0 (leftQ m c s.val)).1 := by
  obtain ⟨n, h⟩ := t
  obtain rfl : n = s.val + 1 := hs.symm
  exact (dif_pos h).trans (dif_neg h0)

/-- What the body leaves, by the points before. -/
def left : Left m where
  q c t := leftQ m c t.val
  k c t := if h0 : t.val % 16 = 0 then (firstRun m c t h0).2.1 else (restRun m c t h0 (leftQ m c (t.val - 1))).2.1
  v c t := if h0 : t.val % 16 = 0 then (firstRun m c t h0).2.2.1 else (restRun m c t h0 (leftQ m c (t.val - 1))).2.2.1
  firstQ c t h0 := (leftQ_first m c t h0).symm
  firstK c t h0 := by rw [dif_pos h0]
  firstV c t h0 := by rw [dif_pos h0]
  restQ c t s h0 hs := (leftQ_rest m c t s h0 hs).symm
  restK c t s h0 hs := by rw [dif_neg h0, show t.val - 1 = s.val by omega]
  restV c t s h0 hs := by rw [dif_neg h0, show t.val - 1 = s.val by omega]

variable (o : Left m)

/-- The proof data: the arrays as the host code leaves them, each input's buffer at its block after the body, and the three
    results' buffers. -/
def datsOf (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => o.q c t
    | ⟨10, _⟩ => o.k c t
    | ⟨11, _⟩ => o.v c t
  Φ _ := Pipeline.ΦA spec0 c
  q _ := fullShare
  owed _ := 0

theorem datsOf_A (c : Dev nD) (w : Fin cfg0.W) : (datsOf m o 0 c).A w = V m c (Pipeline.arrRef spec0 w) := by
  dsimp only [datsOf]

theorem datsOf_after_0 (c : Dev nD) (t : Fin cfg0.N) : (datsOf m o 0 c).after 0 t = iblk m c 0 t := by dsimp only [datsOf]
theorem datsOf_after_1 (c : Dev nD) (t : Fin cfg0.N) : (datsOf m o 0 c).after 1 t = iblk m c 1 t := by dsimp only [datsOf]
theorem datsOf_after_2 (c : Dev nD) (t : Fin cfg0.N) : (datsOf m o 0 c).after 2 t = iblk m c 2 t := by dsimp only [datsOf]
theorem datsOf_after_3 (c : Dev nD) (t : Fin cfg0.N) : (datsOf m o 0 c).after 3 t = iblk m c 3 t := by dsimp only [datsOf]
theorem datsOf_after_4 (c : Dev nD) (t : Fin cfg0.N) : (datsOf m o 0 c).after 4 t = iblk m c 4 t := by dsimp only [datsOf]
theorem datsOf_after_5 (c : Dev nD) (t : Fin cfg0.N) : (datsOf m o 0 c).after 5 t = iblk m c 5 t := by dsimp only [datsOf]
theorem datsOf_after_6 (c : Dev nD) (t : Fin cfg0.N) : (datsOf m o 0 c).after 6 t = iblk m c 6 t := by dsimp only [datsOf]
theorem datsOf_after_7 (c : Dev nD) (t : Fin cfg0.N) : (datsOf m o 0 c).after 7 t = iblk m c 7 t := by dsimp only [datsOf]
theorem datsOf_after_8 (c : Dev nD) (t : Fin cfg0.N) : (datsOf m o 0 c).after 8 t = iblk m c 8 t := by dsimp only [datsOf]
theorem datsOf_after_9 (c : Dev nD) (t : Fin cfg0.N) : (datsOf m o 0 c).after 9 t = o.q c t := by dsimp only [datsOf]
theorem datsOf_after_10 (c : Dev nD) (t : Fin cfg0.N) : (datsOf m o 0 c).after 10 t = o.k c t := by dsimp only [datsOf]
theorem datsOf_after_11 (c : Dev nD) (t : Fin cfg0.N) : (datsOf m o 0 c).after 11 t = o.v c t := by dsimp only [datsOf]
theorem datsOf_before_0 (c : Dev nD) (t : Fin cfg0.N) (d) : (datsOf m o 0 c).before 0 t d = iblk m c 0 t :=
  before0_0_of m (datsOf m o 0 c) (datsOf_A m o c 0) (datsOf_after_0 m o c) t d
theorem datsOf_before_1 (c : Dev nD) (t : Fin cfg0.N) (d) : (datsOf m o 0 c).before 1 t d = iblk m c 1 t :=
  before0_1_of m (datsOf m o 0 c) (datsOf_A m o c 1) (datsOf_after_1 m o c) t d
theorem datsOf_before_2 (c : Dev nD) (t : Fin cfg0.N) (d) : (datsOf m o 0 c).before 2 t d = iblk m c 2 t :=
  before0_2_of m (datsOf m o 0 c) (datsOf_A m o c 2) (datsOf_after_2 m o c) t d
theorem datsOf_before_3 (c : Dev nD) (t : Fin cfg0.N) (d) : (datsOf m o 0 c).before 3 t d = iblk m c 3 t :=
  before0_3_of m (datsOf m o 0 c) (datsOf_A m o c 3) (datsOf_after_3 m o c) t d
theorem datsOf_before_4 (c : Dev nD) (t : Fin cfg0.N) (d) : (datsOf m o 0 c).before 4 t d = iblk m c 4 t :=
  before0_4_of m (datsOf m o 0 c) (datsOf_A m o c 4) (datsOf_after_4 m o c) t d
theorem datsOf_before_5 (c : Dev nD) (t : Fin cfg0.N) (d) : (datsOf m o 0 c).before 5 t d = iblk m c 5 t :=
  before0_5_of m (datsOf m o 0 c) (datsOf_A m o c 5) (datsOf_after_5 m o c) t d
theorem datsOf_before_6 (c : Dev nD) (t : Fin cfg0.N) (d) : (datsOf m o 0 c).before 6 t d = iblk m c 6 t :=
  before0_6_of m (datsOf m o 0 c) (datsOf_A m o c 6) (datsOf_after_6 m o c) t d
theorem datsOf_before_7 (c : Dev nD) (t : Fin cfg0.N) (d) : (datsOf m o 0 c).before 7 t d = iblk m c 7 t :=
  before0_7_of m (datsOf m o 0 c) (datsOf_A m o c 7) (datsOf_after_7 m o c) t d
theorem datsOf_before_8 (c : Dev nD) (t : Fin cfg0.N) (d) : (datsOf m o 0 c).before 8 t d = iblk m c 8 t :=
  before0_8_of m (datsOf m o 0 c) (datsOf_A m o c 8) (datsOf_after_8 m o c) t d

/-- The query gradient's buffer is handed from one key block to the next. -/
theorem datsOf_before_9 (c : Dev nD) (t s : Fin cfg0.N) (h : t.val % 16 ≠ 0) (hs : s.val + 1 = t.val) (d) :
    (datsOf m o 0 c).before 9 t d = o.q c s := by
  have hse : s = ⟨t.val - 1, Nat.lt_of_le_of_lt (Nat.sub_le _ _) t.isLt⟩ := Fin.ext (by simp; omega)
  have hfl : (cfg0.win 9).flush s = false := by
    have := flush0_9 s
    cases hb : (cfg0.win 9).flush s
    · rfl
    · exact absurd (this.mp hb) (by omega)
  rw [Dat.before_of_pos (datsOf m o 0 c) 9 t (by omega) rfl d, ← hse, if_neg (by rw [hfl]; exact Bool.false_ne_true)]
  exact datsOf_after_9 m o c s

/-- What the body is called with at point `t`, the windows one by one, -/
def bodyPre (c : Dev nD) (t : Fin cfg0.N) : sProp 𝕄 :=
  iprop((datsOf m o 0 c).Φ t.castSucc ∗ (datsOf m o 0 c).owesAt () t.castSucc
    ∗ (∃ d, owns (c : Thread nD τ) (ms0 t) fullShare ((datsOf m o 0 c).before 0 t d))
    ∗ (∃ d, owns (c : Thread nD τ) (ms1 t) fullShare ((datsOf m o 0 c).before 1 t d))
    ∗ (∃ d, owns (c : Thread nD τ) (ms2 t) fullShare ((datsOf m o 0 c).before 2 t d))
    ∗ (∃ d, owns (c : Thread nD τ) (ms3 t) fullShare ((datsOf m o 0 c).before 3 t d))
    ∗ (∃ d, owns (c : Thread nD τ) (ms4 t) fullShare ((datsOf m o 0 c).before 4 t d))
    ∗ (∃ d, owns (c : Thread nD τ) (ms5 t) fullShare ((datsOf m o 0 c).before 5 t d))
    ∗ (∃ d, owns (c : Thread nD τ) (ms6 t) fullShare ((datsOf m o 0 c).before 6 t d))
    ∗ (∃ d, owns (c : Thread nD τ) (ms7 t) fullShare ((datsOf m o 0 c).before 7 t d))
    ∗ (∃ d, owns (c : Thread nD τ) (ms8 t) fullShare ((datsOf m o 0 c).before 8 t d))
    ∗ (∃ d, owns (c : Thread nD τ) (ms9 t) fullShare ((datsOf m o 0 c).before 9 t d))
    ∗ (∃ d, owns (c : Thread nD τ) (ms10 t) fullShare ((datsOf m o 0 c).before 10 t d))
    ∗ (∃ d, owns (c : Thread nD τ) (ms11 t) fullShare ((datsOf m o 0 c).before 11 t d)))

/-- and what it returns. -/
def bodyPost (c : Dev nD) (t : Fin cfg0.N) : sProp 𝕄 :=
  iprop((datsOf m o 0 c).Φ t.succ ∗ (datsOf m o 0 c).owesAt () t.succ
    ∗ owns (c : Thread nD τ) (ms0 t) fullShare ((datsOf m o 0 c).after 0 t)
    ∗ owns (c : Thread nD τ) (ms1 t) fullShare ((datsOf m o 0 c).after 1 t)
    ∗ owns (c : Thread nD τ) (ms2 t) fullShare ((datsOf m o 0 c).after 2 t)
    ∗ owns (c : Thread nD τ) (ms3 t) fullShare ((datsOf m o 0 c).after 3 t)
    ∗ owns (c : Thread nD τ) (ms4 t) fullShare ((datsOf m o 0 c).after 4 t)
    ∗ owns (c : Thread nD τ) (ms5 t) fullShare ((datsOf m o 0 c).after 5 t)
    ∗ owns (c : Thread nD τ) (ms6 t) fullShare ((datsOf m o 0 c).after 6 t)
    ∗ owns (c : Thread nD τ) (ms7 t) fullShare ((datsOf m o 0 c).after 7 t)
    ∗ owns (c : Thread nD τ) (ms8 t) fullShare ((datsOf m o 0 c).after 8 t)
    ∗ owns (c : Thread nD τ) (ms9 t) fullShare ((datsOf m o 0 c).after 9 t)
    ∗ owns (c : Thread nD τ) (ms10 t) fullShare ((datsOf m o 0 c).after 10 t)
    ∗ owns (c : Thread nD τ) (ms11 t) fullShare ((datsOf m o 0 c).after 11 t))

set_option maxHeartbeats 2400000 in
/-- The body at any point of the grid. -/
theorem sound_body (c : Dev nD) (t : Fin cfg0.N) :
    bodyPre m o c t ⊢ wp frame (wpE (defs₀ (F := F)) Variants.none c none) Set.univ (bodyAt0 t) (fun _ => bodyPost m o c t) := by
  unfold bodyPre bodyPost bodyAt0
  simp only [datsOf_before_0, datsOf_before_1, datsOf_before_2, datsOf_before_3, datsOf_before_4, datsOf_before_5, datsOf_before_6, datsOf_before_7, datsOf_before_8
    ]
  rw [show (datsOf m o 0 c).Φ t.succ = (datsOf m o 0 c).Φ t.castSucc from rfl,
    show (datsOf m o 0 c).owesAt () t.succ = (datsOf m o 0 c).owesAt () t.castSucc from rfl,
    datsOf_after_0, datsOf_after_1, datsOf_after_2, datsOf_after_3, datsOf_after_4, datsOf_after_5, datsOf_after_6, datsOf_after_7, datsOf_after_8, datsOf_after_9, datsOf_after_10, datsOf_after_11]
  rw [show (datsOf m o 0 c).Φ t.castSucc = Pipeline.ΦA spec0 c from rfl, inv_eq]
  have hN : t.val < 64 := lt_of_lt_of_eq t.isLt (show cfg0.N = 64 from N_0)
  by_cases h0 : t.val % 16 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((firstRun m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns
      iexists _
      isplitr
      · ipureintro
        exact o.firstQ c t h0
      iexact H9
    isplitl [H10]
    · rw [← o.firstK c t h0]
      iexact H10
    rw [← o.firstV c t h0]
    iexact H11
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hpos : 0 < t.val := by omega
    obtain ⟨s, hs⟩ : ∃ s : Fin cfg0.N, s.val + 1 = t.val := ⟨⟨t.val - 1, Nat.lt_of_le_of_lt (Nat.sub_le _ _) t.isLt⟩, by simp; omega⟩
    rw [datsOf_before_9 m o c t s h0 hs]
    iapply ((restRun m c t h0 (o.q c s)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns
      iexists _
      isplitr
      · ipureintro
        exact o.restQ c t s h0 hs
      iexact H9
    isplitl [H10]
    · rw [← o.restK c t s h0 hs]
      iexact H10
    rw [← o.restV c t s h0 hs]
    iexact H11

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (datsOf m o 0 c) (defs₀ (F := F)) Variants.none () Set.univ := fun t => by
  rw [bigSep_W0, bigSep_W0, body_row]
  exact triple_restated (sound_body m o c t) rfl .rfl fun _ => .rfl

set_option backward.isDefEq.respectTransparency.types false in
/-- The run, with every semaphore counter at zero at the end. -/
theorem run_of : θ_run defs (onTc (τ := τ) (main (F := F))) (s₀ m ρ)
    (fun r => Pipeline.FramePost cfgs (datsOf m o) 0 (V m) r ∧ r.2.sem = fun _ => 0) :=
  Pipeline.θ_run_frame (Q' := _) cfgs (datsOf m o) (0 : Fin 1) launch0 defs₀ Variants.none m ρ main
    (hbody := fun c => (body_obligation m o c).loose) (hshare := fun c => (datsOf m o 0 c).share_full fun _ => rfl)
    (howed := fun _ _ => rfl) (V := V m) (hmain := hmain m Variants.none) (hA := datsOf_A m o) (hΦ := fun _ _ => rfl)

end Cert.KernelIdeal.Flash
-- ==== Proof.Trip.lean ====
/-
  What one trip of the flash-attention backward's loop adds to its three gradients, and what the trips leave together.
  A point of the grid holds one block of 512 keys of two heads, number `j`; a trip takes one block of 512 queries past it.
-/
module

public import proofs.«01_k».proof.Proof.Gen.KernelIdeal.Frame
public import proofs.«01_k».proof.Proof.Gen.KernelIdeal.Loops
public import Idealize.ShloMosaic.Lib.WritesUnit
public import Idealize.ShloMosaic.Lib.WordCmp
public import Idealize.ShloMosaic.Lib.Pointwise
public import Idealize.ShloMosaic.Lib.Pipeline.ValueKit.Tiles

@[expose] public section
set_option maxRecDepth 16384
noncomputable section
namespace Cert.KernelIdeal.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- Lane `d` of head `e` among the two heads' 256 lanes each of the queries and keys. -/
abbrev lane (e : Fin 2) (d : Fin 256) : Fin 512 := ⟨256 * e + d, by omega⟩
/-- Lane `d` of head `e` among the two heads' 128 lanes each of the values. -/
abbrev vlane (e : Fin 2) (d : Fin 128) : Fin 256 := ⟨128 * e + d, by omega⟩
/-- Row `b` of block `a`. -/
abbrev row (a : Fin 16) (b : Fin 512) : Fin 8192 := ⟨512 * a + b, by omega⟩

variable (kk : Fin 2 → FVec Ideal S512x256 .bf16) (kt : Fin 2 → FVec Ideal S256x512 .bf16) (vv : Fin 2 → FVec Ideal S512x128 .bf16)
  (x2 : FVec Ideal S8192x512 .bf16) (x3 : FVec Ideal S16x512x512 .bf16) (x4 : FVec Ideal S8192x256 .bf16)
  (x5 : FVec Ideal S16x256x512 .bf16) (x6 x7 : FVec Ideal S2x16x8x512 .f32)
  (j : ℕ) (e : Fin 2) (a : Fin 16)

/-- The softmax weight of key row `r` of block `j` for query `b` of block `a`: two to the masked score less the saved
log-sum. -/
def prob (r b : Fin 512) : EReal :=
  Ideal.exp2 ((if 512 * j + r.val ≤ 512 * a.val + b.val then ∑ d : Fin 256, kk e (ix2 r d) * x3 (ix3 a (lane e d) b) else ⊥)
    - x6 (ix4 e a 0 b))

/-- The score's cotangent: the weight times the weight's cotangent less the saved product of output and cotangent. -/
def dscore (r b : Fin 512) : EReal :=
  prob kk x3 x6 j e a r b * ((∑ d : Fin 128, vv e (ix2 r d) * x5 (ix3 a (vlane e d) b)) - x7 (ix4 e a 0 b))

/-- The trip's query block as the kernel computes it. -/
theorem iv_toNat (j k : ℕ) (hjk : j + 1 + k < 16) :
    BitVec.toNat (Scalar.indexCast (Scf.iv (Scalar.addi (BitVec.ofNat 32 j) 1#32) 1#32 k)) = j + 1 + k := by
  simp only [Scalar.indexCast, Scf.iv, Scalar.addi, IntOp.addi, BitVec.toNat_add, BitVec.toNat_mul, BitVec.toNat_ofNat]
  omega

/-- There is a trip for each query block past the diagonal one. -/
theorem trips_eq (i : grid0.Coords) : (k0_t1_loop i).trips = 15 - (i 1).val := by
  have h : ∀ j : Fin 16, Scf.trips (Scalar.addi (BitVec.ofNat 32 j.val) 1#32)
      (Scalar.addi (Scalar.addi (BitVec.ofNat 32 j.val) 1#32)
        (Scalar.muli (Scalar.divsi (Scalar.subi 16#32 (Scalar.addi (BitVec.ofNat 32 j.val) 1#32)) 1#32) 1#32)) 1#32
      = 15 - j.val := by decide
  exact h (i 1)

theorem trips_lt (i : grid0.Coords) (k : Fin (k0_t1_loop i).trips) : (i 1).val + 1 + k.val < 16 := by
  have hk : k.val < 15 - (i 1).val := trips_eq i ▸ k.isLt
  omega

theorem muli_toNat (j k : ℕ) (hjk : j + 1 + k < 16) :
    BitVec.toNat (Scalar.indexCast (Scalar.muli (Scf.iv (Scalar.addi (BitVec.ofNat 32 j) 1#32) 1#32 k) 512#32)) = 512 * (j + 1 + k) := by
  simp only [Scalar.indexCast, Scf.iv, Scalar.addi, IntOp.addi, Scalar.muli, IntOp.muli, BitVec.toNat_add, BitVec.toNat_mul, BitVec.toNat_ofNat]
  omega

theorem lane_zero (d : Fin 256) : lane 0 d = ⟨d.val, by omega⟩ := by simp [lane]
theorem lane_one (d : Fin 256) : lane 1 d = ⟨256 + d.val, by omega⟩ := rfl
theorem vlane_zero (d : Fin 128) : vlane 0 d = ⟨d.val, by omega⟩ := by simp [vlane]
theorem vlane_one (d : Fin 128) : vlane 1 d = ⟨128 + d.val, by omega⟩ := rfl

theorem off11_eq (i : grid0.Coords) (k : Fin (k0_t1_loop i).trips) : k0_off11 i k = ![(i 1).val + 1 + k.val, 0, 0] := by
  unfold k0_off11; dsimp only; rw [iv_toNat _ _ (trips_lt i k)]
theorem off12_eq (i : grid0.Coords) (k : Fin (k0_t1_loop i).trips) : k0_off12 i k = ![(i 1).val + 1 + k.val, 256, 0] := by
  unfold k0_off12; dsimp only; rw [iv_toNat _ _ (trips_lt i k)]

variable (𝒱 : Variants) (c : Dev nD) (bd : Option 𝒱.V) (i : grid0.Coords) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole) (arg1 : BitVec 32) (v12 : FVec Ideal S512x256 .bf16) (v14 : FVec Ideal S512x256 .bf16) (v16 : FVec Ideal S256x512 .bf16) (v18 : FVec Ideal S256x512 .bf16) (v20 : FVec Ideal S512x128 .bf16) (v22 : FVec Ideal S512x128 .bf16) (v82 : FVec Ideal S512x128 .f32) (v92 : FVec Ideal S512x256 .f32) (v94 : FVec Ideal S256x512 .f32) (v96 : FVec Ideal S256x512 .f32) (v106 : FVec Ideal S512x256 .f32) (v133 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin (k0_t1_loop i).trips) (f11 : BufTy.Contents (Elt Ideal) arg11.view.ty) (f14 : BufTy.Contents (Elt Ideal) arg14.view.ty) (f15 : BufTy.Contents (Elt Ideal) arg15.view.ty)

set_option maxHeartbeats 1000000 in
/-- A trip adds its block's term to the value gradient. -/
theorem trip_dv (e : Fin 2) (r : Fin 512) (y : Fin 128) :
    arg15.view.read (Elt Ideal) (arg15.view.writes (Elt Ideal) f15 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v12 v14 v16 v18 v20 v22 v82 v92 v94 v96 v106 v133 X_arg2 X_arg3 X_arg4 X_arg5 X_arg6 X_arg7 k).2.2.1 f11 f14 f15)) (ix2 r (vlane e y))
      = arg15.view.read (Elt Ideal) f15 (ix2 r (vlane e y))
        + ∑ b : Fin 512, prob ![v12, v14] (arg3.view.read (Elt Ideal) X_arg3) (arg6.view.read (Elt Ideal) X_arg6) (i 1).val e ⟨_, trips_lt i k⟩ r b
            * arg4.view.read (Elt Ideal) X_arg4 (ix2 (row ⟨_, trips_lt i k⟩ b) (vlane e y)) := by
  have hjk := trips_lt i k
  have hle : ∀ r b : Fin 512, 512 * (i 1).val + r.val ≤ 512 * ((i 1).val + 1 + k.val) + b.val := fun r b => by omega
  unfold trip_k0_t1
  dsimp only
  sl_unfold_words
  match e with
  | 0 =>
    rw [View.read_writes_cons_unit_of_not_mem (heq := rfl) (a := 1) (ha := .inl (by simp [vlane])),
      View.read_writes_cons_unit_of_mem (heq := rfl) (x := ix2 r y) (hx := by intro a; fin_cases a <;> simp [vlane])]
    unfold_payloads
    simp only [View.readAt_eq_ld]
    pointwise [prob]
    simp only [iv_toNat _ _ hjk, muli_toNat _ _ hjk, if_pos (hle _ _), vlane_zero, lane_zero]
    rfl
  | 1 =>
    rw [View.read_writes_cons_unit_of_mem (heq := rfl) (x := ix2 r y) (hx := by intro a; fin_cases a <;> simp [vlane])]
    unfold_payloads
    simp only [View.readAt_eq_ld]
    pointwise [prob]
    simp only [iv_toNat _ _ hjk, muli_toNat _ _ hjk, if_pos (hle _ _), vlane_one, lane_one]
    rfl

set_option maxHeartbeats 1000000 in
/-- A trip adds its block's term to the key gradient. -/
theorem trip_dk (e : Fin 2) (r : Fin 512) (y : Fin 256) :
    arg14.view.read (Elt Ideal) (arg14.view.writes (Elt Ideal) f14 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v12 v14 v16 v18 v20 v22 v82 v92 v94 v96 v106 v133 X_arg2 X_arg3 X_arg4 X_arg5 X_arg6 X_arg7 k).2.1 f11 f14 f15)) (ix2 r (lane e y))
      = arg14.view.read (Elt Ideal) f14 (ix2 r (lane e y))
        + ∑ b : Fin 512, dscore ![v12, v14] ![v20, v22] (arg3.view.read (Elt Ideal) X_arg3) (arg5.view.read (Elt Ideal) X_arg5) (arg6.view.read (Elt Ideal) X_arg6) (arg7.view.read (Elt Ideal) X_arg7) (i 1).val e ⟨_, trips_lt i k⟩ r b
            * arg2.view.read (Elt Ideal) X_arg2 (ix2 (row ⟨_, trips_lt i k⟩ b) (lane e y)) := by
  have hjk := trips_lt i k
  have hle : ∀ r b : Fin 512, 512 * (i 1).val + r.val ≤ 512 * ((i 1).val + 1 + k.val) + b.val := fun r b => by omega
  unfold trip_k0_t1
  dsimp only
  sl_unfold_words
  match e with
  | 0 =>
    rw [View.read_writes_cons_unit_of_not_mem (heq := rfl) (a := 1) (ha := .inl (by simp [lane])),
      View.read_writes_cons_unit_of_mem (heq := rfl) (x := ix2 r y) (hx := by intro a; fin_cases a <;> simp [lane])]
    unfold_payloads
    simp only [View.readAt_eq_ld]
    pointwise [dscore, prob]
    simp only [iv_toNat _ _ hjk, muli_toNat _ _ hjk, if_pos (hle _ _), lane_zero, vlane_zero]
    rfl
  | 1 =>
    rw [View.read_writes_cons_unit_of_mem (heq := rfl) (x := ix2 r y) (hx := by intro a; fin_cases a <;> simp [lane])]
    unfold_payloads
    simp only [View.readAt_eq_ld]
    pointwise [dscore, prob]
    simp only [iv_toNat _ _ hjk, muli_toNat _ _ hjk, if_pos (hle _ _), lane_one, vlane_one]
    rfl

set_option maxHeartbeats 1000000 in
/-- A trip adds its term to its own block of the query gradient, -/
theorem trip_dq (e : Fin 2) (y : Fin 256) (b : Fin 512) :
    arg11.view.read (Elt Ideal) (arg11.view.writes (Elt Ideal) f11 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v12 v14 v16 v18 v20 v22 v82 v92 v94 v96 v106 v133 X_arg2 X_arg3 X_arg4 X_arg5 X_arg6 X_arg7 k).1 f11 f14 f15)) (ix3 ⟨_, trips_lt i k⟩ (lane e y) b)
      = arg11.view.read (Elt Ideal) f11 (ix3 ⟨_, trips_lt i k⟩ (lane e y) b)
        + ∑ r : Fin 512, (![v16, v18] : Fin 2 → FVec Ideal S256x512 .bf16) e (ix2 y r) * dscore ![v12, v14] ![v20, v22] (arg3.view.read (Elt Ideal) X_arg3) (arg5.view.read (Elt Ideal) X_arg5) (arg6.view.read (Elt Ideal) X_arg6) (arg7.view.read (Elt Ideal) X_arg7) (i 1).val e ⟨_, trips_lt i k⟩ r b := by
  have hjk := trips_lt i k
  have hle : ∀ r b : Fin 512, 512 * (i 1).val + r.val ≤ 512 * ((i 1).val + 1 + k.val) + b.val := fun r b => by omega
  unfold trip_k0_t1
  dsimp only
  match e with
  | 0 =>
    rw [View.read_writes_cons_unit_of_not_mem (heq := off12_eq i k) (a := 1) (ha := .inl (by simp [lane])),
      View.read_writes_cons_unit_of_mem (heq := off11_eq i k) (x := ix3 0 y b) (hx := by intro a; fin_cases a <;> simp [lane])]
    sl_unfold_words
    unfold_payloads
    simp only [View.readAt_eq_ld]
    pointwise [dscore, prob]
    simp only [iv_toNat _ _ hjk, muli_toNat _ _ hjk, if_pos (hle _ _), lane_zero, vlane_zero]
    rfl
  | 1 =>
    rw [View.read_writes_cons_unit_of_mem (heq := off12_eq i k) (x := ix3 0 y b) (hx := by intro a; fin_cases a <;> simp [lane])]
    sl_unfold_words
    unfold_payloads
    simp only [View.readAt_eq_ld]
    pointwise [dscore, prob]
    simp only [iv_toNat _ _ hjk, muli_toNat _ _ hjk, if_pos (hle _ _), lane_one, vlane_one]
    rfl

set_option maxHeartbeats 1000000 in
/-- and leaves the other blocks. -/
theorem trip_dq_other (a : Fin 16) (ha : a.val ≠ (i 1).val + 1 + k.val) (y : Fin 512) (b : Fin 512) :
    arg11.view.read (Elt Ideal) (arg11.view.writes (Elt Ideal) f11 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v12 v14 v16 v18 v20 v22 v82 v92 v94 v96 v106 v133 X_arg2 X_arg3 X_arg4 X_arg5 X_arg6 X_arg7 k).1 f11 f14 f15)) (ix3 a y b)
      = arg11.view.read (Elt Ideal) f11 (ix3 a y b) := by
  have hjk := trips_lt i k
  unfold trip_k0_t1
  dsimp only
  rw [View.read_writes_cons_unit_of_not_mem (heq := off12_eq i k) (a := 0) (ha := by simp; omega),
    View.read_writes_cons_unit_of_not_mem (heq := off11_eq i k) (a := 0) (ha := by simp; omega)]
  rfl

/-- One more block row in a sum over the block rows past `j`. -/
theorem sum_step (T : Fin 16 → EReal) (j n : ℕ) (h : j + 1 + n < 16) :
    ∑ a : Fin 16, (if j < a.val ∧ a.val ≤ j + (n + 1) then T a else 0)
      = (∑ a : Fin 16, if j < a.val ∧ a.val ≤ j + n then T a else 0) + T ⟨j + 1 + n, h⟩ := by
  have h1 : T ⟨j + 1 + n, h⟩ = ∑ a : Fin 16, if a = ⟨j + 1 + n, h⟩ then T a else 0 := by simp
  rw [h1, ← Finset.sum_add_distrib]
  refine Finset.sum_congr rfl fun a _ => ?_
  have h2 : a = ⟨j + 1 + n, h⟩ ↔ a.val = j + 1 + n := Fin.ext_iff
  simp only [h2]
  by_cases ha : a.val = j + 1 + n
  · rw [if_pos (by omega), if_neg (by omega), if_pos ha, zero_add]
  · by_cases hb : j < a.val ∧ a.val ≤ j + n
    · rw [if_pos (by omega), if_pos hb, if_neg ha, add_zero]
    · rw [if_neg (by omega), if_neg hb, if_neg ha, add_zero]

/-- After `n` trips the value gradient's accumulator holds what it held, and the terms of the `n` query blocks past the diagonal. -/
theorem trips_dv (n : ℕ) (hn : n ≤ (k0_t1_loop i).trips) (e : Fin 2) (r : Fin 512) (y : Fin 128) :
    arg15.view.read (Elt Ideal) (arg15.view.writes (Elt Ideal) f15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v12 v14 v16 v18 v20 v22 v82 v92 v94 v96 v106 v133 X_arg2 X_arg3 X_arg4 X_arg5 X_arg6 X_arg7 f11 f14 f15 n).2.2) (ix2 r (vlane e y))
      = arg15.view.read (Elt Ideal) f15 (ix2 r (vlane e y))
        + ∑ a : Fin 16, if (i 1).val < a.val ∧ a.val ≤ (i 1).val + n then
          ∑ b : Fin 512, prob ![v12, v14] (arg3.view.read (Elt Ideal) X_arg3) (arg6.view.read (Elt Ideal) X_arg6) (i 1).val e a r b
            * arg4.view.read (Elt Ideal) X_arg4 (ix2 (row a b) (vlane e y)) else 0 := by
  induction n with
  | zero => simp [pb_k0_t1, show ∀ a : Fin 16, ¬((i 1).val < a.val ∧ a.val ≤ (i 1).val) from fun a => by omega]
  | succ n ih =>
    rw [pb_k0_t1_succ (k := ⟨n, hn⟩), sum_step _ _ _ (trips_lt i ⟨n, hn⟩), ← add_assoc, ← ih (by omega), View.writes_append]
    exact trip_dv ..

/-- After `n` trips the key gradient's accumulator holds what it held, and the terms of the `n` query blocks past the diagonal. -/
theorem trips_dk (n : ℕ) (hn : n ≤ (k0_t1_loop i).trips) (e : Fin 2) (r : Fin 512) (y : Fin 256) :
    arg14.view.read (Elt Ideal) (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v12 v14 v16 v18 v20 v22 v82 v92 v94 v96 v106 v133 X_arg2 X_arg3 X_arg4 X_arg5 X_arg6 X_arg7 f11 f14 f15 n).2.1) (ix2 r (lane e y))
      = arg14.view.read (Elt Ideal) f14 (ix2 r (lane e y))
        + ∑ a : Fin 16, if (i 1).val < a.val ∧ a.val ≤ (i 1).val + n then
          ∑ b : Fin 512, dscore ![v12, v14] ![v20, v22] (arg3.view.read (Elt Ideal) X_arg3) (arg5.view.read (Elt Ideal) X_arg5) (arg6.view.read (Elt Ideal) X_arg6) (arg7.view.read (Elt Ideal) X_arg7) (i 1).val e a r b
            * arg2.view.read (Elt Ideal) X_arg2 (ix2 (row a b) (lane e y)) else 0 := by
  induction n with
  | zero => simp [pb_k0_t1, show ∀ a : Fin 16, ¬((i 1).val < a.val ∧ a.val ≤ (i 1).val) from fun a => by omega]
  | succ n ih =>
    rw [pb_k0_t1_succ (k := ⟨n, hn⟩), sum_step _ _ _ (trips_lt i ⟨n, hn⟩), ← add_assoc, ← ih (by omega), View.writes_append]
    exact trip_dk ..

/-- After `n` trips the query gradient holds what it held, with one more term in each of the `n` query blocks past the diagonal. -/
theorem trips_dq (n : ℕ) (hn : n ≤ (k0_t1_loop i).trips) (e : Fin 2) (a : Fin 16) (y : Fin 256) (b : Fin 512) :
    arg11.view.read (Elt Ideal) (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v12 v14 v16 v18 v20 v22 v82 v92 v94 v96 v106 v133 X_arg2 X_arg3 X_arg4 X_arg5 X_arg6 X_arg7 f11 f14 f15 n).1) (ix3 a (lane e y) b)
      = arg11.view.read (Elt Ideal) f11 (ix3 a (lane e y) b)
        + if (i 1).val < a.val ∧ a.val ≤ (i 1).val + n then
          ∑ r : Fin 512, (![v16, v18] : Fin 2 → FVec Ideal S256x512 .bf16) e (ix2 y r) * dscore ![v12, v14] ![v20, v22] (arg3.view.read (Elt Ideal) X_arg3) (arg5.view.read (Elt Ideal) X_arg5) (arg6.view.read (Elt Ideal) X_arg6) (arg7.view.read (Elt Ideal) X_arg7) (i 1).val e a r b
          else 0 := by
  induction n with
  | zero => rw [if_neg (by omega), add_zero]; rfl
  | succ n ih =>
    rw [pb_k0_t1_succ (k := ⟨n, hn⟩), View.writes_append]
    by_cases ha : a.val = (i 1).val + 1 + n
    · obtain rfl : a = ⟨_, trips_lt i ⟨n, hn⟩⟩ := Fin.ext ha
      rw [if_pos (by dsimp only; omega)]
      rw [if_neg (by simp), add_zero] at ih
      refine (trip_dq ..).trans ?_
      rw [ih (by omega)]
    · have hiff : ((i 1).val < a.val ∧ a.val ≤ (i 1).val + (n + 1)) ↔ ((i 1).val < a.val ∧ a.val ≤ (i 1).val + n) := by omega
      simp only [hiff]
      rw [← ih (by omega)]
      exact trip_dq_other (k := ⟨n, hn⟩) (ha := ha) ..

end Cert.KernelIdeal.Flash
-- ==== Proof.Body.lean ====
module

public import proofs.«01_k».proof.Proof.Gen.KernelIdeal.Frame
public import proofs.«01_k».proof.Proof.Gen.KernelIdeal.Loops
public import proofs.«01_k».proof.Proof.Trip
public import proofs.«01_k».proof.Proof.RunFirst
public import proofs.«01_k».proof.Proof.RunRest
public import Idealize.ShloMosaic.Lib.VecWindow
public import Idealize.ShloMosaic.Lib.WritesUnit
public import Idealize.ShloMosaic.Lib.WordCmp
public import Idealize.ShloMosaic.Lib.Pointwise
public import Idealize.ShloMosaic.Lib.Pipeline.ValueKit.Tiles

@[expose] public section
set_option maxRecDepth 16384
noncomputable section
namespace Cert.KernelIdeal.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable (x0 : FVec Ideal S8192x512 .bf16) (x1 : FVec Ideal S16x512x512 .bf16) (x2 : FVec Ideal S8192x256 .bf16)
  (x3 : FVec Ideal S16x256x512 .bf16) (x4 x5 : FVec Ideal S2x16x8x512 .f32) (x6 : FVec Ideal S512x512 .bf16)
  (x7 : FVec Ideal S1x512x512 .bf16) (x8 : FVec Ideal S512x256 .bf16) (j : ℕ)

/-- The two heads' keys, each in its 256 lanes. -/
def keys (e : Fin 2) : FVec Ideal S512x256 .bf16 := fun y => x6 (ix2 (y 0) (lane e (y 1)))
/-- The same of the transposed keys. -/
def keysT (e : Fin 2) : FVec Ideal S256x512 .bf16 := fun y => x7 (ix3 0 (lane e (y 0)) (y 1))
/-- The two heads' values, each in its 128 lanes. -/
def vals (e : Fin 2) : FVec Ideal S512x128 .bf16 := fun y => x8 (ix2 (y 0) (vlane e (y 1)))

/-- What key block `j` gives to the gradient of query `b` of block `a`. -/
def termQ (e : Fin 2) (a : Fin 16) (y : Fin 256) (b : Fin 512) : EReal :=
  ∑ r : Fin 512, x7 (ix3 0 (lane e y) r) * dscore (keys x6) (vals x8) x1 x3 x4 x5 j e a r b
/-- What query block `a` gives to the gradient of key `r` of block `j`, -/
def termK (e : Fin 2) (a : Fin 16) (r : Fin 512) (y : Fin 256) : EReal :=
  ∑ b : Fin 512, dscore (keys x6) (vals x8) x1 x3 x4 x5 j e a r b * x0 (ix2 (row a b) (lane e y))
/-- and of value `r` of block `j`. -/
def termV (e : Fin 2) (a : Fin 16) (r : Fin 512) (y : Fin 128) : EReal :=
  ∑ b : Fin 512, prob (keys x6) x1 x4 j e a r b * x2 (ix2 (row a b) (vlane e y))

/-- The head of a lane among 512, and its place among the head's. -/
abbrev headOf (n : Fin 512) : Fin 2 := ⟨n / 256, by omega⟩
abbrev laneOf (n : Fin 512) : Fin 256 := ⟨n % 256, by omega⟩
/-- The same among 256. -/
abbrev vheadOf (n : Fin 256) : Fin 2 := ⟨n / 128, by omega⟩
abbrev vlaneOf (n : Fin 256) : Fin 128 := ⟨n % 128, by omega⟩

theorem headOf_lane (e : Fin 2) (d : Fin 256) : headOf (lane e d) = e := Fin.ext (by simp [lane]; omega)
theorem laneOf_lane (e : Fin 2) (d : Fin 256) : laneOf (lane e d) = d := Fin.ext (by simp [lane])
theorem vheadOf_vlane (e : Fin 2) (d : Fin 128) : vheadOf (vlane e d) = e := Fin.ext (by simp [vlane]; omega)
theorem vlaneOf_vlane (e : Fin 2) (d : Fin 128) : vlaneOf (vlane e d) = d := Fin.ext (by simp [vlane])
theorem lane_headOf (n : Fin 512) : lane (headOf n) (laneOf n) = n := Fin.ext (by simp [lane]; omega)
theorem vlane_vheadOf (n : Fin 256) : vlane (vheadOf n) (vlaneOf n) = n := Fin.ext (by simp [vlane]; omega)

/-- What key block `j` adds to the query gradient, the key gradient of block `j`, and its value gradient. -/
def outQ : FVec Ideal S16x512x512 .f32 := fun y =>
  if j ≤ (y 0).val then termQ x1 x3 x4 x5 x6 x7 x8 j (headOf (y 1)) (y 0) (laneOf (y 1)) (y 2) else 0
def outK : FVec Ideal S512x512 .f32 := fun y =>
  ∑ a : Fin 16, if j ≤ a.val then termK x0 x1 x3 x4 x5 x6 x8 j (headOf (y 1)) a (y 0) (laneOf (y 1)) else 0
def outV : FVec Ideal S512x256 .f32 := fun y =>
  ∑ a : Fin 16, if j ≤ a.val then termV x1 x2 x4 x6 j (vheadOf (y 1)) a (y 0) (vlaneOf (y 1)) else 0

/-- The loop's second half, which would take the trips that its step does not divide, has none. -/
theorem trips2_eq (i : grid0.Coords) : (k0_t2_loop i).trips = 0 := by
  have h : ∀ j : Fin 16, Scf.trips
      (Scalar.addi (Scalar.addi (BitVec.ofNat 32 j.val) 1#32)
        (Scalar.muli (Scalar.divsi (Scalar.subi 16#32 (Scalar.addi (BitVec.ofNat 32 j.val) 1#32)) 1#32) 1#32))
      (Scalar.addi (Scalar.addi (BitVec.ofNat 32 j.val) 1#32) (Scalar.subi 16#32 (Scalar.addi (BitVec.ofNat 32 j.val) 1#32))) 1#32
      = 0 := by decide
  exact h (i 1)

theorem trips2_nil (𝒱 : Variants) (c : Dev nD) (bd : Option 𝒱.V) (i : grid0.Coords) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole) (v12 : FVec Ideal S512x256 .bf16) (v14 : FVec Ideal S512x256 .bf16) (v16 : FVec Ideal S256x512 .bf16) (v18 : FVec Ideal S256x512 .bf16) (v20 : FVec Ideal S512x128 .bf16) (v22 : FVec Ideal S512x128 .bf16) (v138 : BitVec 32) (c1_i32_79 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg11 : BufTy.Contents (Elt Ideal) arg11.view.ty) (G_arg14 : BufTy.Contents (Elt Ideal) arg14.view.ty) (G_arg15 : BufTy.Contents (Elt Ideal) arg15.view.ty) (n : ℕ) (hn : n = 0) : pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v12 v14 v16 v18 v20 v22 v138 c1_i32_79 X_arg2 X_arg3 X_arg4 X_arg5 X_arg6 X_arg7 G_arg11 G_arg14 G_arg15 n = ([], [], []) := by
  subst hn; rfl

theorem off1_eq (i : grid0.Coords) : k0_off1 i = ![(i 1).val, 0, 0] := by
  have hi : (i 1).val < 16 := (i 1).isLt
  unfold k0_off1; simp [Scalar.indexCast]; omega
theorem off2_eq (i : grid0.Coords) : k0_off2 i = ![(i 1).val, 256, 0] := by
  have hi : (i 1).val < 16 := (i 1).isLt
  unfold k0_off2; simp [Scalar.indexCast]; omega

/-- The causal mask of a diagonal block: a key past the query has the score −∞. -/
theorem mask_sel (r b : Fin 512) (x : EReal) :
    Scalar.select (IntOp.cmpi .sle (BitVec.ofNat 32 r.val) (BitVec.ofNat 32 b.val)) x
      (Named.named (F := Ideal) κ "mask" (φ := .f32) 0xF149F2CA#32) = if r.val ≤ b.val then x else ⊥ := by
  have h : Named.named (F := Ideal) κ "mask" (φ := .f32) 0xF149F2CA#32 = (⊥ : EReal) :=
    IdealRules.named_const.ideal_named_scalar _ _ _ _ rfl
  rw [h, WordCmp.cmpi_sle_ofNat (by omega) (by omega)]
  by_cases hb : r.val ≤ b.val <;> simp [Scalar.select, hb]

theorem at_toNat (i : grid0.Coords) : (Scalar.indexCast (BitVec.ofNat 32 (i 1).val)).toNat = (i 1).val := by
  have hi : (i 1).val < 16 := (i 1).isLt
  simp [Scalar.indexCast]; omega

theorem own_toNat (i : grid0.Coords) :
    (Scalar.indexCast (Scalar.muli (BitVec.ofNat 32 (i 1).val) 512#32)).toNat = 512 * (i 1).val := by
  have hi : (i 1).val < 16 := (i 1).isLt
  simp only [Scalar.indexCast, Scalar.muli, IntOp.muli, BitVec.toNat_mul, BitVec.toNat_ofNat]
  omega

/-- The point's own query block. -/
abbrev own (i : grid0.Coords) : Fin 16 := ⟨(i 1).val, (i 1).isLt⟩

/-- A sum over the query blocks from the diagonal on: the diagonal's term, and the terms past it. -/
theorem sum_own {i : grid0.Coords} (T : Fin 16 → EReal) :
    (∑ a : Fin 16, if (i 1).val ≤ a.val then T a else 0)
      = T (own i) + ∑ a : Fin 16, if (i 1).val < a.val then T a else 0 := by
  have h1 : T (own i) = ∑ a : Fin 16, if a = own i then T a else 0 := by simp
  rw [h1, ← Finset.sum_add_distrib]
  refine Finset.sum_congr rfl fun a _ => ?_
  have h2 : a = own i ↔ a.val = (i 1).val := Fin.ext_iff
  simp only [h2]
  by_cases ha : a.val = (i 1).val
  · rw [if_pos (by omega), if_pos ha, if_neg (by omega), add_zero]
  · by_cases hb : (i 1).val < a.val
    · rw [if_pos (by omega), if_neg ha, if_pos hb, zero_add]
    · rw [if_neg (by omega), if_neg ha, if_neg hb, zero_add]

variable (c : Dev nD) (i : grid0.Coords) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole)
  (hc0 : (Scalar.cmpi .ne (Scalar.extui (Scalar.cmpi .eq (BitVec.ofNat 32 (i 1).val) 0#32)) 0#32) = 1#1)

theorem keys_eq : (![k0_pay31 (View.readAt (Elt Ideal) arg8.view (Rect.unit (s := S512x512) ![0, 0] S512x256.size inb_S512x512_S512x256_0_0).toLoadRect (harg8.unread x6)),
    k0_pay32 (View.readAt (Elt Ideal) arg8.view (Rect.unit (s := S512x512) ![0, 256] S512x256.size inb_S512x512_S512x256_0_256).toLoadRect (harg8.unread x6))] : Fin 2 → FVec Ideal S512x256 .bf16)
      = keys x6 := by
  unfold_payloads
  simp only [View.readAt_eq_ld, Memref.IsWhole.read_unread]
  funext e y
  obtain ⟨r, l, rfl⟩ : ∃ r l, y = ix2 r l := ⟨y 0, y 1, eq_ix2 y⟩
  fin_cases e
  · refine Eq.trans (b := x6 (ix2 r (lane 0 l))) ?_ rfl
    simp only [lane_zero]
    pointwise []
  · refine Eq.trans (b := x6 (ix2 r (lane 1 l))) ?_ rfl
    simp only [lane_one]
    pointwise []

theorem keysT_eq : (![k0_pay33 (View.readAt (Elt Ideal) arg9.view (Rect.unit (s := S1x512x512) ![0, 0, 0] S1x256x512.size inb_S1x512x512_S1x256x512_0_0_0).toLoadRect (harg9.unread x7)),
    k0_pay34 (View.readAt (Elt Ideal) arg9.view (Rect.unit (s := S1x512x512) ![0, 256, 0] S1x256x512.size inb_S1x512x512_S1x256x512_0_256_0).toLoadRect (harg9.unread x7))] : Fin 2 → FVec Ideal S256x512 .bf16)
      = keysT x7 := by
  unfold_payloads
  simp only [View.readAt_eq_ld, Memref.IsWhole.read_unread]
  funext e y
  obtain ⟨r, l, rfl⟩ : ∃ r l, y = ix2 r l := ⟨y 0, y 1, eq_ix2 y⟩
  fin_cases e
  · refine Eq.trans (b := x7 (ix3 0 (lane 0 r) l)) ?_ rfl
    simp only [lane_zero]
    pointwise []
  · refine Eq.trans (b := x7 (ix3 0 (lane 1 r) l)) ?_ rfl
    simp only [lane_one]
    pointwise []

theorem vals_eq : (![k0_pay35 (View.readAt (Elt Ideal) arg10.view (Rect.unit (s := S512x256) ![0, 0] S512x128.size inb_S512x256_S512x128_0_0).toLoadRect (harg10.unread x8)),
    k0_pay36 (View.readAt (Elt Ideal) arg10.view (Rect.unit (s := S512x256) ![0, 128] S512x128.size inb_S512x256_S512x128_0_128).toLoadRect (harg10.unread x8))] : Fin 2 → FVec Ideal S512x128 .bf16)
      = vals x8 := by
  unfold_payloads
  simp only [View.readAt_eq_ld, Memref.IsWhole.read_unread]
  funext e y
  obtain ⟨r, l, rfl⟩ : ∃ r l, y = ix2 r l := ⟨y 0, y 1, eq_ix2 y⟩
  fin_cases e
  · refine Eq.trans (b := x8 (ix2 r (vlane 0 l))) ?_ rfl
    simp only [vlane_zero]
    pointwise []
  · refine Eq.trans (b := x8 (ix2 r (vlane 1 l))) ?_ rfl
    simp only [vlane_one]
    pointwise []

set_option maxHeartbeats 1000000 in
theorem first_dq (a : Fin 16) (e : Fin 2) (l : Fin 256) (b : Fin 512) :
    arg11.view.read (Elt Ideal) (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 (ix3 a (lane e l) b) = outQ x1 x3 x4 x5 x6 x7 x8 (i 1).val (ix3 a (lane e l) b) := by
  unfold runFirst
  dsimp only
  rw [trips2_nil (hn := trips2_eq i), List.nil_append, View.writes_append]
  refine (trips_dq (n := (k0_t1_loop i).trips) (hn := le_refl _) ..).trans ?_
  have hj : (i 1).val < 16 := (i 1).isLt
  have ha := a.isLt
  rw [trips_eq]
  refine (congrArg₂ (· + ·) (x' := if a.val = (i 1).val then termQ x1 x3 x4 x5 x6 x7 x8 (i 1).val e a l b else 0)
    (y' := if (i 1).val < a.val then termQ x1 x3 x4 x5 x6 x7 x8 (i 1).val e a l b else 0) ?_ ?_).trans ?_
  · have hd : e = 0 ∨ e = 1 := by revert e; decide
    by_cases hai : a.val = (i 1).val
    · rw [if_pos hai]
      obtain rfl : a = own i := Fin.ext hai
      unfold runFirst.sl.H9_2
      rcases hd with rfl | rfl
      · rw [View.read_writes_cons_unit_of_not_mem (heq := off2_eq i) (a := 1) (ha := .inl (by simp [lane])),
          View.read_writes_cons_unit_of_mem (heq := off1_eq i) (x := ix3 0 l b)
            (hx := by intro a; fin_cases a <;> simp [lane, hai])]
        sl_unfold_words
        unfold_payloads
        simp only [View.readAt_eq_ld, Memref.IsWhole.read_unread]
        pointwise [termQ, dscore, prob, keys, vals]
        simp only [mask_sel, at_toNat, lane_zero, vlane_zero, Nat.add_le_add_iff_left]
        rw [View.read_writes_cons_unit_of_mem (heq := rfl) (x := ix3 (own i) (lane 0 l) b)
            (hx := by intro a; fin_cases a <;> simp [lane])]
        pointwise []
        rfl
      · rw [View.read_writes_cons_unit_of_mem (heq := off2_eq i) (x := ix3 0 l b)
            (hx := by intro a; fin_cases a <;> simp [lane])]
        sl_unfold_words
        unfold_payloads
        simp only [View.readAt_eq_ld, Memref.IsWhole.read_unread]
        pointwise [termQ, dscore, prob, keys, vals]
        simp only [mask_sel, at_toNat, lane_one, vlane_one, Nat.add_le_add_iff_left]
        refine Eq.trans (congrArg₂ (· + ·) (y' := _) ((View.read_writes_cons_unit_of_not_mem _ _ _ _ _ _ rfl 1 (Or.inr ?_)).trans
          (View.read_writes_cons_unit_of_mem _ _ _ _ _ _ (ix3 (own i) (lane 1 l) b) rfl ?_)) rfl) ?_
        · simp
        · intro a; fin_cases a <;> simp [lane]
        pointwise []
        rfl
    · rw [if_neg hai]
      unfold runFirst.sl.H9_2
      rw [View.read_writes_cons_unit_of_not_mem (heq := off2_eq i) (a := 0) (ha := by simp; omega),
        View.read_writes_cons_unit_of_not_mem (heq := off1_eq i) (a := 0) (ha := by simp; omega)]
      unfold runFirst.sl.H9_1
      rw [View.read_writes_cons_unit_of_mem (heq := rfl) (x := ix3 a (lane e l) b)
            (hx := by intro a; fin_cases a <;> simp [lane])]
      unfold_payloads
      pointwise []
  · sl_unfold_words
    rw [keysT_eq, keys_eq, vals_eq]
    simp only [Memref.IsWhole.read_unread]
    unfold termQ
    congr 1
    exact propext (by omega)
  · have hy : outQ x1 x3 x4 x5 x6 x7 x8 (i 1).val (ix3 a (lane e l) b)
        = if (i 1).val ≤ a.val then termQ x1 x3 x4 x5 x6 x7 x8 (i 1).val e a l b else 0 := by
      refine Eq.trans (b := if (i 1).val ≤ a.val then termQ x1 x3 x4 x5 x6 x7 x8 (i 1).val (headOf (lane e l)) a (laneOf (lane e l)) b else 0) rfl ?_
      rw [headOf_lane, laneOf_lane]
    rw [hy]
    by_cases h1 : a.val = (i 1).val
    · rw [if_pos h1, if_neg (by omega), if_pos (by omega), add_zero]
    · rw [if_neg h1, zero_add]
      congr 1
      exact propext (by omega)

set_option maxHeartbeats 1000000 in
theorem first_dk (e : Fin 2) (r : Fin 512) (l : Fin 256) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 (ix2 r (lane e l)) = outK x0 x1 x3 x4 x5 x6 x8 (i 1).val (ix2 r (lane e l)) := by
  unfold runFirst
  dsimp only
  unfold runFirst.sl.v139
  rw [trips2_nil (hn := trips2_eq i), List.nil_append, View.writes_append, View.readAt_eq_ld, View.ld_unit_zero (by decide)]
  refine (trips_dk (n := (k0_t1_loop i).trips) (hn := le_refl _) ..).trans ?_
  have hj : (i 1).val < 16 := (i 1).isLt
  rw [trips_eq]
  have hy : outK x0 x1 x3 x4 x5 x6 x8 (i 1).val (ix2 r (lane e l)) = ∑ a : Fin 16, if (i 1).val ≤ a.val then termK x0 x1 x3 x4 x5 x6 x8 (i 1).val e a r l else 0 := by
    refine Eq.trans (b := ∑ a : Fin 16, if (i 1).val ≤ a.val then termK x0 x1 x3 x4 x5 x6 x8 (i 1).val (headOf (lane e l)) a r (laneOf (lane e l)) else 0) rfl ?_
    rw [headOf_lane, laneOf_lane]
  have hd : e = 0 ∨ e = 1 := by clear hy; revert e; decide
  rw [hy, sum_own (fun a => termK x0 x1 x3 x4 x5 x6 x8 (i 1).val e a r l)]
  refine congrArg₂ (· + ·) ?_ ?_
  · unfold runFirst.sl.HS0_3 runFirst.sl.HS0_2 runFirst.sl.HS0_1
    rcases hd with rfl | rfl
    · rw [View.read_writes_cons_unit_of_not_mem (heq := rfl) (a := 1) (ha := .inl (by simp [lane])),
        View.read_writes_cons_unit_of_mem (heq := rfl) (x := ix2 r l)
          (hx := by intro a; fin_cases a <;> simp [lane])]
      sl_unfold_words
      unfold_payloads
      simp only [View.readAt_eq_ld, Memref.IsWhole.read_unread]
      pointwise [termK, dscore, prob, keys, vals]
      simp only [mask_sel, at_toNat, own_toNat, lane_zero, vlane_zero, Nat.add_le_add_iff_left]
      refine Eq.trans (congrArg₂ (· + ·) (y' := _) (View.read_writes_cons_unit_of_mem _ _ _ _ _ _ (ix2 r (lane 0 l)) rfl (by intro a; fin_cases a <;> simp [lane])) rfl) ?_
      pointwise []
      rfl
    · rw [View.read_writes_cons_unit_of_mem (heq := rfl) (x := ix2 r l)
          (hx := by intro a; fin_cases a <;> simp [lane])]
      sl_unfold_words
      unfold_payloads
      simp only [View.readAt_eq_ld, Memref.IsWhole.read_unread]
      pointwise [termK, dscore, prob, keys, vals]
      simp only [mask_sel, at_toNat, own_toNat, lane_one, vlane_one, Nat.add_le_add_iff_left]
      refine Eq.trans (congrArg₂ (· + ·) (y' := _) ((View.read_writes_cons_unit_of_not_mem _ _ _ _ _ _ rfl 1 (Or.inr (by simp))).trans
        (View.read_writes_cons_unit_of_mem _ _ _ _ _ _ (ix2 r (lane 1 l)) rfl (by intro a; fin_cases a <;> simp [lane]))) rfl) ?_
      pointwise []
      rfl
  · sl_unfold_words
    rw [keys_eq, vals_eq]
    simp only [Memref.IsWhole.read_unread]
    refine Finset.sum_congr rfl fun a _ => ?_
    unfold termK
    congr 1
    exact propext (by omega)

set_option maxHeartbeats 1000000 in
theorem first_dv (e : Fin 2) (r : Fin 512) (l : Fin 128) :
    (runFirst c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 (ix2 r (vlane e l)) = outV x1 x2 x4 x6 (i 1).val (ix2 r (vlane e l)) := by
  unfold runFirst
  dsimp only
  unfold runFirst.sl.v141
  rw [trips2_nil (hn := trips2_eq i), List.nil_append, View.writes_append, View.readAt_eq_ld, View.ld_unit_zero (by decide)]
  refine (trips_dv (n := (k0_t1_loop i).trips) (hn := le_refl _) ..).trans ?_
  have hj : (i 1).val < 16 := (i 1).isLt
  rw [trips_eq]
  have hy : outV x1 x2 x4 x6 (i 1).val (ix2 r (vlane e l)) = ∑ a : Fin 16, if (i 1).val ≤ a.val then termV x1 x2 x4 x6 (i 1).val e a r l else 0 := by
    refine Eq.trans (b := ∑ a : Fin 16, if (i 1).val ≤ a.val then termV x1 x2 x4 x6 (i 1).val (vheadOf (vlane e l)) a r (vlaneOf (vlane e l)) else 0) rfl ?_
    rw [vheadOf_vlane, vlaneOf_vlane]
  have hd : e = 0 ∨ e = 1 := by clear hy; revert e; decide
  rw [hy, sum_own (fun a => termV x1 x2 x4 x6 (i 1).val e a r l)]
  refine congrArg₂ (· + ·) ?_ ?_
  · unfold runFirst.sl.HS1_3 runFirst.sl.HS1_2 runFirst.sl.HS1_1
    rcases hd with rfl | rfl
    · rw [View.read_writes_cons_unit_of_not_mem (heq := rfl) (a := 1) (ha := .inl (by simp [vlane])),
        View.read_writes_cons_unit_of_mem (heq := rfl) (x := ix2 r l)
          (hx := by intro a; fin_cases a <;> simp [vlane])]
      sl_unfold_words
      unfold_payloads
      simp only [View.readAt_eq_ld, Memref.IsWhole.read_unread]
      pointwise [termV, prob, keys]
      simp only [mask_sel, at_toNat, own_toNat, lane_zero, vlane_zero, Nat.add_le_add_iff_left]
      refine Eq.trans (congrArg₂ (· + ·) (y' := _) (View.read_writes_cons_unit_of_mem _ _ _ _ _ _ (ix2 r (vlane 0 l)) rfl (by intro a; fin_cases a <;> simp [vlane])) rfl) ?_
      pointwise []
      rfl
    · rw [View.read_writes_cons_unit_of_mem (heq := rfl) (x := ix2 r l)
          (hx := by intro a; fin_cases a <;> simp [vlane])]
      sl_unfold_words
      unfold_payloads
      simp only [View.readAt_eq_ld, Memref.IsWhole.read_unread]
      pointwise [termV, prob, keys]
      simp only [mask_sel, at_toNat, own_toNat, lane_one, vlane_one, Nat.add_le_add_iff_left]
      refine Eq.trans (congrArg₂ (· + ·) (y' := _) ((View.read_writes_cons_unit_of_not_mem _ _ _ _ _ _ rfl 1 (Or.inr (by simp))).trans
        (View.read_writes_cons_unit_of_mem _ _ _ _ _ _ (ix2 r (vlane 1 l)) rfl (by intro a; fin_cases a <;> simp [vlane]))) rfl) ?_
      pointwise []
      rfl
  · sl_unfold_words
    rw [keys_eq]
    simp only [Memref.IsWhole.read_unread]
    refine Finset.sum_congr rfl fun a _ => ?_
    unfold termV
    congr 1
    exact propext (by omega)

end Cert.KernelIdeal.Flash
-- ==== Proof.BodyRest.lean ====
module

public import proofs.«01_k».proof.Proof.Gen.KernelIdeal.Frame
public import proofs.«01_k».proof.Proof.Gen.KernelIdeal.Loops
public import proofs.«01_k».proof.Proof.Body
public import proofs.«01_k».proof.Proof.RunFirst
public import proofs.«01_k».proof.Proof.RunRest
public import Idealize.ShloMosaic.Lib.VecWindow
public import Idealize.ShloMosaic.Lib.WritesUnit
public import Idealize.ShloMosaic.Lib.WordCmp
public import Idealize.ShloMosaic.Lib.Pointwise
public import Idealize.ShloMosaic.Lib.Pipeline.ValueKit.Tiles

@[expose] public section
set_option maxRecDepth 16384
noncomputable section
namespace Cert.KernelIdeal.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable (x0 : FVec Ideal S8192x512 .bf16) (x1 : FVec Ideal S16x512x512 .bf16) (x2 : FVec Ideal S8192x256 .bf16)
  (x3 : FVec Ideal S16x256x512 .bf16) (x4 x5 : FVec Ideal S2x16x8x512 .f32) (x6 : FVec Ideal S512x512 .bf16)
  (x7 : FVec Ideal S1x512x512 .bf16) (x8 : FVec Ideal S512x256 .bf16) (x9 : FVec Ideal S16x512x512 .f32)

variable (c : Dev nD) (i : grid0.Coords) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole)
  (hc0 : ¬ (Scalar.cmpi .ne (Scalar.extui (Scalar.cmpi .eq (BitVec.ofNat 32 (i 1).val) 0#32)) 0#32) = 1#1)

set_option maxHeartbeats 1000000 in
theorem rest_dq (a : Fin 16) (e : Fin 2) (l : Fin 256) (b : Fin 512) :
    arg11.view.read (Elt Ideal) (runRest c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1 (ix3 a (lane e l) b) = x9 (ix3 a (lane e l) b) + outQ x1 x3 x4 x5 x6 x7 x8 (i 1).val (ix3 a (lane e l) b) := by
  unfold runRest
  dsimp only
  rw [trips2_nil (hn := trips2_eq i), List.nil_append, View.writes_append]
  refine (trips_dq (n := (k0_t1_loop i).trips) (hn := le_refl _) ..).trans ?_
  have hj : (i 1).val < 16 := (i 1).isLt
  have ha := a.isLt
  rw [trips_eq]
  refine (congrArg₂ (· + ·) (x' := x9 (ix3 a (lane e l) b) + if a.val = (i 1).val then termQ x1 x3 x4 x5 x6 x7 x8 (i 1).val e a l b else 0)
    (y' := if (i 1).val < a.val then termQ x1 x3 x4 x5 x6 x7 x8 (i 1).val e a l b else 0) ?_ ?_).trans ?_
  · have hd : e = 0 ∨ e = 1 := by revert e; decide
    by_cases hai : a.val = (i 1).val
    · rw [if_pos hai]
      obtain rfl : a = own i := Fin.ext hai
      rcases hd with rfl | rfl
      · rw [View.read_writes_cons_unit_of_not_mem (heq := off2_eq i) (a := 1) (ha := .inl (by simp [lane])),
          View.read_writes_cons_unit_of_mem (heq := off1_eq i) (x := ix3 0 l b)
            (hx := by intro a; fin_cases a <;> simp [lane, hai])]
        sl_unfold_words
        unfold_payloads
        simp only [View.readAt_eq_ld, Memref.IsWhole.read_unread]
        pointwise [termQ, dscore, prob, keys, vals]
        simp only [mask_sel, at_toNat, lane_zero, vlane_zero, Nat.add_le_add_iff_left]
        rfl
      · rw [View.read_writes_cons_unit_of_mem (heq := off2_eq i) (x := ix3 0 l b)
            (hx := by intro a; fin_cases a <;> simp [lane])]
        sl_unfold_words
        unfold_payloads
        simp only [View.readAt_eq_ld, Memref.IsWhole.read_unread]
        pointwise [termQ, dscore, prob, keys, vals]
        simp only [mask_sel, at_toNat, lane_one, vlane_one, Nat.add_le_add_iff_left]
        rfl
    · rw [if_neg hai]
      rw [View.read_writes_cons_unit_of_not_mem (heq := off2_eq i) (a := 0) (ha := by simp; omega),
        View.read_writes_cons_unit_of_not_mem (heq := off1_eq i) (a := 0) (ha := by simp; omega),
        View.writes_nil, Memref.IsWhole.read_unread, add_zero]
  · sl_unfold_words
    rw [keysT_eq, keys_eq, vals_eq]
    simp only [Memref.IsWhole.read_unread]
    unfold termQ
    congr 1
    exact propext (by omega)
  · have hy : outQ x1 x3 x4 x5 x6 x7 x8 (i 1).val (ix3 a (lane e l) b)
        = if (i 1).val ≤ a.val then termQ x1 x3 x4 x5 x6 x7 x8 (i 1).val e a l b else 0 := by
      refine Eq.trans (b := if (i 1).val ≤ a.val then termQ x1 x3 x4 x5 x6 x7 x8 (i 1).val (headOf (lane e l)) a (laneOf (lane e l)) b else 0) rfl ?_
      rw [headOf_lane, laneOf_lane]
    rw [hy, add_assoc]
    congr 1
    by_cases h1 : a.val = (i 1).val
    · rw [if_pos h1, if_neg (by omega), if_pos (by omega), add_zero]
    · rw [if_neg h1, zero_add]
      congr 1
      exact propext (by omega)

set_option maxHeartbeats 1000000 in
theorem rest_dk (e : Fin 2) (r : Fin 512) (l : Fin 256) :
    (runRest c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1 (ix2 r (lane e l)) = outK x0 x1 x3 x4 x5 x6 x8 (i 1).val (ix2 r (lane e l)) := by
  unfold runRest
  dsimp only
  unfold runRest.sl.v139
  rw [trips2_nil (hn := trips2_eq i), List.nil_append, View.writes_append, View.readAt_eq_ld, View.ld_unit_zero (by decide)]
  refine (trips_dk (n := (k0_t1_loop i).trips) (hn := le_refl _) ..).trans ?_
  have hj : (i 1).val < 16 := (i 1).isLt
  rw [trips_eq]
  have hy : outK x0 x1 x3 x4 x5 x6 x8 (i 1).val (ix2 r (lane e l)) = ∑ a : Fin 16, if (i 1).val ≤ a.val then termK x0 x1 x3 x4 x5 x6 x8 (i 1).val e a r l else 0 := by
    refine Eq.trans (b := ∑ a : Fin 16, if (i 1).val ≤ a.val then termK x0 x1 x3 x4 x5 x6 x8 (i 1).val (headOf (lane e l)) a r (laneOf (lane e l)) else 0) rfl ?_
    rw [headOf_lane, laneOf_lane]
  have hd : e = 0 ∨ e = 1 := by clear hy; revert e; decide
  rw [hy, sum_own (fun a => termK x0 x1 x3 x4 x5 x6 x8 (i 1).val e a r l)]
  refine congrArg₂ (· + ·) ?_ ?_
  · unfold runRest.sl.HS0_3 runRest.sl.HS0_2 runRest.sl.HS0_1
    rcases hd with rfl | rfl
    · rw [View.read_writes_cons_unit_of_not_mem (heq := rfl) (a := 1) (ha := .inl (by simp [lane])),
        View.read_writes_cons_unit_of_mem (heq := rfl) (x := ix2 r l)
          (hx := by intro a; fin_cases a <;> simp [lane])]
      sl_unfold_words
      unfold_payloads
      simp only [View.readAt_eq_ld, Memref.IsWhole.read_unread]
      pointwise [termK, dscore, prob, keys, vals]
      simp only [mask_sel, at_toNat, own_toNat, lane_zero, vlane_zero, Nat.add_le_add_iff_left]
      refine Eq.trans (congrArg₂ (· + ·) (y' := _) (View.read_writes_cons_unit_of_mem _ _ _ _ _ _ (ix2 r (lane 0 l)) rfl (by intro a; fin_cases a <;> simp [lane])) rfl) ?_
      pointwise []
      rfl
    · rw [View.read_writes_cons_unit_of_mem (heq := rfl) (x := ix2 r l)
          (hx := by intro a; fin_cases a <;> simp [lane])]
      sl_unfold_words
      unfold_payloads
      simp only [View.readAt_eq_ld, Memref.IsWhole.read_unread]
      pointwise [termK, dscore, prob, keys, vals]
      simp only [mask_sel, at_toNat, own_toNat, lane_one, vlane_one, Nat.add_le_add_iff_left]
      refine Eq.trans (congrArg₂ (· + ·) (y' := _) ((View.read_writes_cons_unit_of_not_mem _ _ _ _ _ _ rfl 1 (Or.inr (by simp))).trans
        (View.read_writes_cons_unit_of_mem _ _ _ _ _ _ (ix2 r (lane 1 l)) rfl (by intro a; fin_cases a <;> simp [lane]))) rfl) ?_
      pointwise []
      rfl
  · sl_unfold_words
    rw [keys_eq, vals_eq]
    simp only [Memref.IsWhole.read_unread]
    refine Finset.sum_congr rfl fun a _ => ?_
    unfold termK
    congr 1
    exact propext (by omega)

set_option maxHeartbeats 1000000 in
theorem rest_dv (e : Fin 2) (r : Fin 512) (l : Fin 128) :
    (runRest c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.1 (ix2 r (vlane e l)) = outV x1 x2 x4 x6 (i 1).val (ix2 r (vlane e l)) := by
  unfold runRest
  dsimp only
  unfold runRest.sl.v141
  rw [trips2_nil (hn := trips2_eq i), List.nil_append, View.writes_append, View.readAt_eq_ld, View.ld_unit_zero (by decide)]
  refine (trips_dv (n := (k0_t1_loop i).trips) (hn := le_refl _) ..).trans ?_
  have hj : (i 1).val < 16 := (i 1).isLt
  rw [trips_eq]
  have hy : outV x1 x2 x4 x6 (i 1).val (ix2 r (vlane e l)) = ∑ a : Fin 16, if (i 1).val ≤ a.val then termV x1 x2 x4 x6 (i 1).val e a r l else 0 := by
    refine Eq.trans (b := ∑ a : Fin 16, if (i 1).val ≤ a.val then termV x1 x2 x4 x6 (i 1).val (vheadOf (vlane e l)) a r (vlaneOf (vlane e l)) else 0) rfl ?_
    rw [vheadOf_vlane, vlaneOf_vlane]
  have hd : e = 0 ∨ e = 1 := by clear hy; revert e; decide
  rw [hy, sum_own (fun a => termV x1 x2 x4 x6 (i 1).val e a r l)]
  refine congrArg₂ (· + ·) ?_ ?_
  · unfold runRest.sl.HS1_3 runRest.sl.HS1_2 runRest.sl.HS1_1
    rcases hd with rfl | rfl
    · rw [View.read_writes_cons_unit_of_not_mem (heq := rfl) (a := 1) (ha := .inl (by simp [vlane])),
        View.read_writes_cons_unit_of_mem (heq := rfl) (x := ix2 r l)
          (hx := by intro a; fin_cases a <;> simp [vlane])]
      sl_unfold_words
      unfold_payloads
      simp only [View.readAt_eq_ld, Memref.IsWhole.read_unread]
      pointwise [termV, prob, keys]
      simp only [mask_sel, at_toNat, own_toNat, lane_zero, vlane_zero, Nat.add_le_add_iff_left]
      refine Eq.trans (congrArg₂ (· + ·) (y' := _) (View.read_writes_cons_unit_of_mem _ _ _ _ _ _ (ix2 r (vlane 0 l)) rfl (by intro a; fin_cases a <;> simp [vlane])) rfl) ?_
      pointwise []
      rfl
    · rw [View.read_writes_cons_unit_of_mem (heq := rfl) (x := ix2 r l)
          (hx := by intro a; fin_cases a <;> simp [vlane])]
      sl_unfold_words
      unfold_payloads
      simp only [View.readAt_eq_ld, Memref.IsWhole.read_unread]
      pointwise [termV, prob, keys]
      simp only [mask_sel, at_toNat, own_toNat, lane_one, vlane_one, Nat.add_le_add_iff_left]
      refine Eq.trans (congrArg₂ (· + ·) (y' := _) ((View.read_writes_cons_unit_of_not_mem _ _ _ _ _ _ rfl 1 (Or.inr (by simp))).trans
        (View.read_writes_cons_unit_of_mem _ _ _ _ _ _ (ix2 r (vlane 1 l)) rfl (by intro a; fin_cases a <;> simp [vlane]))) rfl) ?_
      pointwise []
      rfl
  · sl_unfold_words
    rw [keys_eq]
    simp only [Memref.IsWhole.read_unread]
    refine Finset.sum_congr rfl fun a _ => ?_
    unfold termV
    congr 1
    exact propext (by omega)

end Cert.KernelIdeal.Flash
-- ==== Proof.Run.lean ====
/-
  The run of the whole call: what its three results' staging buffers hold after the body at each point of the grid, and that
  the program, from any memory, ends with the arrays those buffers were written back to.
-/
module

public import proofs.«01_k».proof.Defs
public import proofs.«01_k».proof.Proof.Gen.KernelIdeal.Frame
public import proofs.«01_k».proof.Proof.Points
public import proofs.«01_k».proof.Proof.Gen.KernelIdeal.Launch
public import proofs.«01_k».proof.Proof.Gen.KernelIdeal.Points
public import proofs.«01_k».proof.Proof.BodyRest
public import Idealize.ShloMosaic.Lib.Pipeline.FrameBody
public import Idealize.ShloMosaic.Lib.Tactic
public import Idealize.ShloMosaic.Lib.WordCmp
public import Idealize.ShloMosaic.Lib.Claim

@[expose] public section
set_option maxRecDepth 16384
noncomputable section
namespace Cert.KernelIdeal.Flash
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the body at point `t` adds to the query gradient, -/
def qAt (c : Dev nD) (t : Fin cfg0.N) : FVec Ideal S16x512x512 .f32 :=
  outQ (iblk m c 1 t) (iblk m c 3 t) (iblk m c 4 t) (iblk m c 5 t) (iblk m c 6 t) (iblk m c 7 t) (iblk m c 8 t) (grid0.coords t 1).val
/-- its key gradient, -/
def kAt (c : Dev nD) (t : Fin cfg0.N) : FVec Ideal S512x512 .f32 :=
  outK (iblk m c 0 t) (iblk m c 1 t) (iblk m c 3 t) (iblk m c 4 t) (iblk m c 5 t) (iblk m c 6 t) (iblk m c 8 t) (grid0.coords t 1).val
/-- and its value gradient. -/
def vAt (c : Dev nD) (t : Fin cfg0.N) : FVec Ideal S512x256 .f32 :=
  outV (iblk m c 1 t) (iblk m c 2 t) (iblk m c 4 t) (iblk m c 6 t) (grid0.coords t 1).val

/-- The query gradient's buffer after point `t`: the sum over the key blocks up to the point's, of its head group. -/
def accQ (c : Dev nD) (t : Fin cfg0.N) : FVec Ideal S16x512x512 .f32 := fun y =>
  ∑ j : Fin 16, if j.val ≤ t.val % 16 then qAt m c (pt (t.val / 16) (group_lt t) j) y else 0

theorem accQ_first (c : Dev nD) (t : Fin cfg0.N) (h : t.val % 16 = 0) : accQ m c t = qAt m c t := by
  funext y
  unfold accQ
  rw [Finset.sum_eq_single (0 : Fin 16)]
  · rw [if_pos (by simp)]
    congr 2
    exact Fin.ext (by dsimp only [pt]; omega)
  · intro j _ hj
    have : j.val ≠ 0 := fun h => hj (Fin.ext h)
    rw [if_neg (by omega)]
  · simp

theorem accQ_rest (c : Dev nD) (t : Fin cfg0.N) (h : t.val % 16 ≠ 0) (s : Fin cfg0.N) (hs : s.val + 1 = t.val) (y : S16x512x512.Idx) :
    accQ m c t y = accQ m c s y + qAt m c t y := by
  unfold accQ
  have h1 : qAt m c t y = ∑ j : Fin 16, if j.val = t.val % 16 then qAt m c (pt (t.val / 16) (group_lt t) j) y else 0 := by
    rw [Finset.sum_eq_single (⟨t.val % 16, by omega⟩ : Fin 16)]
    · rw [if_pos rfl]
      congr 2
      exact Fin.ext (by dsimp only [pt]; omega)
    · intro j _ hj
      rw [if_neg fun h => hj (Fin.ext h)]
    · simp
  rw [h1, ← Finset.sum_add_distrib]
  refine Finset.sum_congr rfl fun j _ => ?_
  have hp : pt (t.val / 16) (group_lt t) j = pt (s.val / 16) (group_lt s) j := Fin.ext (by dsimp only [pt]; omega)
  rw [hp]
  by_cases hj : j.val = t.val % 16
  · rw [if_pos (by omega), if_neg (by omega), if_pos hj, zero_add]
  · by_cases hj' : j.val ≤ s.val % 16
    · rw [if_pos (by omega), if_pos hj', if_neg hj, add_zero]
    · rw [if_neg (by omega), if_neg hj', if_neg hj, zero_add]

/-- What the three buffers hold after the first key block of a head group. -/
theorem firstQ (c : Dev nD) (t : Fin cfg0.N) (h0 : t.val % 16 = 0) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole) :
    arg11.view.read (Elt Ideal) (runFirst c (grid0.coords t) arg2 harg2 arg3 harg3 arg4 harg4 arg5 harg5 arg6 harg6 arg7 harg7 arg8 harg8 arg9 harg9 arg10 harg10 arg11 harg11 arg12 harg12 arg13 harg13 arg14 harg14 arg15 harg15 ((first_iff t).mpr h0) (iblk m c 0 t) (iblk m c 1 t) (iblk m c 2 t) (iblk m c 3 t) (iblk m c 4 t) (iblk m c 5 t) (iblk m c 6 t) (iblk m c 7 t) (iblk m c 8 t)).1 = accQ m c t := by
  funext y
  obtain ⟨a, n, b, rfl⟩ : ∃ a n b, y = ix3 a n b := ⟨y 0, y 1, y 2, eq_ix3 y⟩
  rw [← lane_headOf n]
  refine (first_dq ..).trans ?_
  rw [accQ_first m c t h0]; rfl
theorem firstK (c : Dev nD) (t : Fin cfg0.N) (h0 : t.val % 16 = 0) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole) :
    (runFirst c (grid0.coords t) arg2 harg2 arg3 harg3 arg4 harg4 arg5 harg5 arg6 harg6 arg7 harg7 arg8 harg8 arg9 harg9 arg10 harg10 arg11 harg11 arg12 harg12 arg13 harg13 arg14 harg14 arg15 harg15 ((first_iff t).mpr h0) (iblk m c 0 t) (iblk m c 1 t) (iblk m c 2 t) (iblk m c 3 t) (iblk m c 4 t) (iblk m c 5 t) (iblk m c 6 t) (iblk m c 7 t) (iblk m c 8 t)).2.1 = kAt m c t := by
  funext y
  obtain ⟨r, n, rfl⟩ : ∃ r n, y = ix2 r n := ⟨y 0, y 1, eq_ix2 y⟩
  rw [← lane_headOf n]
  exact first_dk ..
theorem firstV (c : Dev nD) (t : Fin cfg0.N) (h0 : t.val % 16 = 0) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole) :
    (runFirst c (grid0.coords t) arg2 harg2 arg3 harg3 arg4 harg4 arg5 harg5 arg6 harg6 arg7 harg7 arg8 harg8 arg9 harg9 arg10 harg10 arg11 harg11 arg12 harg12 arg13 harg13 arg14 harg14 arg15 harg15 ((first_iff t).mpr h0) (iblk m c 0 t) (iblk m c 1 t) (iblk m c 2 t) (iblk m c 3 t) (iblk m c 4 t) (iblk m c 5 t) (iblk m c 6 t) (iblk m c 7 t) (iblk m c 8 t)).2.2.1 = vAt m c t := by
  funext y
  obtain ⟨r, n, rfl⟩ : ∃ r n, y = ix2 r n := ⟨y 0, y 1, eq_ix2 y⟩
  rw [← vlane_vheadOf n]
  exact first_dv ..

/-- What the three buffers hold after a later key block of a head group. -/
theorem restQ (c : Dev nD) (t : Fin cfg0.N) (s : Fin cfg0.N) (h0 : t.val % 16 ≠ 0) (hs : s.val + 1 = t.val) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole) :
    arg11.view.read (Elt Ideal) (runRest c (grid0.coords t) arg2 harg2 arg3 harg3 arg4 harg4 arg5 harg5 arg6 harg6 arg7 harg7 arg8 harg8 arg9 harg9 arg10 harg10 arg11 harg11 arg12 harg12 arg13 harg13 arg14 harg14 arg15 harg15 (fun h => h0 ((first_iff t).mp h)) (iblk m c 0 t) (iblk m c 1 t) (iblk m c 2 t) (iblk m c 3 t) (iblk m c 4 t) (iblk m c 5 t) (iblk m c 6 t) (iblk m c 7 t) (iblk m c 8 t) (accQ m c s)).1 = accQ m c t := by
  funext y
  obtain ⟨a, n, b, rfl⟩ : ∃ a n b, y = ix3 a n b := ⟨y 0, y 1, y 2, eq_ix3 y⟩
  rw [← lane_headOf n]
  refine (rest_dq ..).trans ?_
  exact (accQ_rest m c t h0 s hs _).symm
theorem restK (c : Dev nD) (t : Fin cfg0.N) (h0 : t.val % 16 ≠ 0) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole) (x9 : FVec Ideal S16x512x512 .f32) :
    (runRest c (grid0.coords t) arg2 harg2 arg3 harg3 arg4 harg4 arg5 harg5 arg6 harg6 arg7 harg7 arg8 harg8 arg9 harg9 arg10 harg10 arg11 harg11 arg12 harg12 arg13 harg13 arg14 harg14 arg15 harg15 (fun h => h0 ((first_iff t).mp h)) (iblk m c 0 t) (iblk m c 1 t) (iblk m c 2 t) (iblk m c 3 t) (iblk m c 4 t) (iblk m c 5 t) (iblk m c 6 t) (iblk m c 7 t) (iblk m c 8 t) x9).2.1 = kAt m c t := by
  funext y
  obtain ⟨r, n, rfl⟩ : ∃ r n, y = ix2 r n := ⟨y 0, y 1, eq_ix2 y⟩
  rw [← lane_headOf n]
  exact rest_dk ..
theorem restV (c : Dev nD) (t : Fin cfg0.N) (h0 : t.val % 16 ≠ 0) (arg2 : Memref sig .tc .vmem S8192x512 .bf16) (harg2 : arg2.IsWhole) (arg3 : Memref sig .tc .vmem S16x512x512 .bf16) (harg3 : arg3.IsWhole) (arg4 : Memref sig .tc .vmem S8192x256 .bf16) (harg4 : arg4.IsWhole) (arg5 : Memref sig .tc .vmem S16x256x512 .bf16) (harg5 : arg5.IsWhole) (arg6 : Memref sig .tc .vmem S2x16x8x512 .f32) (harg6 : arg6.IsWhole) (arg7 : Memref sig .tc .vmem S2x16x8x512 .f32) (harg7 : arg7.IsWhole) (arg8 : Memref sig .tc .vmem S512x512 .bf16) (harg8 : arg8.IsWhole) (arg9 : Memref sig .tc .vmem S1x512x512 .bf16) (harg9 : arg9.IsWhole) (arg10 : Memref sig .tc .vmem S512x256 .bf16) (harg10 : arg10.IsWhole) (arg11 : Memref sig .tc .vmem S16x512x512 .f32) (harg11 : arg11.IsWhole) (arg12 : Memref sig .tc .vmem S512x512 .f32) (harg12 : arg12.IsWhole) (arg13 : Memref sig .tc .vmem S512x256 .f32) (harg13 : arg13.IsWhole) (arg14 : Memref sig .tc .vmem S512x512 .f32) (harg14 : arg14.IsWhole) (arg15 : Memref sig .tc .vmem S512x256 .f32) (harg15 : arg15.IsWhole) (x9 : FVec Ideal S16x512x512 .f32) :
    (runRest c (grid0.coords t) arg2 harg2 arg3 harg3 arg4 harg4 arg5 harg5 arg6 harg6 arg7 harg7 arg8 harg8 arg9 harg9 arg10 harg10 arg11 harg11 arg12 harg12 arg13 harg13 arg14 harg14 arg15 harg15 (fun h => h0 ((first_iff t).mp h)) (iblk m c 0 t) (iblk m c 1 t) (iblk m c 2 t) (iblk m c 3 t) (iblk m c 4 t) (iblk m c 5 t) (iblk m c 6 t) (iblk m c 7 t) (iblk m c 8 t) x9).2.2.1 = vAt m c t := by
  funext y
  obtain ⟨r, n, rfl⟩ : ∃ r n, y = ix2 r n := ⟨y 0, y 1, eq_ix2 y⟩
  rw [← vlane_vheadOf n]
  exact rest_dv ..

/-- The three buffers' contents, as sums. -/
def sums : Left m where
  q := accQ m
  k := kAt m
  v := vAt m
  firstQ c t h0 := firstQ m c t h0 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (Memref.whole cc0_scratch0) (Memref.isWhole_whole _) (Memref.whole cc0_scratch1) (Memref.isWhole_whole _)
  firstK c t h0 := firstK m c t h0 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (Memref.whole cc0_scratch0) (Memref.isWhole_whole _) (Memref.whole cc0_scratch1) (Memref.isWhole_whole _)
  firstV c t h0 := firstV m c t h0 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (Memref.whole cc0_scratch0) (Memref.isWhole_whole _) (Memref.whole cc0_scratch1) (Memref.isWhole_whole _)
  restQ c t s h0 hs := restQ m c t s h0 hs (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (Memref.whole cc0_scratch0) (Memref.isWhole_whole _) (Memref.whole cc0_scratch1) (Memref.isWhole_whole _)
  restK c t s h0 hs := restK m c t h0 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (Memref.whole cc0_scratch0) (Memref.isWhole_whole _) (Memref.whole cc0_scratch1) (Memref.isWhole_whole _) (accQ m c s)
  restV c t s h0 hs := restV m c t h0 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (Memref.whole cc0_scratch0) (Memref.isWhole_whole _) (Memref.whole cc0_scratch1) (Memref.isWhole_whole _) (accQ m c s)

/-- The proof data: the arrays as the host code leaves them, each input's buffer at its block after the body, and the three
    results' buffers. -/
abbrev dats := datsOf m (sums m)

theorem after_9 (c : Dev nD) (t : Fin cfg0.N) : (dats m 0 c).after 9 t = accQ m c t := datsOf_after_9 m (sums m) c t
theorem after_10 (c : Dev nD) (t : Fin cfg0.N) : (dats m 0 c).after 10 t = kAt m c t := datsOf_after_10 m (sums m) c t
theorem after_11 (c : Dev nD) (t : Fin cfg0.N) : (dats m 0 c).after 11 t = vAt m c t := datsOf_after_11 m (sums m) c t

/-- The run, with every semaphore counter at zero at the end. -/
theorem run_quiescent : θ_run defs (onTc (τ := τ) (main (F := Ideal))) (s₀ m ρ)
    (fun r => Pipeline.FramePost cfgs (dats m) 0 (V m) r ∧ r.2.sem = fun _ => 0) := run_of m ρ (sums m)

/-- The call's frame. -/
theorem frame : Cert.quiescent_KernelIdeal := fun m ρ _ =>
  θ_run_and (frame_of m ρ (dats m) (datsOf_A m (sums m)) ((θ_run defs _ _).mono (fun _ h => h.1) (run_quiescent m ρ)))
    ((θ_run defs _ _).mono (fun _ h => h.2) (run_quiescent m ρ))

end Cert.KernelIdeal.Flash
-- ==== Proof.Blocks.lean ====
/-
  Where the blocks lie in the operand arrays: what each input's block holds at a point, as elements of the arrays the host wrote.
-/
module

public import proofs.«01_k».proof.Proof.Run

@[expose] public section
set_option maxRecDepth 16384
noncomputable section
namespace Cert.KernelIdeal.Flash
open Idealize.ShloMosaic Idealize.ShloMosaic.TcCoe Cert.KernelIdeal Cert.KernelIdeal.Gen

variable (m : (ℓ : Loc nD τ sig) → Buf (Elt Ideal) ℓ)

theorem index0 : ∀ t : Fin cfg0.N, (cfg0.win 0).index t 0 = 0 ∧ (cfg0.win 0).index t 1 = t.val / 16 := by decide
theorem x0_at (c : Dev nD) (t : Fin cfg0.N) (y0 : Fin 8192) (y1 : Fin 512) :
    (iblk m c 0 t : FVec Ideal S8192x512 .bf16) (ix2 y0 y1) = V m c main_v42 (ix2 y0 ⟨512 * (t.val / 16) + y1.val, by have := group_lt t; omega⟩) := by
  unfold iblk
  rw [View.read_apply]
  refine congrArg (V m c main_v42) (funext fun a => Fin.ext ?_)
  match a with
  | ⟨0, _⟩ =>
    refine (Pipeline.Window.rect_emb_val win0_0 t (ix2 y0 y1) 0).trans ?_
    rw [show win0_0.index t 0 = 0 from (index0 t).1]
    show 0 * 8192 + y0.val = y0.val
    omega
  | ⟨1, _⟩ =>
    refine (Pipeline.Window.rect_emb_val win0_0 t (ix2 y0 y1) 1).trans ?_
    rw [show win0_0.index t 1 = t.val / 16 from (index0 t).2]
    show (t.val / 16) * 512 + y1.val = 512 * (t.val / 16) + y1.val
    omega

theorem index1 : ∀ t : Fin cfg0.N, (cfg0.win 1).index t 0 = 0 ∧ (cfg0.win 1).index t 1 = t.val / 16 ∧ (cfg0.win 1).index t 2 = 0 := by decide
theorem x1_at (c : Dev nD) (t : Fin cfg0.N) (y0 : Fin 16) (y1 : Fin 512) (y2 : Fin 512) :
    (iblk m c 1 t : FVec Ideal S16x512x512 .bf16) (ix3 y0 y1 y2) = V m c main_v49 (ix3 y0 ⟨512 * (t.val / 16) + y1.val, by have := group_lt t; omega⟩ y2) := by
  unfold iblk
  rw [View.read_apply]
  refine congrArg (V m c main_v49) (funext fun a => Fin.ext ?_)
  match a with
  | ⟨0, _⟩ =>
    refine (Pipeline.Window.rect_emb_val win0_1 t (ix3 y0 y1 y2) 0).trans ?_
    rw [show win0_1.index t 0 = 0 from (index1 t).1]
    show 0 * 16 + y0.val = y0.val
    omega
  | ⟨1, _⟩ =>
    refine (Pipeline.Window.rect_emb_val win0_1 t (ix3 y0 y1 y2) 1).trans ?_
    rw [show win0_1.index t 1 = t.val / 16 from (index1 t).2.1]
    show (t.val / 16) * 512 + y1.val = 512 * (t.val / 16) + y1.val
    omega
  | ⟨2, _⟩ =>
    refine (Pipeline.Window.rect_emb_val win0_1 t (ix3 y0 y1 y2) 2).trans ?_
    rw [show win0_1.index t 2 = 0 from (index1 t).2.2]
    show 0 * 512 + y2.val = y2.val
    omega

theorem index2 : ∀ t : Fin cfg0.N, (cfg0.win 2).index t 0 = 0 ∧ (cfg0.win 2).index t 1 = t.val / 16 := by decide
theorem x2_at (c : Dev nD) (t : Fin cfg0.N) (y0 : Fin 8192) (y1 : Fin 256) :
    (iblk m c 2 t : FVec Ideal S8192x256 .bf16) (ix2 y0 y1) = V m c main_v47 (ix2 y0 ⟨256 * (t.val / 16) + y1.val, by have := group_lt t; omega⟩) := by
  unfold iblk
  rw [View.read_apply]
  refine congrArg (V m c main_v47) (funext fun a => Fin.ext ?_)
  match a with
  | ⟨0, _⟩ =>
    refine (Pipeline.Window.rect_emb_val win0_2 t (ix2 y0 y1) 0).trans ?_
    rw [show win0_2.index t 0 = 0 from (index2 t).1]
    show 0 * 8192 + y0.val = y0.val
    omega
  | ⟨1, _⟩ =>
    refine (Pipeline.Window.rect_emb_val win0_2 t (ix2 y0 y1) 1).trans ?_
    rw [show win0_2.index t 1 = t.val / 16 from (index2 t).2]
    show (t.val / 16) * 256 + y1.val = 256 * (t.val / 16) + y1.val
    omega

theorem index3 : ∀ t : Fin cfg0.N, (cfg0.win 3).index t 0 = 0 ∧ (cfg0.win 3).index t 1 = t.val / 16 ∧ (cfg0.win 3).index t 2 = 0 := by decide
theorem x3_at (c : Dev nD) (t : Fin cfg0.N) (y0 : Fin 16) (y1 : Fin 256) (y2 : Fin 512) :
    (iblk m c 3 t : FVec Ideal S16x256x512 .bf16) (ix3 y0 y1 y2) = V m c main_v55 (ix3 y0 ⟨256 * (t.val / 16) + y1.val, by have := group_lt t; omega⟩ y2) := by
  unfold iblk
  rw [View.read_apply]
  refine congrArg (V m c main_v55) (funext fun a => Fin.ext ?_)
  match a with
  | ⟨0, _⟩ =>
    refine (Pipeline.Window.rect_emb_val win0_3 t (ix3 y0 y1 y2) 0).trans ?_
    rw [show win0_3.index t 0 = 0 from (index3 t).1]
    show 0 * 16 + y0.val = y0.val
    omega
  | ⟨1, _⟩ =>
    refine (Pipeline.Window.rect_emb_val win0_3 t (ix3 y0 y1 y2) 1).trans ?_
    rw [show win0_3.index t 1 = t.val / 16 from (index3 t).2.1]
    show (t.val / 16) * 256 + y1.val = 256 * (t.val / 16) + y1.val
    omega
  | ⟨2, _⟩ =>
    refine (Pipeline.Window.rect_emb_val win0_3 t (ix3 y0 y1 y2) 2).trans ?_
    rw [show win0_3.index t 2 = 0 from (index3 t).2.2]
    show 0 * 512 + y2.val = y2.val
    omega

theorem index4 : ∀ t : Fin cfg0.N, (cfg0.win 4).index t 0 = t.val / 16 ∧ (cfg0.win 4).index t 1 = 0 ∧ (cfg0.win 4).index t 2 = 0 ∧ (cfg0.win 4).index t 3 = 0 := by decide
theorem x4_at (c : Dev nD) (t : Fin cfg0.N) (y0 : Fin 2) (y1 : Fin 16) (y2 : Fin 8) (y3 : Fin 512) :
    (iblk m c 4 t : FVec Ideal S2x16x8x512 .f32) (ix4 y0 y1 y2 y3) = V m c main_v57 (ix4 ⟨2 * (t.val / 16) + y0.val, by have := group_lt t; omega⟩ y1 y2 y3) := by
  unfold iblk
  rw [View.read_apply]
  refine congrArg (V m c main_v57) (funext fun a => Fin.ext ?_)
  match a with
  | ⟨0, _⟩ =>
    refine (Pipeline.Window.rect_emb_val win0_4 t (ix4 y0 y1 y2 y3) 0).trans ?_
    rw [show win0_4.index t 0 = t.val / 16 from (index4 t).1]
    show (t.val / 16) * 2 + y0.val = 2 * (t.val / 16) + y0.val
    omega
  | ⟨1, _⟩ =>
    refine (Pipeline.Window.rect_emb_val win0_4 t (ix4 y0 y1 y2 y3) 1).trans ?_
    rw [show win0_4.index t 1 = 0 from (index4 t).2.1]
    show 0 * 16 + y1.val = y1.val
    omega
  | ⟨2, _⟩ =>
    refine (Pipeline.Window.rect_emb_val win0_4 t (ix4 y0 y1 y2 y3) 2).trans ?_
    rw [show win0_4.index t 2 = 0 from (index4 t).2.2.1]
    show 0 * 8 + y2.val = y2.val
    omega
  | ⟨3, _⟩ =>
    refine (Pipeline.Window.rect_emb_val win0_4 t (ix4 y0 y1 y2 y3) 3).trans ?_
    rw [show win0_4.index t 3 = 0 from (index4 t).2.2.2]
    show 0 * 512 + y3.val = y3.val
    omega

theorem index5 : ∀ t : Fin cfg0.N, (cfg0.win 5).index t 0 = t.val / 16 ∧ (cfg0.win 5).index t 1 = 0 ∧ (cfg0.win 5).index t 2 = 0 ∧ (cfg0.win 5).index t 3 = 0 := by decide
theorem x5_at (c : Dev nD) (t : Fin cfg0.N) (y0 : Fin 2) (y1 : Fin 16) (y2 : Fin 8) (y3 : Fin 512) :
    (iblk m c 5 t : FVec Ideal S2x16x8x512 .f32) (ix4 y0 y1 y2 y3) = V m c main_v59 (ix4 ⟨2 * (t.val / 16) + y0.val, by have := group_lt t; omega⟩ y1 y2 y3) := by
  unfold iblk
  rw [View.read_apply]
  refine congrArg (V m c main_v59) (funext fun a => Fin.ext ?_)
  match a with
  | ⟨0, _⟩ =>
    refine (Pipeline.Window.rect_emb_val win0_5 t (ix4 y0 y1 y2 y3) 0).trans ?_
    rw [show win0_5.index t 0 = t.val / 16 from (index5 t).1]
    show (t.val / 16) * 2 + y0.val = 2 * (t.val / 16) + y0.val
    omega
  | ⟨1, _⟩ =>
    refine (Pipeline.Window.rect_emb_val win0_5 t (ix4 y0 y1 y2 y3) 1).trans ?_
    rw [show win0_5.index t 1 = 0 from (index5 t).2.1]
    show 0 * 16 + y1.val = y1.val
    omega
  | ⟨2, _⟩ =>
    refine (Pipeline.Window.rect_emb_val win0_5 t (ix4 y0 y1 y2 y3) 2).trans ?_
    rw [show win0_5.index t 2 = 0 from (index5 t).2.2.1]
    show 0 * 8 + y2.val = y2.val
    omega
  | ⟨3, _⟩ =>
    refine (Pipeline.Window.rect_emb_val win0_5 t (ix4 y0 y1 y2 y3) 3).trans ?_
    rw [show win0_5.index t 3 = 0 from (index5 t).2.2.2]
    show 0 * 512 + y3.val = y3.val
    omega

theorem index6 : ∀ t : Fin cfg0.N, (cfg0.win 6).index t 0 = t.val % 16 ∧ (cfg0.win 6).index t 1 = t.val / 16 := by decide
theorem x6_at (c : Dev nD) (t : Fin cfg0.N) (y0 : Fin 512) (y1 : Fin 512) :
    (iblk m c 6 t : FVec Ideal S512x512 .bf16) (ix2 y0 y1) = V m c main_v45 (ix2 ⟨512 * (t.val % 16) + y0.val, by omega⟩ ⟨512 * (t.val / 16) + y1.val, by have := group_lt t; omega⟩) := by
  unfold iblk
  rw [View.read_apply]
  refine congrArg (V m c main_v45) (funext fun a => Fin.ext ?_)
  match a with
  | ⟨0, _⟩ =>
    refine (Pipeline.Window.rect_emb_val win0_6 t (ix2 y0 y1) 0).trans ?_
    rw [show win0_6.index t 0 = t.val % 16 from (index6 t).1]
    show (t.val % 16) * 512 + y0.val = 512 * (t.val % 16) + y0.val
    omega
  | ⟨1, _⟩ =>
    refine (Pipeline.Window.rect_emb_val win0_6 t (ix2 y0 y1) 1).trans ?_
    rw [show win0_6.index t 1 = t.val / 16 from (index6 t).2]
    show (t.val / 16) * 512 + y1.val = 512 * (t.val / 16) + y1.val
    omega

theorem index7 : ∀ t : Fin cfg0.N, (cfg0.win 7).index t 0 = t.val % 16 ∧ (cfg0.win 7).index t 1 = t.val / 16 ∧ (cfg0.win 7).index t 2 = 0 := by decide
theorem x7_at (c : Dev nD) (t : Fin cfg0.N) (y0 : Fin 1) (y1 : Fin 512) (y2 : Fin 512) :
    (iblk m c 7 t : FVec Ideal S1x512x512 .bf16) (ix3 y0 y1 y2) = V m c main_v51 (ix3 ⟨1 * (t.val % 16) + y0.val, by omega⟩ ⟨512 * (t.val / 16) + y1.val, by have := group_lt t; omega⟩ y2) := by
  unfold iblk
  rw [View.read_apply]
  refine congrArg (V m c main_v51) (funext fun a => Fin.ext ?_)
  match a with
  | ⟨0, _⟩ =>
    refine (Pipeline.Window.rect_emb_val win0_7 t (ix3 y0 y1 y2) 0).trans ?_
    rw [show win0_7.index t 0 = t.val % 16 from (index7 t).1]
    show (t.val % 16) * 1 + y0.val = 1 * (t.val % 16) + y0.val
    omega
  | ⟨1, _⟩ =>
    refine (Pipeline.Window.rect_emb_val win0_7 t (ix3 y0 y1 y2) 1).trans ?_
    rw [show win0_7.index t 1 = t.val / 16 from (index7 t).2.1]
    show (t.val / 16) * 512 + y1.val = 512 * (t.val / 16) + y1.val
    omega
  | ⟨2, _⟩ =>
    refine (Pipeline.Window.rect_emb_val win0_7 t (ix3 y0 y1 y2) 2).trans ?_
    rw [show win0_7.index t 2 = 0 from (index7 t).2.2]
    show 0 * 512 + y2.val = y2.val
    omega

theorem index8 : ∀ t : Fin cfg0.N, (cfg0.win 8).index t 0 = t.val % 16 ∧ (cfg0.win 8).index t 1 = t.val / 16 := by decide
theorem x8_at (c : Dev nD) (t : Fin cfg0.N) (y0 : Fin 512) (y1 : Fin 256) :
    (iblk m c 8 t : FVec Ideal S512x256 .bf16) (ix2 y0 y1) = V m c main_v53 (ix2 ⟨512 * (t.val % 16) + y0.val, by omega⟩ ⟨256 * (t.val / 16) + y1.val, by have := group_lt t; omega⟩) := by
  unfold iblk
  rw [View.read_apply]
  refine congrArg (V m c main_v53) (funext fun a => Fin.ext ?_)
  match a with
  | ⟨0, _⟩ =>
    refine (Pipeline.Window.rect_emb_val win0_8 t (ix2 y0 y1) 0).trans ?_
    rw [show win0_8.index t 0 = t.val % 16 from (index8 t).1]
    show (t.val % 16) * 512 + y0.val = 512 * (t.val % 16) + y0.val
    omega
  | ⟨1, _⟩ =>
    refine (Pipeline.Window.rect_emb_val win0_8 t (ix2 y0 y1) 1).trans ?_
    rw [show win0_8.index t 1 = t.val / 16 from (index8 t).2]
    show (t.val / 16) * 256 + y1.val = 256 * (t.val / 16) + y1.val
    omega

end Cert.KernelIdeal.Flash

end
-- ==== Proof.Host.lean ====
/-
  What the program hands to the call: each operand array, computed on the host from the four arguments.
-/
module

public import proofs.«01_k».proof.Proof.Gen.KernelIdeal.Frame
public import Idealize.ShloMosaic.Lib.Claim
public import Idealize.ShloMosaic.Lib.Pointwise.Tactic

@[expose] public section

set_option maxHeartbeats 4000000
set_option maxRecDepth 100000

noncomputable section

namespace Cert.KernelIdeal.Flash

open Cert.KernelIdeal Cert.KernelIdeal.Gen Idealize.ShloMosaic Idealize.ShloMosaic.TcCoe Idealize.SL.Sem

/-- Queries or keys, values or incoming gradients, as the program receives them. -/
abbrev Wide := (⟨S8192x8x192, .bf16⟩ : BufTy).Contents (Elt Ideal)
abbrev Slim := (⟨S8192x8x128, .bf16⟩ : BufTy).Contents (Elt Ideal)

/-- Causal scores: the scaled products where the key is not after the query, -∞ elsewhere. -/
def scores (x0 x1 : Wide) : FVec Ideal S8x8192x8192 .f32 :=
  select (broadcastInDim S8x8192x8192 ![1, 2] bcast_S8192x8192_S8x8192x8192_1_2
      (cmpi .sle (broadcastInDim S8192x8192 ![0, 1] bcast_S1x8192_S8192x8192_0_1
          (broadcastInDim S1x8192 ![1] bcast_S8192_S1x8192_1 (iotaInDim S8192 32 0)))
        (broadcastInDim S8192x8192 ![0, 1] bcast_S8192x1_S8192x8192_0_1
          (broadcastInDim S8192x1 ![0] bcast_S8192_S8192x1_0 (iotaInDim S8192 32 0)))))
    (mulf (Host.dotGeneral dot_S8192x8x192_S8192x8x192_S8x8192x8192_2_2_0_0_1_1 none
        (extf .f32 x0 bitsLt_bf16_f32) (extf .f32 x1 bitsLt_bf16_f32))
      (broadcastInDim S8x8192x8192 ![] bcast_S_S8x8192x8192 (constant (F := Ideal) S_ .f32 0x3D93CD3A#32)))
    (broadcastInDim S8x8192x8192 ![] bcast_S_S8x8192x8192 (constant (F := Ideal) S_ .f32 0xFF800000#32))

/-- The greatest score of each query. -/
def best (x0 x1 : Wide) : FVec Ideal S8x8192 .f32 :=
  Host.reduce FloatOps.maximumf (scores x0 x1) (constant (F := Ideal) S_ .f32 0xFF800000#32) reducesTo_S8x8192x8192_S8x8192_d2 h_S_

/-- The exponentials of the scores, less each query's greatest. -/
def weights (x0 x1 : Wide) : FVec Ideal S8x8192x8192 .f32 :=
  Host.exp (subf (scores x0 x1) (broadcastInDim S8x8192x8192 ![0, 1, 2] bcast_S8x8192x1_S8x8192x8192_0_1_2
    (broadcastInDim S8x8192x1 ![0, 1] bcast_S8x8192_S8x8192x1_0_1 (best x0 x1))))

/-- The sum of each query's exponentials. -/
def total (x0 x1 : Wide) : FVec Ideal S8x8192 .f32 :=
  Host.reduceAdd (weights x0 x1) (constant (F := Ideal) S_ .f32 0x00000000#32) reducesTo_S8x8192x8192_S8x8192_d2 h_S_

/-- The logarithm, to base two, of each query's sum of exponentials. -/
def logTotal (x0 x1 : Wide) : FVec Ideal S8x8192 .f32 :=
  Host.divf (addf (best x0 x1) (Host.log (total x0 x1)))
    (broadcastInDim S8x8192 ![] bcast_S_S8x8192 (Host.log (constant (F := Ideal) S_ .f32 0x40000000#32)))

/-- The attention's output. -/
def output (x0 x1 : Wide) (x2 : Slim) : FVec Ideal S8192x8x128 .f32 :=
  transpose S8192x8x128 [2, 0, 1] (Host.dotGeneral dot_S8192x8x128_S8x8192x8192_S8x128x8192_0_2_2_1_1_0 none
    (extf .f32 x2 bitsLt_bf16_f32)
    (Host.divf (weights x0 x1) (broadcastInDim S8x8192x8192 ![0, 1, 2] bcast_S8x8192x1_S8x8192x8192_0_1_2
      (broadcastInDim S8x8192x1 ![0, 1] bcast_S8x8192_S8x8192x1_0_1 (total x0 x1)))))
    transposes_S8x128x8192_S8192x8x128_2_0_1

/-- The products of output and incoming gradient, summed over the lanes. -/
def delta (x0 x1 : Wide) (x2 x3 : Slim) : FVec Ideal S8x8192 .f32 :=
  transpose S8x8192 [1, 0] (Host.reduceAdd (mulf (extf .f32 x3 bitsLt_bf16_f32) (output x0 x1 x2))
    (constant (F := Ideal) S_ .f32 0x00000000#32) reducesTo_S8192x8x128_S8192x8_d2 h_S_) transposes_S8192x8_S8x8192_1_0

/-- A value per query in the layout the call reads. -/
def perRow (z : FVec Ideal S8x8192 .f32) : FVec Ideal S8x16x8x512 .f32 :=
  broadcastInDim S8x16x8x512 ![0, 1, 2, 3] bcast_S8x16x1x512_S8x16x8x512_0_1_2_3
    (shapeCast S8x16x1x512 z shapeCasts_S8x8192_S8x16x1x512)

/-- 192 lanes padded to 256 by zeros, the heads side by side. -/
def padded (z : FVec Ideal S8192x8x192 .f32) : FVec Ideal S8192x2048 .bf16 :=
  truncf .bf16 (shapeCast S8192x2048 (pad S8192x8x256 ![0, 0, 0] ![0, 0, 64] ![0, 0, 0] z
    (sitofp (F := Ideal) .f32 (constantI S_ 32 0#32)) pads_S8192x8x192_S8192x8x256_000_000_0640 h_S_)
    shapeCasts_S8192x8x256_S8192x2048) bitsLt_bf16_f32

/-- The queries, scaled for exponentials to base two. -/
def queries (x0 : Wide) : FVec Ideal S8192x8x192 .f32 :=
  Host.divf (mulf (extf .f32 x0 bitsLt_bf16_f32)
      (broadcastInDim S8192x8x192 ![] bcast_S_S8192x8x192 (constant (F := Ideal) S_ .f32 0x3D93CD3A#32)))
    (broadcastInDim S8192x8x192 ![] bcast_S_S8192x8x192 (Host.log (constant (F := Ideal) S_ .f32 0x40000000#32)))

/-- Blocks of 512 rows of 2048, each transposed. -/
def turned (z : FVec Ideal S8192x2048 .bf16) : FVec Ideal S16x2048x512 .bf16 :=
  transpose S16x2048x512 [0, 2, 1] (shapeCast S16x512x2048 z shapeCasts_S8192x2048_S16x512x2048) transposes_S16x512x2048_S16x2048x512_0_2_1

/-- Blocks of 512 rows of 1024, each transposed. -/
def turnedSlim (z : FVec Ideal S8192x1024 .bf16) : FVec Ideal S16x1024x512 .bf16 :=
  transpose S16x1024x512 [0, 2, 1] (shapeCast S16x512x1024 z shapeCasts_S8192x1024_S16x512x1024) transposes_S16x512x1024_S16x1024x512_0_2_1

/-- Values or incoming gradients, the heads side by side. -/
def flat (x : Slim) : FVec Ideal S8192x1024 .bf16 :=
  truncf .bf16 (shapeCast S8192x1024 (extf (F := Ideal) .f32 x bitsLt_bf16_f32) shapeCasts_S8192x8x128_S8192x1024) bitsLt_bf16_f32

variable (m : (ℓ : Loc nD τ sig) → Buf (Elt Ideal) ℓ) (c : Dev nD)

/-- The four arguments on a device. -/
def argQ : Wide := m ((c : Thread nD τ).loc main_arg0)
def argK : Wide := m ((c : Thread nD τ).loc main_arg1)
def argV : Slim := m ((c : Thread nD τ).loc main_arg2)
def argG : Slim := m ((c : Thread nD τ).loc main_arg3)

theorem V_q : V m c main_v42 = padded (queries (argQ m c)) := by
  simp only [V, hostOps0, hostOps0_1, hostOps0_2, hostOps0_3, hostOps0_4, hostOps0_5, hostOps0_6, List.flatten_cons,
    List.flatten_nil, List.cons_append, List.nil_append, List.append_nil]
  entry_read
  rfl

theorem V_qt : V m c main_v49 = turned (padded (queries (argQ m c))) := by
  simp only [V, hostOps0, hostOps0_1, hostOps0_2, hostOps0_3, hostOps0_4, hostOps0_5, hostOps0_6, List.flatten_cons,
    List.flatten_nil, List.cons_append, List.nil_append, List.append_nil]
  entry_read
  rfl

theorem V_k : V m c main_v45 = padded (extf .f32 (argK m c) bitsLt_bf16_f32) := by
  simp only [V, hostOps0, hostOps0_1, hostOps0_2, hostOps0_3, hostOps0_4, hostOps0_5, hostOps0_6, List.flatten_cons,
    List.flatten_nil, List.cons_append, List.nil_append, List.append_nil]
  entry_read
  rfl

theorem V_kt : V m c main_v51 = turned (padded (extf .f32 (argK m c) bitsLt_bf16_f32)) := by
  simp only [V, hostOps0, hostOps0_1, hostOps0_2, hostOps0_3, hostOps0_4, hostOps0_5, hostOps0_6, List.flatten_cons,
    List.flatten_nil, List.cons_append, List.nil_append, List.append_nil]
  entry_read
  rfl

theorem V_v : V m c main_v53 = flat (argV m c) := by
  simp only [V, hostOps0, hostOps0_1, hostOps0_2, hostOps0_3, hostOps0_4, hostOps0_5, hostOps0_6, List.flatten_cons,
    List.flatten_nil, List.cons_append, List.nil_append, List.append_nil]
  entry_read
  rfl

theorem V_g : V m c main_v47 = flat (argG m c) := by
  simp only [V, hostOps0, hostOps0_1, hostOps0_2, hostOps0_3, hostOps0_4, hostOps0_5, hostOps0_6, List.flatten_cons,
    List.flatten_nil, List.cons_append, List.nil_append, List.append_nil]
  entry_read
  rfl

theorem V_gt : V m c main_v55 = turnedSlim (flat (argG m c)) := by
  simp only [V, hostOps0, hostOps0_1, hostOps0_2, hostOps0_3, hostOps0_4, hostOps0_5, hostOps0_6, List.flatten_cons,
    List.flatten_nil, List.cons_append, List.nil_append, List.append_nil]
  entry_read
  rfl

theorem V_lse : V m c main_v57 = perRow (logTotal (argQ m c) (argK m c)) := by
  simp only [V, hostOps0, hostOps0_1, hostOps0_2, hostOps0_3, hostOps0_4, hostOps0_5, hostOps0_6, List.flatten_cons,
    List.flatten_nil, List.cons_append, List.nil_append, List.append_nil]
  entry_read
  rfl

theorem V_delta : V m c main_v59 = perRow (delta (argQ m c) (argK m c) (argV m c) (argG m c)) := by
  simp only [V, hostOps0, hostOps0_1, hostOps0_2, hostOps0_3, hostOps0_4, hostOps0_5, hostOps0_6, List.flatten_cons,
    List.flatten_nil, List.cons_append, List.nil_append, List.append_nil]
  entry_read
  rfl

end Cert.KernelIdeal.Flash

end
-- ==== Proof.HostRead.lean ====
/-
  The call's operand arrays at an index, where the four arguments are real numbers.
-/
module

public import proofs.«01_k».proof.Proof.Host
public import proofs.«01_k».proof.Proof.Attention
public import Idealize.ShloMosaic.Lib.Pointwise
public import Idealize.ShloMosaic.Lib.WordCmp

@[expose] public section

set_option maxHeartbeats 4000000
set_option maxRecDepth 100000

noncomputable section

namespace Cert.KernelIdeal.Flash

open Cert.KernelIdeal Cert.KernelIdeal.Gen Idealize.ShloMosaic Idealize.ShloMosaic.TcCoe Idealize.SL.Sem

theorem scores_at (x0 x1 : Wide) (h : Fin 8) (i j : Fin 8192) : scores x0 x1 (ix3 h i j) =
    Scalar.select (IntOp.cmpi CmpIPredicate.sle (BitVec.ofNat 32 j.val) (BitVec.ofNat 32 i.val))
      ((∑ x, x0 (ix3 i h x) * x1 (ix3 j h x)) * Ideal.ofBits FTy.f32 0x3D93CD3A#32) (Ideal.ofBits FTy.f32 0xFF800000#32) := by
  pointwise [scores, dot_S8192x8x192_S8192x8x192_S8x8192x8192_2_2_0_0_1_1]
theorem best_at (x0 x1 : Wide) (h : Fin 8) (i : Fin 8192) : best x0 x1 (ix2 h i) =
    Finset.fold max (Ideal.ofBits FTy.f32 0xFF800000#32) (fun x => scores x0 x1 (ix3 h i x)) Finset.univ := by
  pointwise [best]
theorem weights_at (x0 x1 : Wide) (h : Fin 8) (i j : Fin 8192) : weights x0 x1 (ix3 h i j) =
    Ideal.exp (scores x0 x1 (ix3 h i j) - best x0 x1 (ix2 h i)) := by
  pointwise [weights]
theorem total_at (x0 x1 : Wide) (h : Fin 8) (i : Fin 8192) : total x0 x1 (ix2 h i) = ∑ x, weights x0 x1 (ix3 h i x) := by
  pointwise [total]
theorem output_at (x0 x1 : Wide) (x2 : Slim) (h : Fin 8) (i : Fin 8192) (d : Fin 128) : output x0 x1 x2 (ix3 i h d) =
    ∑ x, x2 (ix3 x h d) * Ideal.div (weights x0 x1 (ix3 h i x)) (total x0 x1 (ix2 h i)) := by
  pointwise [output, dot_S8192x8x128_S8x8192x8192_S8x128x8192_0_2_2_1_1_0]
theorem delta_at (x0 x1 : Wide) (x2 x3 : Slim) (h : Fin 8) (i : Fin 8192) : delta x0 x1 x2 x3 (ix2 h i) =
    ∑ x, x3 (ix3 i h x) * output x0 x1 x2 (ix3 i h x) := by
  pointwise [delta]
theorem perRow_at (z : FVec Ideal S8x8192 .f32) (h : Fin 8) (a : Fin 16) (r : Fin 8) (b : Fin 512) :
    perRow z (ix4 h a r b) = z (ix2 h (Attention.at512 a b)) := by
  pointwise [perRow, Attention.at512]
  simp only [Nat.mul_comm]
theorem padded_at (z : FVec Ideal S8192x8x192 .f32) (i : Fin 8192) (y : Fin 2048) : padded z (ix2 i y) =
    if p : y.val % 256 < 192 then z (ix3 i ⟨y.val / 256, by omega⟩ ⟨y.val % 256, p⟩) else 0 := by
  pointwise [padded]
  split
  · next h => rw [dif_pos h.2]
  · next h => rw [dif_neg (fun p => h ⟨by omega, p⟩)]; show (((0#32 : BitVec 32).toInt : ℝ) : EReal) = 0; simp
theorem queries_at (z : Wide) (i : Fin 8192) (h : Fin 8) (d : Fin 192) : queries z (ix3 i h d) =
    Ideal.div (z (ix3 i h d) * Ideal.ofBits FTy.f32 0x3D93CD3A#32) (Ideal.log (Ideal.ofBits FTy.f32 0x40000000#32)) := by
  pointwise [queries]
theorem turned_at (z) (a : Fin 16) (y : Fin 2048) (b : Fin 512) : turned z (ix3 a y b) = z (ix2 (Attention.at512 a b) y) := by
  pointwise [turned, Attention.at512]
  simp only [Nat.mul_comm]
theorem turnedSlim_at (z) (a : Fin 16) (y : Fin 1024) (b : Fin 512) : turnedSlim z (ix3 a y b) = z (ix2 (Attention.at512 a b) y) := by
  pointwise [turnedSlim, Attention.at512]
  simp only [Nat.mul_comm]
theorem flat_at (z : Slim) (i : Fin 8192) (y : Fin 1024) : flat z (ix2 i y) = z (ix3 i ⟨y.val / 128, by omega⟩ ⟨y.val % 128, by omega⟩) := by
  pointwise [flat]

theorem hostDivf_at {s : Shape} (x y : FVec Ideal s .f32) (i : s.Idx) : Host.divf x y i = Ideal.div (x i) (y i) := rfl
theorem addf_at {s : Shape} (x y : FVec Ideal s .f32) (i : s.Idx) : addf x y i = (x i + y i : EReal) := rfl
theorem hostLog_at {s : Shape} (x : FVec Ideal s .f32) (i : s.Idx) : Host.log x i = Ideal.log (x i) := rfl

theorem logTotal_at (x0 x1 : Wide) (h : Fin 8) (i : Fin 8192) : logTotal x0 x1 (ix2 h i) =
    Ideal.div (best x0 x1 (ix2 h i) + Ideal.log (total x0 x1 (ix2 h i))) (Ideal.log (Ideal.ofBits FTy.f32 0x40000000#32)) := by
  unfold logTotal
  generalize best x0 x1 = b
  generalize total x0 x1 = l
  rw [hostDivf_at, addf_at, hostLog_at, broadcastInDim_apply _ bcast_S_S8x8192 _ (ix2 h i) (fun a => a.elim0) (fun a => a.elim0), hostLog_at]
  rfl

end Cert.KernelIdeal.Flash

end
-- ==== Proof.Consts.lean ====
/-
  The numbers the two programs name by their 32-bit words.
-/
module

public import proofs.«01_k».proof.Proof.Attention
public import Idealize.ShloMosaic.Lib.Pointwise
public import Idealize.ShloMosaic.Lib.WordCmp

@[expose] public section

noncomputable section

namespace Cert.Attention

open Idealize.ShloMosaic

/-- The factor of the scores: the 32-bit number nearest to one over the root of 192. -/
def scale : ℝ := 9686330 * 2 ^ (-27 : Int)

theorem scale_ne : scale ≠ 0 := by unfold scale; positivity

theorem ofBits_scale : Ideal.ofBits .f32 0x3D93CD3A#32 = (scale : EReal) := by
  simp [Ideal.ofBits, Ideal.ieee, scale, -EReal.coe_mul]; try norm_num

theorem ofBits_two : Ideal.ofBits .f32 0x40000000#32 = ((2 : ℝ) : EReal) := by
  simp [Ideal.ofBits, Ideal.ieee, -EReal.coe_mul]; try norm_num

theorem ofBits_bot : Ideal.ofBits .f32 0xFF800000#32 = (⊥ : EReal) := by
  simp [Ideal.ofBits, Ideal.ieee]

theorem log_two : Ideal.log (Ideal.ofBits .f32 0x40000000#32) = ((Real.log 2 : ℝ) : EReal) := by
  rw [ofBits_two, Ideal.log_coe, if_neg (by norm_num)]

theorem log_pos {r : ℝ} (h : 0 < r) : Ideal.log (r : EReal) = ((Real.log r : ℝ) : EReal) := by
  rw [Ideal.log_coe, if_neg (not_le.mpr h)]

/-- A real number divided by a real number that is not zero. -/
theorem div_real {x y : ℝ} (h : y ≠ 0) : Ideal.div (x : EReal) (y : EReal) = ((x / y : ℝ) : EReal) := by
  rw [Ideal.div_coe h, ← EReal.coe_mul, mul_one_div]

/-- The choice by the comparison of two positions. -/
theorem causal_sel {α : Type} (i j : Fin 8192) (x y : α) :
    Scalar.select (IntOp.cmpi .sle (BitVec.ofNat 32 j.val) (BitVec.ofNat 32 i.val)) x y = if j ≤ i then x else y := by
  rw [WordCmp.cmpi_sle_ofNat (by omega) (by omega)]
  by_cases hb : j.val ≤ i.val
  · rw [if_pos (show j ≤ i from hb)]; simp [Scalar.select, hb]
  · rw [if_neg (show ¬ j ≤ i from hb)]; simp [Scalar.select, hb]

end Cert.Attention

end
-- ==== Proof.HostReal.lean ====
/-
  The call's operand arrays where the four arguments are real numbers: each is a function of Attention.lean.
-/
module

public import proofs.«01_k».proof.Proof.HostRead
public import proofs.«01_k».proof.Proof.Consts

@[expose] public section

set_option maxRecDepth 100000

noncomputable section

namespace Cert.KernelIdeal.Flash

open Cert.KernelIdeal Cert.KernelIdeal.Gen Idealize.ShloMosaic Idealize.ShloMosaic.TcCoe Cert.Attention

/-- Arrays of real numbers as the program's arguments. -/
def wideOf (X : Attention.Wide) : Wide := fun i => ((X (i 0) (i 1) (i 2) : ℝ) : EReal)
def slimOf (X : Attention.Slim) : Slim := fun i => ((X (i 0) (i 1) (i 2) : ℝ) : EReal)

theorem wideOf_at (X : Attention.Wide) (i : Fin 8192) (h : Fin 8) (d : Fin 192) : wideOf X (ix3 i h d) = ((X i h d : ℝ) : EReal) := rfl
theorem slimOf_at (X : Attention.Slim) (i : Fin 8192) (h : Fin 8) (d : Fin 128) : slimOf X (ix3 i h d) = ((X i h d : ℝ) : EReal) := rfl

variable (Q K : Attention.Wide) (V G : Attention.Slim)

theorem scores_real (h : Fin 8) (i j : Fin 8192) : scores (wideOf Q) (wideOf K) (ix3 h i j) =
    if j ≤ i then ((score scale Q K h i j : ℝ) : EReal) else ⊥ := by
  rw [scores_at, causal_sel, ofBits_bot, ofBits_scale,
    sum_coe (fun d => Q i h d * K j h d) (fun d => by rw [wideOf_at, wideOf_at, EReal.coe_mul]), ← EReal.coe_mul]
  rfl

theorem best_real (h : Fin 8) (i : Fin 8192) : ∃ M : ℝ, best (wideOf Q) (wideOf K) (ix2 h i) = (M : EReal) := by
  rw [best_at, ofBits_bot]
  refine fold_max_real _ (fun j => ?_) i ?_
  · rw [scores_real]; split
    · exact EReal.coe_ne_top _
    · exact bot_ne_top
  · rw [scores_real, if_pos le_rfl]; exact EReal.coe_ne_bot _

theorem weights_real {M : ℝ} {h : Fin 8} {i : Fin 8192} (hM : best (wideOf Q) (wideOf K) (ix2 h i) = (M : EReal)) (j : Fin 8192) :
    weights (wideOf Q) (wideOf K) (ix3 h i j) = ((if j ≤ i then Real.exp (score scale Q K h i j - M) else 0 : ℝ) : EReal) := by
  rw [weights_at, hM, scores_real]
  split
  · rw [← EReal.coe_sub, Ideal.exp_coe]
  · rw [EReal.bot_sub, Ideal.exp_bot, EReal.coe_zero]

theorem total_real {M : ℝ} {h : Fin 8} {i : Fin 8192} (hM : best (wideOf Q) (wideOf K) (ix2 h i) = (M : EReal)) :
    total (wideOf Q) (wideOf K) (ix2 h i) = ((denom scale Q K h i * Real.exp (-M) : ℝ) : EReal) := by
  rw [total_at, sum_coe _ (weights_real Q K hM), shifted_sum]

theorem prob_real (h : Fin 8) (i j : Fin 8192) :
    Ideal.div (weights (wideOf Q) (wideOf K) (ix3 h i j)) (total (wideOf Q) (wideOf K) (ix2 h i)) = ((prob scale Q K h i j : ℝ) : EReal) := by
  obtain ⟨M, hM⟩ := best_real Q K h i
  rw [weights_real Q K hM, total_real Q K hM, div_real (shifted_pos scale Q K M h i).ne', shifted_prob]

theorem logTotal_real (h : Fin 8) (i : Fin 8192) :
    logTotal (wideOf Q) (wideOf K) (ix2 h i) = ((Real.log (denom scale Q K h i) * (1 / Real.log 2) : ℝ) : EReal) := by
  obtain ⟨M, hM⟩ := best_real Q K h i
  rw [logTotal_at, hM, total_real Q K hM, log_pos (shifted_pos scale Q K M h i), ← EReal.coe_add, shifted_log, log_two,
    div_real log2_pos.ne', mul_one_div]

theorem output_real (h : Fin 8) (i : Fin 8192) (d : Fin 128) :
    output (wideOf Q) (wideOf K) (slimOf V) (ix3 i h d) = ((out scale Q K V h i d : ℝ) : EReal) := by
  rw [output_at, sum_coe (fun j => V j h d * prob scale Q K h i j) (fun j => by rw [slimOf_at, prob_real, EReal.coe_mul])]
  rfl

theorem delta_real (h : Fin 8) (i : Fin 8192) :
    delta (wideOf Q) (wideOf K) (slimOf V) (slimOf G) (ix2 h i) = ((del scale Q K V G h i : ℝ) : EReal) := by
  rw [delta_at, sum_coe (fun d => G i h d * out scale Q K V h i d) (fun d => by rw [slimOf_at, output_real, EReal.coe_mul])]
  rfl

theorem queries_real (i : Fin 8192) (h : Fin 8) (d : Fin 192) :
    queries (wideOf Q) (ix3 i h d) = ((base2 scale Q i h d : ℝ) : EReal) := by
  rw [queries_at, wideOf_at, ofBits_scale, log_two, ← EReal.coe_mul, div_real log2_pos.ne', ← mul_one_div]
  rfl

/-- A padded array at a head and a lane. -/
theorem padded_real (z : FVec Ideal S8192x8x192 .f32) (X : Attention.Wide)
    (hz : ∀ i h d, z (ix3 i h d) = ((X i h d : ℝ) : EReal)) (i : Fin 8192) (h : Fin 8) (y : Fin 256) :
    padded z (ix2 i ⟨256 * h.val + y.val, by omega⟩) = ((padRow X i h y : ℝ) : EReal) := by
  rw [padded_at]
  have e1 : (256 * h.val + y.val) / 256 = h.val := by omega
  have e2 : (256 * h.val + y.val) % 256 = y.val := by omega
  unfold padRow
  by_cases p : y.val < 192
  · rw [dif_pos p, dif_pos (by show (256 * h.val + y.val) % 256 < 192; omega), hz]
    simp only [e1, e2]
  · rw [dif_neg p, dif_neg (by show ¬ (256 * h.val + y.val) % 256 < 192; omega), EReal.coe_zero]

theorem flat_real (X : Attention.Slim) (i : Fin 8192) (h : Fin 8) (d : Fin 128) :
    flat (slimOf X) (ix2 i ⟨128 * h.val + d.val, by omega⟩) = ((X i h d : ℝ) : EReal) := by
  rw [flat_at, slimOf_at]
  have e1 : (128 * h.val + d.val) / 128 = h.val := by omega
  have e2 : (128 * h.val + d.val) % 128 = d.val := by omega
  simp only [e1, e2]

end Cert.KernelIdeal.Flash

end
-- ==== Proof.BlockReal.lean ====
/-
  What the body computes at a point, where the four arguments are real numbers: its shares of the three gradients.
-/
module

public import proofs.«01_k».proof.Proof.Blocks
public import proofs.«01_k».proof.Proof.HostReal

@[expose] public section
set_option maxRecDepth 16384
noncomputable section
namespace Cert.KernelIdeal.Flash
open Idealize.ShloMosaic Idealize.ShloMosaic.TcCoe Cert.KernelIdeal Cert.KernelIdeal.Gen
open Cert.Attention (scale at512 padRow base2 sum_coe)

/-- The head that the point's body calls `e`, and the point's key block. -/
def hd (t : Fin cfg0.N) (e : Fin 2) : Fin 8 := ⟨2 * (t.val / 16) + e.val, by have := group_lt t; omega⟩
def kb (t : Fin cfg0.N) : Fin 16 := ⟨t.val % 16, by omega⟩

theorem hd_lane (t : Fin cfg0.N) (e : Fin 2) (y : Fin 256) (p) : (⟨512 * (t.val / 16) + (lane e y).val, p⟩ : Fin 2048)
    = ⟨256 * (hd t e).val + y.val, by have := (hd t e).isLt; omega⟩ := Fin.ext (by simp only [lane, hd]; omega)
theorem hd_vlane (t : Fin cfg0.N) (e : Fin 2) (y : Fin 128) (p) : (⟨256 * (t.val / 16) + (vlane e y).val, p⟩ : Fin 1024)
    = ⟨128 * (hd t e).val + y.val, by have := (hd t e).isLt; omega⟩ := Fin.ext (by simp only [vlane, hd]; omega)
theorem hd_two (t : Fin cfg0.N) (e : Fin 2) (p) : (⟨2 * (t.val / 16) + e.val, p⟩ : Fin 8) = hd t e := rfl
theorem kb_row (t : Fin cfg0.N) (r : Fin 512) (p) : (⟨512 * (t.val % 16) + r.val, p⟩ : Fin 8192) = at512 (kb t) r := rfl
theorem kb_one (t : Fin cfg0.N) (p) : (⟨1 * (t.val % 16) + (0 : Fin 1).val, p⟩ : Fin 16) = kb t := Fin.ext (by simp [kb])

variable {m : (ℓ : Loc nD τ sig) → Buf (Elt Ideal) ℓ} {c : Dev nD} {Q K : Attention.Wide} {V G : Attention.Slim}

section
variable (hQ : argQ m c = wideOf Q) (t : Fin cfg0.N) (e : Fin 2) (a : Fin 16) (i : Fin 8192) (b r : Fin 512) (y : Fin 256) (d : Fin 128)
include hQ

theorem b0 : (iblk m c 0 t : FVec Ideal S8192x512 .bf16) (ix2 i (lane e y)) = ((padRow (base2 scale Q) i (hd t e) y : ℝ) : EReal) := by
  rw [x0_at, V_q, hQ, hd_lane, padded_real _ (base2 scale Q) (queries_real Q)]
theorem b1 : (iblk m c 1 t : FVec Ideal S16x512x512 .bf16) (ix3 a (lane e y) b) = ((padRow (base2 scale Q) (at512 a b) (hd t e) y : ℝ) : EReal) := by
  rw [x1_at, V_qt, hQ, turned_at, hd_lane, padded_real _ (base2 scale Q) (queries_real Q)]
end

section
variable (hG : argG m c = slimOf G) (t : Fin cfg0.N) (e : Fin 2) (a : Fin 16) (i : Fin 8192) (b r : Fin 512) (d : Fin 128)
include hG

theorem b2 : (iblk m c 2 t : FVec Ideal S8192x256 .bf16) (ix2 i (vlane e d)) = ((G i (hd t e) d : ℝ) : EReal) := by
  rw [x2_at, V_g, hG, hd_vlane, flat_real]
theorem b3 : (iblk m c 3 t : FVec Ideal S16x256x512 .bf16) (ix3 a (vlane e d) b) = ((G (at512 a b) (hd t e) d : ℝ) : EReal) := by
  rw [x3_at, V_gt, hG, turnedSlim_at, hd_vlane, flat_real]
end

theorem b4 (hQ : argQ m c = wideOf Q) (hK : argK m c = wideOf K) (t : Fin cfg0.N) (e : Fin 2) (a : Fin 16) (b : Fin 512) :
    (iblk m c 4 t : FVec Ideal S2x16x8x512 .f32) (ix4 e a 0 b)
      = ((Real.log (Attention.denom scale Q K (hd t e) (at512 a b)) * (1 / Real.log 2) : ℝ) : EReal) := by
  rw [x4_at, V_lse, hQ, hK, perRow_at, hd_two, logTotal_real]
theorem b5 (hQ : argQ m c = wideOf Q) (hK : argK m c = wideOf K) (hV : argV m c = slimOf V) (hG : argG m c = slimOf G)
    (t : Fin cfg0.N) (e : Fin 2) (a : Fin 16) (b : Fin 512) :
    (iblk m c 5 t : FVec Ideal S2x16x8x512 .f32) (ix4 e a 0 b) = ((Attention.del scale Q K V G (hd t e) (at512 a b) : ℝ) : EReal) := by
  rw [x5_at, V_delta, hQ, hK, hV, hG, perRow_at, hd_two, delta_real]

theorem keys_real (z : FVec Ideal S8192x8x192 .f32) (hz : z = extf .f32 (wideOf K) bitsLt_bf16_f32) (i : Fin 8192) (h : Fin 8) (d : Fin 192) :
    z (ix3 i h d) = ((K i h d : ℝ) : EReal) := by rw [hz]; rfl

theorem b6 (hK : argK m c = wideOf K) (t : Fin cfg0.N) (e : Fin 2) (r : Fin 512) (y : Fin 256) :
    (iblk m c 6 t : FVec Ideal S512x512 .bf16) (ix2 r (lane e y)) = ((padRow K (at512 (kb t) r) (hd t e) y : ℝ) : EReal) := by
  rw [x6_at, V_k, hK, hd_lane, kb_row, padded_real _ K (keys_real _ rfl)]
theorem b7 (hK : argK m c = wideOf K) (t : Fin cfg0.N) (e : Fin 2) (r : Fin 512) (y : Fin 256) :
    (iblk m c 7 t : FVec Ideal S1x512x512 .bf16) (ix3 0 (lane e y) r) = ((padRow K (at512 (kb t) r) (hd t e) y : ℝ) : EReal) := by
  rw [x7_at, V_kt, hK, turned_at, hd_lane, kb_one, padded_real _ K (keys_real _ rfl)]
theorem b8 (hV : argV m c = slimOf V) (t : Fin cfg0.N) (e : Fin 2) (r : Fin 512) (d : Fin 128) :
    (iblk m c 8 t : FVec Ideal S512x256 .bf16) (ix2 r (vlane e d)) = ((V (at512 (kb t) r) (hd t e) d : ℝ) : EReal) := by
  rw [x8_at, V_v, hV, hd_vlane, kb_row, flat_real]

section
variable (hQ : argQ m c = wideOf Q) (hK : argK m c = wideOf K) (t : Fin cfg0.N) (e : Fin 2) (a : Fin 16) (b r : Fin 512)
include hQ hK

theorem prob_block : prob (keys (iblk m c 6 t)) (iblk m c 1 t) (iblk m c 4 t) (grid0.coords t 1).val e a r b
    = ((Attention.prob scale Q K (hd t e) (at512 a b) (at512 (kb t) r) : ℝ) : EReal) := by
  unfold prob
  rw [key_of, b4 hQ hK]
  by_cases h : 512 * (t.val % 16) + r.val ≤ 512 * a.val + b.val
  · rw [if_pos h, sum_coe (fun y => padRow K (at512 (kb t) r) (hd t e) y * padRow (base2 scale Q) (at512 a b) (hd t e) y)
      (fun y => by
        rw [b1 hQ, EReal.coe_mul]
        exact congrArg (· * _) (b6 hK t e r y)),
      ← EReal.coe_sub, Ideal.exp2_coe, Attention.base2_prob scale Q K (hd t e) (at512 a b) (at512 (kb t) r) h]
  · rw [if_neg h, EReal.bot_sub, Ideal.exp2_bot, Attention.prob, if_neg (show ¬ at512 (kb t) r ≤ at512 a b from h), EReal.coe_zero]

variable (hV : argV m c = slimOf V) (hG : argG m c = slimOf G)
include hV hG

theorem dscore_block : dscore (keys (iblk m c 6 t)) (vals (iblk m c 8 t)) (iblk m c 1 t) (iblk m c 3 t) (iblk m c 4 t) (iblk m c 5 t)
    (grid0.coords t 1).val e a r b
    = ((Attention.dscore scale Q K V G (hd t e) (at512 a b) (at512 (kb t) r) : ℝ) : EReal) := by
  unfold dscore
  rw [prob_block hQ hK, b5 hQ hK hV hG,
    sum_coe (fun d => G (at512 a b) (hd t e) d * V (at512 (kb t) r) (hd t e) d)
      (fun d => by
        rw [b3 hG, EReal.coe_mul, mul_comm ((G (at512 a b) (hd t e) d : ℝ) : EReal)]
        exact congrArg (· * _) (b8 hV t e r d)),
    ← EReal.coe_sub, ← EReal.coe_mul]
  rfl

/-- The share of a point's keys in the gradient of a query. -/
theorem qAt_real (y : Fin 256) : qAt m c t (ix3 a (lane e y) b)
    = ((∑ r, padRow K (at512 (kb t) r) (hd t e) y * Attention.dscore scale Q K V G (hd t e) (at512 a b) (at512 (kb t) r) : ℝ) : EReal) := by
  have hq : qAt m c t (ix3 a (lane e y) b) = if (grid0.coords t 1).val ≤ a.val then
      termQ (iblk m c 1 t) (iblk m c 3 t) (iblk m c 4 t) (iblk m c 5 t) (iblk m c 6 t) (iblk m c 7 t) (iblk m c 8 t)
        (grid0.coords t 1).val (headOf (lane e y)) a (laneOf (lane e y)) b else 0 := rfl
  rw [hq, headOf_lane, laneOf_lane]
  by_cases h : (grid0.coords t 1).val ≤ a.val
  · rw [if_pos h]
    unfold termQ
    exact sum_coe _ fun r => by rw [b7 hK, dscore_block hQ hK t e a b r hV hG, EReal.coe_mul]
  · rw [if_neg h, Finset.sum_eq_zero, EReal.coe_zero]
    intro r _
    rw [key_of] at h
    rw [Attention.dscore_later, mul_zero]
    show ¬ 512 * (t.val % 16) + r.val ≤ 512 * a.val + b.val
    omega

end

section
variable (hQ : argQ m c = wideOf Q) (hK : argK m c = wideOf K) (t : Fin cfg0.N) (e : Fin 2) (r : Fin 512)
include hQ hK

/-- The gradient of a value of the point's block. -/
theorem vAt_real (hG : argG m c = slimOf G) (d : Fin 128) : vAt m c t (ix2 r (vlane e d))
    = ((Attention.gradV scale Q K G (hd t e) (at512 (kb t) r) d : ℝ) : EReal) := by
  have hv : vAt m c t (ix2 r (vlane e d)) = ∑ a : Fin 16, if (grid0.coords t 1).val ≤ a.val then
      termV (iblk m c 1 t) (iblk m c 2 t) (iblk m c 4 t) (iblk m c 6 t) (grid0.coords t 1).val
        (vheadOf (vlane e d)) a r (vlaneOf (vlane e d)) else 0 := rfl
  rw [hv, vheadOf_vlane, vlaneOf_vlane]
  unfold Attention.gradV
  rw [Attention.sum_blocks]
  refine sum_coe _ fun a => ?_
  by_cases h : (grid0.coords t 1).val ≤ a.val
  · rw [if_pos h]
    unfold termV
    exact sum_coe _ fun b => by
      rw [prob_block hQ hK t e a b r, EReal.coe_mul]
      exact congrArg (_ * ·) (b2 hG t e (at512 a b) d)
  · rw [if_neg h, Finset.sum_eq_zero, EReal.coe_zero]
    intro b _
    rw [key_of] at h
    rw [Attention.prob, if_neg, zero_mul]
    show ¬ 512 * (t.val % 16) + r.val ≤ 512 * a.val + b.val
    omega

/-- The gradient of a key of the point's block. -/
theorem kAt_real (hV : argV m c = slimOf V) (hG : argG m c = slimOf G) (y : Fin 256) : kAt m c t (ix2 r (lane e y))
    = ((Attention.gradK scale Q K V G (hd t e) (at512 (kb t) r) y : ℝ) : EReal) := by
  have hk : kAt m c t (ix2 r (lane e y)) = ∑ a : Fin 16, if (grid0.coords t 1).val ≤ a.val then
      termK (iblk m c 0 t) (iblk m c 1 t) (iblk m c 3 t) (iblk m c 4 t) (iblk m c 5 t) (iblk m c 6 t) (iblk m c 8 t)
        (grid0.coords t 1).val (headOf (lane e y)) a r (laneOf (lane e y)) else 0 := rfl
  rw [hk, headOf_lane, laneOf_lane]
  unfold Attention.gradK
  rw [Attention.sum_blocks]
  refine sum_coe _ fun a => ?_
  by_cases h : (grid0.coords t 1).val ≤ a.val
  · rw [if_pos h]
    unfold termK
    exact sum_coe _ fun b => by
      rw [dscore_block hQ hK t e a b r hV hG, EReal.coe_mul]
      exact congrArg (_ * ·) (b0 hQ t e (at512 a b) y)
  · rw [if_neg h, Finset.sum_eq_zero, EReal.coe_zero]
    intro b _
    rw [key_of] at h
    rw [Attention.dscore_later, zero_mul]
    show ¬ 512 * (t.val % 16) + r.val ≤ 512 * a.val + b.val
    omega

end

theorem accQ_real (hQ : argQ m c = wideOf Q) (hK : argK m c = wideOf K) (hV : argV m c = slimOf V) (hG : argG m c = slimOf G)
    (t : Fin cfg0.N) (ht : t.val % 16 = 15) (e : Fin 2) (a : Fin 16) (b : Fin 512) (y : Fin 256) :
    accQ m c t (ix3 a (lane e y) b) = ((Attention.gradQ scale Q K V G (hd t e) (at512 a b) y : ℝ) : EReal) := by
  unfold accQ Attention.gradQ
  rw [Attention.sum_blocks]
  refine sum_coe _ fun j => ?_
  rw [if_pos (by omega), qAt_real hQ hK _ e a b hV hG y]
  have h1 : hd (pt (t.val / 16) (group_lt t) j) e = hd t e := Fin.ext (by simp only [hd, pt]; omega)
  have h2 : kb (pt (t.val / 16) (group_lt t) j) = j := Fin.ext (by simp only [kb, pt]; omega)
  rw [h1, h2]

end Cert.KernelIdeal.Flash

end
-- ==== Proof.Final.lean ====
/-
  The call's three result arrays: the gradients of Attention.lean, where the four arguments are real numbers.
-/
module

public import proofs.«01_k».proof.Proof.BlockReal
public import Idealize.ShloMosaic.Lib.Pipeline.ValueKit.Geometry

@[expose] public section
set_option maxRecDepth 16384
noncomputable section
namespace Cert.KernelIdeal.Flash
open Idealize.ShloMosaic Idealize.ShloMosaic.TcCoe Cert.KernelIdeal Cert.KernelIdeal.Gen
open Cert.Attention (scale at512 padRow base2 sum_coe)

variable (Q K : Attention.Wide) (V G : Attention.Slim)

/-- The query gradient, as the call lays it out: blocks of 512 positions, transposed, the heads' lanes side by side. -/
def resQ : FVec Ideal S16x2048x512 .f32 := fun i =>
  ((Attention.gradQ scale Q K V G ⟨(i 1).val / 256, by have h : (i 1).val < 2048 := (i 1).isLt; omega⟩ (at512 (i 0) (i 2)) ⟨(i 1).val % 256, by omega⟩ : ℝ) : EReal)
/-- The key gradient, the heads' lanes side by side, -/
def resK : FVec Ideal S8192x2048 .f32 := fun i =>
  ((Attention.gradK scale Q K V G ⟨(i 1).val / 256, by have h : (i 1).val < 2048 := (i 1).isLt; omega⟩ (i 0) ⟨(i 1).val % 256, by omega⟩ : ℝ) : EReal)
/-- and the value gradient. -/
def resV : FVec Ideal S8192x1024 .f32 := fun i =>
  ((Attention.gradV scale Q K G ⟨(i 1).val / 128, by have h : (i 1).val < 1024 := (i 1).isLt; omega⟩ (i 0) ⟨(i 1).val % 128, by omega⟩ : ℝ) : EReal)

theorem index9 : ∀ t : Fin cfg0.N, (cfg0.win 9).index t 0 = 0 ∧ (cfg0.win 9).index t 1 = t.val / 16 ∧ (cfg0.win 9).index t 2 = 0 := by decide
theorem index10 : ∀ t : Fin cfg0.N, (cfg0.win 10).index t 0 = t.val % 16 ∧ (cfg0.win 10).index t 1 = t.val / 16 := by decide
theorem index11 : ∀ t : Fin cfg0.N, (cfg0.win 11).index t 0 = t.val % 16 ∧ (cfg0.win 11).index t 1 = t.val / 16 := by decide

theorem emb9 (t : Fin cfg0.N) (y0 : Fin 16) (y1 y2 : Fin 512) : (win0_9.blk t).view.emb (ix3 y0 y1 y2)
    = (ix3 y0 ⟨512 * (t.val / 16) + y1.val, by have := group_lt t; omega⟩ y2 : S16x2048x512.Idx) := funext fun a => Fin.ext (by
  match a with
  | ⟨0, _⟩ =>
    refine (Pipeline.Window.rect_emb_val win0_9 t (ix3 y0 y1 y2) 0).trans ?_
    rw [show win0_9.index t 0 = 0 from (index9 t).1]
    show 0 * 16 + y0.val = y0.val
    omega
  | ⟨1, _⟩ =>
    refine (Pipeline.Window.rect_emb_val win0_9 t (ix3 y0 y1 y2) 1).trans ?_
    rw [show win0_9.index t 1 = t.val / 16 from (index9 t).2.1]
    show (t.val / 16) * 512 + y1.val = 512 * (t.val / 16) + y1.val
    omega
  | ⟨2, _⟩ =>
    refine (Pipeline.Window.rect_emb_val win0_9 t (ix3 y0 y1 y2) 2).trans ?_
    rw [show win0_9.index t 2 = 0 from (index9 t).2.2]
    show 0 * 512 + y2.val = y2.val
    omega)

theorem emb10 (t : Fin cfg0.N) (y0 : Fin 512) (y1 : Fin 512) : (win0_10.blk t).view.emb (ix2 y0 y1)
    = (ix2 ⟨512 * (t.val % 16) + y0.val, by omega⟩ ⟨512 * (t.val / 16) + y1.val, by have := group_lt t; omega⟩ : S8192x2048.Idx) := funext fun a => Fin.ext (by
  match a with
  | ⟨0, _⟩ =>
    refine (Pipeline.Window.rect_emb_val win0_10 t (ix2 y0 y1) 0).trans ?_
    rw [show win0_10.index t 0 = t.val % 16 from (index10 t).1]
    show (t.val % 16) * 512 + y0.val = 512 * (t.val % 16) + y0.val
    omega
  | ⟨1, _⟩ =>
    refine (Pipeline.Window.rect_emb_val win0_10 t (ix2 y0 y1) 1).trans ?_
    rw [show win0_10.index t 1 = t.val / 16 from (index10 t).2]
    show (t.val / 16) * 512 + y1.val = 512 * (t.val / 16) + y1.val
    omega)

theorem emb11 (t : Fin cfg0.N) (y0 : Fin 512) (y1 : Fin 256) : (win0_11.blk t).view.emb (ix2 y0 y1)
    = (ix2 ⟨512 * (t.val % 16) + y0.val, by omega⟩ ⟨256 * (t.val / 16) + y1.val, by have := group_lt t; omega⟩ : S8192x1024.Idx) := funext fun a => Fin.ext (by
  match a with
  | ⟨0, _⟩ =>
    refine (Pipeline.Window.rect_emb_val win0_11 t (ix2 y0 y1) 0).trans ?_
    rw [show win0_11.index t 0 = t.val % 16 from (index11 t).1]
    show (t.val % 16) * 512 + y0.val = 512 * (t.val % 16) + y0.val
    omega
  | ⟨1, _⟩ =>
    refine (Pipeline.Window.rect_emb_val win0_11 t (ix2 y0 y1) 1).trans ?_
    rw [show win0_11.index t 1 = t.val / 16 from (index11 t).2]
    show (t.val / 16) * 256 + y1.val = 256 * (t.val / 16) + y1.val
    omega)

variable {m : (ℓ : Loc nD τ sig) → Buf (Elt Ideal) ℓ} {c : Dev nD} {Q K V G}
variable (hQ : argQ m c = wideOf Q) (hK : argK m c = wideOf K) (hV : argV m c = slimOf V) (hG : argG m c = slimOf G)
include hQ hK hG

omit hQ hK hG in
theorem hd_div (t : Fin cfg0.N) (n : Fin 512) (p) : (⟨(512 * (t.val / 16) + n.val) / 256, p⟩ : Fin 8) = hd t (headOf n) :=
  Fin.ext (by simp only [hd, headOf]; omega)
omit hQ hK hG in
theorem lane_mod (t : Fin cfg0.N) (n : Fin 512) (p) : (⟨(512 * (t.val / 16) + n.val) % 256, p⟩ : Fin 256) = laneOf n :=
  Fin.ext (by simp only [laneOf]; omega)
omit hQ hK hG in
theorem hd_vdiv (t : Fin cfg0.N) (n : Fin 256) (p) : (⟨(256 * (t.val / 16) + n.val) / 128, p⟩ : Fin 8) = hd t (vheadOf n) :=
  Fin.ext (by simp only [hd, vheadOf]; omega)
omit hQ hK hG in
theorem vlane_mod (t : Fin cfg0.N) (n : Fin 256) (p) : (⟨(256 * (t.val / 16) + n.val) % 128, p⟩ : Fin 128) = vlaneOf n :=
  Fin.ext (by simp only [vlaneOf]; omega)

theorem final_v : (dats m 0 c).arrAt 11 cfg0.N = resV Q K G := by
  refine (dats m 0 c).arrAt_eq_of_covers 11 _ (by decide +kernel) fun t hf y => ?_
  refine Eq.trans (b := vAt m c t y) (by rw [after_11]; rfl) ?_
  obtain ⟨y0, y1, rfl⟩ : ∃ (y0 : Fin 512) (y1 : Fin 256), y = ix2 y0 y1 := ⟨y 0, y 1, eq_ix2 y⟩
  refine Eq.trans ?_ (congrArg (resV Q K G) (emb11 t y0 y1)).symm
  have e : y1 = vlane (vheadOf y1) (vlaneOf y1) := (vlane_vheadOf y1).symm
  refine (congrArg (fun z => vAt m c t (ix2 y0 z)) e).trans ?_
  rw [vAt_real hQ hK t (vheadOf y1) y0 hG (vlaneOf y1)]
  unfold resV
  exact congrArg₂ (fun h l => ((Attention.gradV scale Q K G h (at512 (kb t) y0) l : ℝ) : EReal)) (hd_vdiv t y1 _).symm (vlane_mod t y1 _).symm

include hV

theorem final_k : (dats m 0 c).arrAt 10 cfg0.N = resK Q K V G := by
  refine (dats m 0 c).arrAt_eq_of_covers 10 _ (by decide +kernel) fun t hf y => ?_
  refine Eq.trans (b := kAt m c t y) (by rw [after_10]; rfl) ?_
  obtain ⟨y0, y1, rfl⟩ : ∃ (y0 : Fin 512) (y1 : Fin 512), y = ix2 y0 y1 := ⟨y 0, y 1, eq_ix2 y⟩
  refine Eq.trans ?_ (congrArg (resK Q K V G) (emb10 t y0 y1)).symm
  have e : y1 = lane (headOf y1) (laneOf y1) := (lane_headOf y1).symm
  refine (congrArg (fun z => kAt m c t (ix2 y0 z)) e).trans ?_
  rw [kAt_real hQ hK t (headOf y1) y0 hV hG (laneOf y1)]
  unfold resK
  exact congrArg₂ (fun h l => ((Attention.gradK scale Q K V G h (at512 (kb t) y0) l : ℝ) : EReal)) (hd_div t y1 _).symm (lane_mod t y1 _).symm

theorem final_q : (dats m 0 c).arrAt 9 cfg0.N = resQ Q K V G := by
  refine (dats m 0 c).arrAt_eq_of_covers 9 _ (by decide +kernel) fun t hf y => ?_
  refine Eq.trans (b := accQ m c t y) (by rw [after_9]; rfl) ?_
  obtain ⟨y0, y1, y2, rfl⟩ : ∃ (y0 : Fin 16) (y1 y2 : Fin 512), y = ix3 y0 y1 y2 := ⟨y 0, y 1, y 2, eq_ix3 y⟩
  refine Eq.trans ?_ (congrArg (resQ Q K V G) (emb9 t y0 y1 y2)).symm
  have e : y1 = lane (headOf y1) (laneOf y1) := (lane_headOf y1).symm
  refine (congrArg (fun z => accQ m c t (ix3 y0 z y2)) e).trans ?_
  rw [accQ_real hQ hK hV hG t ((flush0_9 t).mp hf) (headOf y1) y0 y2 (laneOf y1)]
  unfold resQ
  exact congrArg₂ (fun h l => ((Attention.gradQ scale Q K V G h (at512 y0 y2) l : ℝ) : EReal)) (hd_div t y1 _).symm (lane_mod t y1 _).symm

end Cert.KernelIdeal.Flash

end
-- ==== Proof.RefReal.lean ====
/-
  The reference's three results where the four arguments are real numbers: the same functions of Attention.lean.
-/
module

public import proofs.«01_k».proof.Proof.RefRead
public import proofs.«01_k».proof.Proof.Final

@[expose] public section

set_option maxRecDepth 100000

noncomputable section

namespace Cert.ReferenceIdeal.Flash

open Cert.ReferenceIdeal Cert.ReferenceIdeal.Gen Cert.ReferenceIdeal.Read Idealize.ShloMosaic Idealize.ShloMosaic.TcCoe Cert.Attention
open Cert.KernelIdeal.Flash (wideOf slimOf wideOf_at slimOf_at resQ resK resV)

variable (Q K : Attention.Wide) (V G : Attention.Slim) (h : Fin 8) (i j : Fin 8192)

/-- The output times its gradient is the sum over the keys of the probabilities times their gradients. -/
theorem del_eq : del scale Q K V G h i = ∑ j, dprob V G h i j * prob scale Q K h i j := by
  unfold del out dprob
  simp only [Finset.mul_sum, Finset.sum_mul]
  rw [Finset.sum_comm]
  exact Finset.sum_congr rfl fun j _ => Finset.sum_congr rfl fun d _ => by ring

/-- The softmax's gradient from its weights `w` and their sum `l`. -/
theorem softmax_grad {ι : Type} [Fintype ι] (w p : ι → ℝ) (l : ℝ) (hl : l ≠ 0) (j : ι) :
    (p j / l + -(∑ k, p k * (1 / (l * l)) * w k)) * w j = w j / l * (p j - ∑ k, p k * (w k / l)) := by
  have e : ∑ k, p k * (1 / (l * l)) * w k = (∑ k, p k * (w k / l)) / l := by
    rw [Finset.sum_div]
    exact Finset.sum_congr rfl fun k _ => by field_simp
  rw [e]
  field_simp
  ring

theorem scores_real : val_main_v15_0 (F := Ideal) (wideOf Q) (wideOf K) (ix3 h i j) =
    if j ≤ i then ((score scale Q K h i j : ℝ) : EReal) else ⊥ := by
  rw [scores_at, causal_sel, ofBits_bot, ofBits_scale,
    sum_coe (fun d => Q i h d * K j h d) (fun d => by rw [wideOf_at, wideOf_at, EReal.coe_mul]), ← EReal.coe_mul]
  rfl

theorem bound_real : ∃ M : ℝ, val_main_v23 (F := Ideal) (wideOf Q) (wideOf K) (ix2 h i) = (M : EReal) := by
  rw [bound_at, best_at, ofBits_bot, max_eq_right bot_le]
  refine fold_max_real _ (fun j => ?_) i ?_
  · rw [scores_real]; split
    · exact EReal.coe_ne_top _
    · exact bot_ne_top
  · rw [scores_real, if_pos le_rfl]; exact EReal.coe_ne_bot _

theorem dprob_real : val_main_v57 (F := Ideal) (slimOf V) (slimOf G) (ix3 h i j) = ((dprob V G h i j : ℝ) : EReal) := by
  rw [dprob_at, sum_coe (fun d => G i h d * V j h d) (fun d => by rw [slimOf_at, slimOf_at, EReal.coe_mul])]
  rfl

variable {Q K h i} {M : ℝ} (hM : val_main_v23 (F := Ideal) (wideOf Q) (wideOf K) (ix2 h i) = (M : EReal))
include hM

theorem weights_real : val_main_v36 (F := Ideal) (wideOf Q) (wideOf K) (ix3 h i j) =
    ((if j ≤ i then Real.exp (score scale Q K h i j - M) else 0 : ℝ) : EReal) := by
  rw [weights_at, hM, scores_real]
  split
  · rw [← EReal.coe_sub, Ideal.exp_coe]
  · rw [EReal.bot_sub, Ideal.exp_bot, EReal.coe_zero]

theorem total_real : val_main_v37 (F := Ideal) (wideOf Q) (wideOf K) (ix2 h i) = ((denom scale Q K h i * Real.exp (-M) : ℝ) : EReal) := by
  rw [total_at, sum_coe _ (fun j => weights_real j hM), shifted_sum]

theorem prob_real' : val_main_v45 (F := Ideal) (wideOf Q) (wideOf K) (ix3 h i j) = ((prob scale Q K h i j : ℝ) : EReal) := by
  rw [prob_at, weights_real j hM, total_real hM, div_real (shifted_pos scale Q K M h i).ne', shifted_prob]

theorem dscore_real' : val_main_v74 (F := Ideal) (wideOf Q) (wideOf K) (slimOf V) (slimOf G) (ix3 h i j) =
    ((dscore scale Q K V G h i j * scale : ℝ) : EReal) := by
  have hl := (shifted_pos scale Q K M h i).ne'
  have part : ∀ k, val_main_v60 (F := Ideal) (wideOf Q) (wideOf K) (slimOf V) (slimOf G) (ix3 h i k) =
      ((dprob V G h i k * (1 / ((denom scale Q K h i * Real.exp (-M)) * (denom scale Q K h i * Real.exp (-M))))
        * (if k ≤ i then Real.exp (score scale Q K h i k - M) else 0) : ℝ) : EReal) := fun k => by
    rw [part_at, inv_at, total_real hM, weights_real k hM, dprob_real, ← EReal.coe_mul, ← EReal.coe_one,
      div_real (mul_ne_zero hl hl), ← EReal.coe_mul, ← EReal.coe_mul]
  rw [dscore_at, causal_sel, neg_at, parts_at, sum_coe _ part, dprob_real, total_real hM, weights_real j hM, div_real hl,
    ← EReal.coe_neg, ← EReal.coe_add, ← EReal.coe_mul, ofBits_scale,
    softmax_grad (fun k => if k ≤ i then Real.exp (score scale Q K h i k - M) else 0) (dprob V G h i) _ hl j]
  simp only [shifted_prob]
  rw [← del_eq, EReal.coe_mul]
  split
  · rfl
  · rename_i hj
    rw [dscore_later scale Q K V G h i j hj, zero_mul, zero_mul, EReal.coe_zero]

omit hM
variable (Q K h i)

theorem prob_real : val_main_v45 (F := Ideal) (wideOf Q) (wideOf K) (ix3 h i j) = ((prob scale Q K h i j : ℝ) : EReal) := by
  obtain ⟨M, hM⟩ := bound_real Q K h i
  exact prob_real' j hM

theorem dscore_real : val_main_v74 (F := Ideal) (wideOf Q) (wideOf K) (slimOf V) (slimOf G) (ix3 h i j) =
    ((dscore scale Q K V G h i j * scale : ℝ) : EReal) := by
  obtain ⟨M, hM⟩ := bound_real Q K h i
  exact dscore_real' V G j hM

theorem resQ_eq : val_main_v90 (F := Ideal) (wideOf Q) (wideOf K) (slimOf V) (slimOf G) = resQ Q K V G := by
  funext x
  obtain ⟨a, y, b, rfl⟩ : ∃ (a : Fin 16) (y : Fin 2048) (b : Fin 512), x = ix3 a y b := ⟨x 0, x 1, x 2, eq_ix3 x⟩
  rw [outQ_at]
  show _ = ((gradQ scale Q K V G ⟨y.val / 256, _⟩ (at512 a b) ⟨y.val % 256, _⟩ : ℝ) : EReal)
  unfold gradQ padRow
  split
  · rename_i p
    rw [dq_at, sum_coe (fun j => dscore scale Q K V G ⟨y.val / 256, by omega⟩ (at512 a b) j * scale * K j ⟨y.val / 256, by omega⟩ ⟨y.val % 256, p⟩)
      (fun j => by rw [dscore_real, wideOf_at, ← EReal.coe_mul]), ofBits_scale, div_real scale_ne, Finset.sum_div]
    refine congrArg _ (Finset.sum_congr rfl fun j _ => ?_)
    have := scale_ne
    field_simp
  · rw [← EReal.coe_zero]
    exact congrArg _ (Finset.sum_eq_zero fun j _ => zero_mul _).symm

theorem resK_eq : val_main_v88 (F := Ideal) (wideOf Q) (wideOf K) (slimOf V) (slimOf G) = resK Q K V G := by
  funext x
  obtain ⟨j, y, rfl⟩ : ∃ (j : Fin 8192) (y : Fin 2048), x = ix2 j y := ⟨x 0, x 1, eq_ix2 x⟩
  rw [outK_at]
  show _ = ((gradK scale Q K V G ⟨y.val / 256, _⟩ j ⟨y.val % 256, _⟩ : ℝ) : EReal)
  unfold gradK padRow base2
  split
  · rename_i p
    rw [dk_at, sum_coe (fun i => dscore scale Q K V G ⟨y.val / 256, by omega⟩ i j * scale * Q i ⟨y.val / 256, by omega⟩ ⟨y.val % 256, p⟩)
      (fun i => by rw [dscore_real, wideOf_at, ← EReal.coe_mul]), log_two, div_real log2_pos.ne', Finset.sum_div]
    exact congrArg _ (Finset.sum_congr rfl fun i _ => by ring)
  · rw [← EReal.coe_zero]
    exact congrArg _ (Finset.sum_eq_zero fun j _ => mul_zero _).symm

theorem resV_eq : val_main_v91 (F := Ideal) (wideOf Q) (wideOf K) (slimOf G) = resV Q K G := by
  funext x
  obtain ⟨j, y, rfl⟩ : ∃ (j : Fin 8192) (y : Fin 1024), x = ix2 j y := ⟨x 0, x 1, eq_ix2 x⟩
  rw [outV_at, dv_at, sum_coe (fun i => prob scale Q K ⟨y.val / 128, by omega⟩ i j * G i ⟨y.val / 128, by omega⟩ ⟨y.val % 128, by omega⟩)
    (fun i => by rw [prob_real, slimOf_at, EReal.coe_mul, mul_comm])]
  rfl

end Cert.ReferenceIdeal.Flash

end
-- ==== Proof.Finite.lean ====
/-
  The precondition: arguments it holds of are arrays of real numbers.
-/
module

public import proofs.«01_k».proof.Proof.HostReal
public import proofs.«01_k».proof.Defs
public import Idealize.ShloMosaic.Lib.Pointwise

@[expose] public section

set_option maxRecDepth 100000

noncomputable section

namespace Cert.Pre_finite

open Cert.Pre_finite Idealize.ShloMosaic Idealize.ShloMosaic.TcCoe

instance facts : Facts where
  concatenates_S8192x8x192_S8192x8x192_S8192x8x128_S8192x8x128_S8192x8x640_d2 := by decide +kernel
  bitsLt_bf16_f32 := by decide
  bcast_S_S8192x8x640 := by decide

end Cert.Pre_finite

namespace Cert.KernelIdeal.Flash
open Cert.Pre_finite Idealize.ShloMosaic Idealize.ShloMosaic.TcCoe Cert.KernelIdeal

theorem ofBits_top : Ideal.ofBits .f32 0x7F800000#32 = (⊤ : EReal) := by
  simp [Ideal.ofBits, Ideal.ieee]

/-- A number whose absolute value is below +∞ is a real number. -/
theorem real_of_abs {x : EReal} (hx : Ideal.cmp .olt (max x (-x)) (⊤ : EReal) = 1#1) : ((x.toReal : ℝ) : EReal) = x := by
  have h : max x (-x) < ⊤ := by
    by_contra hn
    simp [Ideal.cmp, hn] at hx
  refine EReal.coe_toReal (ne_of_lt (lt_of_le_of_lt (le_max_left _ _) h)) fun e => ?_
  rw [e] at h
  simp at h

variable (q k : Wide) (v g : Slim)

/-- The four arguments side by side. -/
def beside : FVec Ideal Cert.Pre_finite.S8192x8x640 .bf16 :=
  concatenate Cert.Pre_finite.S8192x8x640 2 [⟨Cert.Pre_finite.S8192x8x192, q⟩, ⟨Cert.Pre_finite.S8192x8x192, k⟩,
    ⟨Cert.Pre_finite.S8192x8x128, v⟩, ⟨Cert.Pre_finite.S8192x8x128, g⟩]
    Facts.concatenates_S8192x8x192_S8192x8x192_S8192x8x128_S8192x8x128_S8192x8x640_d2

theorem fn_at (j : Cert.Pre_finite.S8192x8x640.Idx) : Cert.Pre_finite.fn (F := Ideal) q k v g j =
    Ideal.cmp .olt (max (beside q k v g j) (- beside q k v g j)) (Ideal.ofBits .f32 0x7F800000#32) := rfl

variable {q k v g} (hf : Cert.Pre_finite.fn (F := Ideal) q k v g = fun _ => 1#1)
include hf

/-- Every number of an array the precondition's array holds is real. -/
theorem real_piece (j : Cert.Pre_finite.S8192x8x640.Idx) {x : EReal} (e : beside q k v g j = x) : ((x.toReal : ℝ) : EReal) = x := by
  refine real_of_abs ?_
  rw [← e, ← ofBits_top, ← fn_at, hf]

theorem real_q (i : Fin 8192) (h : Fin 8) (d : Fin 192) : (((q (ix3 i h d)).toReal : ℝ) : EReal) = q (ix3 i h d) :=
  real_piece hf (ix3 i h ⟨d.val, by omega⟩) (concatenate_apply_piece (t := Cert.Pre_finite.S8192x8x640) 2 _ _ _ 0 (by show 0 < 4; decide) _ q rfl rfl 0 rfl (ix3 i h d)
    (fun b hb => by fin_cases b <;> first | rfl | exact absurd rfl hb) (Nat.zero_add _))
theorem real_k (i : Fin 8192) (h : Fin 8) (d : Fin 192) : (((k (ix3 i h d)).toReal : ℝ) : EReal) = k (ix3 i h d) :=
  real_piece hf (ix3 i h ⟨192 + d.val, by omega⟩) (concatenate_apply_piece (t := Cert.Pre_finite.S8192x8x640) 2 _ _ _ 1 (by show 1 < 4; decide) _ k rfl rfl 192 rfl (ix3 i h d)
    (fun b hb => by fin_cases b <;> first | rfl | exact absurd rfl hb) rfl)
theorem real_v (i : Fin 8192) (h : Fin 8) (d : Fin 128) : (((v (ix3 i h d)).toReal : ℝ) : EReal) = v (ix3 i h d) :=
  real_piece hf (ix3 i h ⟨384 + d.val, by omega⟩) (concatenate_apply_piece (t := Cert.Pre_finite.S8192x8x640) 2 _ _ _ 2 (by show 2 < 4; decide) _ v rfl rfl 384 rfl (ix3 i h d)
    (fun b hb => by fin_cases b <;> first | rfl | exact absurd rfl hb) rfl)
theorem real_g (i : Fin 8192) (h : Fin 8) (d : Fin 128) : (((g (ix3 i h d)).toReal : ℝ) : EReal) = g (ix3 i h d) :=
  real_piece hf (ix3 i h ⟨512 + d.val, by omega⟩) (concatenate_apply_piece (t := Cert.Pre_finite.S8192x8x640) 2 _ _ _ 3 (by show 3 < 4; decide) _ g rfl rfl 512 rfl (ix3 i h d)
    (fun b hb => by fin_cases b <;> first | rfl | exact absurd rfl hb) rfl)

omit hf

/-- An array of real numbers, as the real numbers it holds. -/
theorem wideOf_toReal {x : Wide} (hx : ∀ (i : Fin 8192) (h : Fin 8) (d : Fin 192), (((x (ix3 i h d)).toReal : ℝ) : EReal) = x (ix3 i h d)) :
    x = wideOf fun i h d => (x (ix3 i h d)).toReal := by
  funext j
  obtain ⟨i, h, d, rfl⟩ : ∃ (i : Fin 8192) (h : Fin 8) (d : Fin 192), j = ix3 i h d := ⟨j 0, j 1, j 2, eq_ix3 j⟩
  exact (hx i h d).symm
theorem slimOf_toReal {x : Slim} (hx : ∀ (i : Fin 8192) (h : Fin 8) (d : Fin 128), (((x (ix3 i h d)).toReal : ℝ) : EReal) = x (ix3 i h d)) :
    x = slimOf fun i h d => (x (ix3 i h d)).toReal := by
  funext j
  obtain ⟨i, h, d, rfl⟩ : ∃ (i : Fin 8192) (h : Fin 8) (d : Fin 128), j = ix3 i h d := ⟨j 0, j 1, j 2, eq_ix3 j⟩
  exact (hx i h d).symm

/-- The four arguments, where the precondition holds of them. -/
theorem real_args (hf : Cert.Pre_finite.fn (F := Ideal) q k v g = fun _ => 1#1) :
    ∃ (Q K : Attention.Wide) (V G : Attention.Slim), q = wideOf Q ∧ k = wideOf K ∧ v = slimOf V ∧ g = slimOf G :=
  ⟨_, _, _, _, wideOf_toReal (real_q hf), wideOf_toReal (real_k hf), slimOf_toReal (real_v hf), slimOf_toReal (real_g hf)⟩

end Cert.KernelIdeal.Flash

end
-- ==== Proof.Result.lean ====
/-
  The two programs' runs at arguments of real numbers, read at their results.
-/
module

public import proofs.«01_k».proof.Proof.RefReal
public import proofs.«01_k».proof.Proof.Finite
public import Idealize.ShloMosaic.Lib.Claim

@[expose] public section

set_option maxRecDepth 16384

noncomputable section

namespace Cert.Attention

open Idealize.ShloMosaic Idealize.ShloMosaic.TcCoe Idealize.SL.Sem Cert.KernelIdeal.Flash

/-- The reference's frame: it declares no semaphore. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's three results are the gradients, and so are the reference's. -/
theorem algebraic : Cert.algebraic_KernelIdeal_ReferenceIdeal_pre_finite := by
  intro m ρ m' ρ' hpre hag
  choose Q K V G hQ hK hV hG using fun c => real_args (hpre c)
  refine ⟨fun c => resQ (Q c) (K c) (V c) (G c), fun c => resK (Q c) (K c) (V c) (G c), fun c => resV (Q c) (K c) (G c), ?_, ?_⟩
  · refine (θ_run Cert.KernelIdeal.defs _ _).mono (fun r h c => ?_) (θ_run_and (run_quiescent m ρ) (Cert.KernelIdeal.Flash.frame m ρ trivial))
    exact ⟨(h.1.1.out_eq c 9).trans (final_q (hQ c) (hK c) (hV c) (hG c)), (h.1.1.out_eq c 10).trans (final_k (hQ c) (hK c) (hV c) (hG c)),
      (h.1.1.out_eq c 11).trans (final_v (hQ c) (hK c) (hG c)), h.2.1 c⟩
  · refine (θ_run Cert.ReferenceIdeal.defs _ _).mono (fun r h c => ?_) (Cert.ReferenceIdeal.Value.run (F := Ideal) m' ρ')
    obtain ⟨a0, a1, a2, a3⟩ := hag c
    have e0 := a0.trans (hQ c)
    have e1 := a1.trans (hK c)
    have e2 := a2.trans (hV c)
    have e3 := a3.trans (hG c)
    refine ⟨(h c).1.trans ?_, (h c).2.1.trans ?_, (h c).2.2.1.trans ?_, (h c).2.2.2⟩
    · rw [Cert.ReferenceIdeal.Read.val_main_v90_eq, e0, e1, e2, e3]
      exact Cert.ReferenceIdeal.Flash.resQ_eq _ _ _ _
    · rw [Cert.ReferenceIdeal.Read.val_main_v88_eq, e0, e1, e2, e3]
      exact Cert.ReferenceIdeal.Flash.resK_eq _ _ _ _
    · rw [Cert.ReferenceIdeal.Read.val_main_v91_eq, e0, e1, e3]
      exact Cert.ReferenceIdeal.Flash.resV_eq _ _ _

end Cert.Attention

end
-- ==== Proof.Finite2.lean ====
/-
  The precondition of the gate's gradients: the arguments it tests are arrays of real numbers.
-/
module

public import proofs.«01_k».proof.Proof.Finite
public import Idealize.ShloMosaic.Lib.ReduceAll

@[expose] public section
noncomputable section
namespace Cert.Pre_finite2
open Idealize.ShloMosaic Idealize.ShloMosaic.TcCoe Cert.Pre_finite2 Cert.KernelIdeal.Flash

instance facts : Facts where
  bitsLt_bf16_f32 := by decide
  bcast_S_S8192x2048 := by decide
  reducesTo_S8192x2048_S_d0_1 := by decide
  h_S_ := by decide
  bcast_S_S5632x2048 := by decide
  reducesTo_S5632x2048_S_d0_1 := by decide
  bcast_S_S8192x5632 := by decide
  reducesTo_S8192x5632_S_d0_1 := by decide

instance : Subsingleton S_.Idx := ⟨fun _ _ => funext fun a => a.elim0⟩

/-- An array all of whose numbers' absolute values are below +∞ holds real numbers. -/
theorem real_all {s : Shape} {axes : List (Fin s.rank)} (x : FVec Ideal s .bf16) (b : S_.BroadcastsInDim s (![] : Fin 0 → Fin s.rank)) (h : s.ReducesTo axes S_) (j : S_.Idx)
    (e : Host.reduce IntOp.andi (cmpf .olt (Host.absf (extf .f32 x Facts.bitsLt_bf16_f32)) (broadcastInDim s ![] b (constant S_ .f32 0x7F800000#32)))
      (constantI S_ 1 1#1) h Facts.h_S_ j = 1#1) (i : s.Idx) : ∃ r : ℝ, x i = (r : EReal) := by
  have t := Host.reduce_andi_all _ _ h Facts.h_S_ j e i
  exact ⟨_, (real_of_abs (ofBits_top ▸ t)).symm⟩

variable {dx : FVec Ideal S8192x2048 .bf16} {w : FVec Ideal S5632x2048 .bf16} {g u : FVec Ideal S8192x5632 .bf16}

/-- The tested arguments, where the precondition holds of them. -/
theorem real_args (hf : fn (F := Ideal) dx w g u = fun _ => 1#1) :
    (∀ i, ∃ r : ℝ, dx i = (r : EReal)) ∧ (∀ i, ∃ r : ℝ, w i = (r : EReal)) ∧ (∀ i, ∃ r : ℝ, u i = (r : EReal)) := by
  have j : S_.Idx := fun a => a.elim0
  have e := congrFun hf j
  have both : ∀ a b : BitVec 1, a &&& b = 1#1 → a = 1#1 ∧ b = 1#1 := by decide
  obtain ⟨e1, e3⟩ := both _ _ e
  obtain ⟨e1, e2⟩ := both _ _ e1
  exact ⟨real_all dx _ Facts.reducesTo_S8192x2048_S_d0_1 j e1, real_all w _ Facts.reducesTo_S5632x2048_S_d0_1 j e2, real_all u _ Facts.reducesTo_S8192x5632_S_d0_1 j e3⟩

end Cert.Pre_finite2
-- ==== Proof.Gate.lean ====
/-
  The gate's function `x ↦ x σ(x)`, with `σ` the logistic function, and its derivative in the two forms the programs take.
-/
module

public import Idealize.ShloMosaic.PureOps.Ideal

@[expose] public section
noncomputable section
namespace Cert.Gate
open Idealize.ShloMosaic

theorem ofBits_one : Ideal.ofBits .f32 0x3F800000#32 = (1 : EReal) := by
  simp [Ideal.ofBits, Ideal.ieee, -EReal.coe_mul]; try norm_num

theorem ofBits_zero : Ideal.ofBits .f32 0x00000000#32 = (0 : EReal) := by
  simp [Ideal.ofBits, Ideal.ieee]

/-- The logistic function as the kernel writes it. -/
theorem logistic_sub (x : EReal) : Ideal.div 1 (1 + Ideal.exp (0 - x)) = Ideal.logistic x := by
  rw [zero_sub]
  rfl

/-- A real number times the derivative `σ (1 + x (1 - σ))` is its products with the derivative's two terms, `σ` and
    `x (σ (1 - σ))`, at the infinities too. -/
theorem derivative (t : ℝ) (x : EReal) :
    (t : EReal) * (Ideal.logistic x * (1 + x * (1 - Ideal.logistic x)))
      = (t : EReal) * Ideal.logistic x + x * (t : EReal) * (Ideal.logistic x * (1 - Ideal.logistic x)) := by
  induction x with
  | bot => simp
  | top =>
    have h : (1 : EReal) - 1 = 0 := by rw [← EReal.coe_one, ← EReal.coe_sub, sub_self, EReal.coe_zero]
    simp [h]
  | coe x =>
    rw [Ideal.logistic_coe]
    norm_cast
    ring

end Cert.Gate
-- ==== Proof.GateGrad.lean ====
/-
  The gradients of the gate and of the projection up: each of the call's blocks is the cotangent's block times the weights
  of the projection down, transposed, times the derivative of the gate's product.
-/
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Finite2
public import proofs.«01_k».proof.Proof.Gate
public import Idealize.ShloMosaic.Lib.Claim
public import Idealize.ShloMosaic.Lib.Pipeline.ValueKit.Geometry
public import Idealize.ShloMosaic.Lib.Pointwise
public import Idealize.ShloMosaic.Lib.WritesUnit

@[expose] public section
set_option maxRecDepth 16384
noncomputable section
namespace Cert.Kernel2Ideal.Product
open Idealize.ShloMosaic Idealize.ShloMosaic.TcCoe Idealize.ShloMosaic.Tactic Idealize.SL.Sem Cert.Kernel2Ideal Cert.Kernel2Ideal.Gen Cert.Gate

theorem hz : (![0, 0] : Fin 2 → Nat) = fun _ => 0 := funext fun a => by fin_cases a <;> rfl

/-- What the gate's gradient is of the activations' cotangent `d`, the gate `x` and the projection up `u`. -/
def gateOf (d x u : EReal) : EReal := d * u * (Ideal.logistic x * (1 + x * (1 - Ideal.logistic x)))
/-- The same of the projection up's gradient. -/
def upOf (d x : EReal) : EReal := d * (x * Ideal.logistic x)

theorem pay3_at (x0 : FVec Ideal S1024x2048 .bf16) (x1 : FVec Ideal S512x2048 .bf16) (x2 x3 : FVec Ideal S1024x512 .bf16) (a : Fin 1024) (b : Fin 512) :
    k0_pay3 (F := Ideal) x0 x1 x2 x3 (ix2 a b) = gateOf (∑ k : Fin 2048, x0 (ix2 a k) * x1 (ix2 b k)) (x2 (ix2 a b)) (x3 (ix2 a b)) := by
  unfold k0_pay3 k0_pay2 k0_pay1
  pointwise
  simp only [ofBits_one, ofBits_zero, logistic_sub]
  rfl

theorem pay4_at (x0 : FVec Ideal S1024x2048 .bf16) (x1 : FVec Ideal S512x2048 .bf16) (x2 : FVec Ideal S1024x512 .bf16) (a : Fin 1024) (b : Fin 512) :
    k0_pay4 (F := Ideal) x0 x1 x2 (ix2 a b) = upOf (∑ k : Fin 2048, x0 (ix2 a k) * x1 (ix2 b k)) (x2 (ix2 a b)) := by
  unfold k0_pay4 k0_pay2 k0_pay1
  pointwise
  simp only [ofBits_one, ofBits_zero, logistic_sub]
  rfl

theorem out4_eq (x0 : FVec Ideal S1024x2048 .bf16) (x1 : FVec Ideal S512x2048 .bf16) (x2 x3 : FVec Ideal S1024x512 .bf16) :
    out0_4 (F := Ideal) x0 x1 x2 x3 = k0_pay3 (F := Ideal) x0 x1 x2 x3 := by
  unfold out0_4
  rw [View.canon_unit_zero (S := S1024x512) hz]
  simp only [View.ld_unit_zero (S := S1024x2048) hz, View.ld_unit_zero (S := S512x2048) hz, View.ld_unit_zero (S := S1024x512) hz]

theorem out5_eq (x0 : FVec Ideal S1024x2048 .bf16) (x1 : FVec Ideal S512x2048 .bf16) (x2 x3 : FVec Ideal S1024x512 .bf16) :
    out0_5 (F := Ideal) x0 x1 x2 x3 = k0_pay4 (F := Ideal) x0 x1 x2 := by
  unfold out0_5
  rw [View.canon_unit_zero (S := S1024x512) hz]
  simp only [View.ld_unit_zero (S := S1024x2048) hz, View.ld_unit_zero (S := S512x2048) hz, View.ld_unit_zero (S := S1024x512) hz]

variable (m : (ℓ : Loc nD τ sig) → Buf (Elt Ideal) ℓ)

theorem lt_N (t : Fin cfg0.N) : t.val < 88 := lt_of_lt_of_eq t.isLt N_0

/-- The rows and the columns of a point's block. -/
abbrev row (t : Fin cfg0.N) (a : Fin 1024) : Fin 8192 := ⟨1024 * (t.val / 11) + a.val, by have := lt_N t; omega⟩
abbrev col (t : Fin cfg0.N) (b : Fin 512) : Fin 5632 := ⟨512 * (t.val % 11) + b.val, by omega⟩

theorem index0 : ∀ t : Fin cfg0.N, win0_0.index t 0 = t.val / 11 ∧ win0_0.index t 1 = 0 := by decide +kernel
theorem index1 : ∀ t : Fin cfg0.N, win0_1.index t 0 = t.val % 11 ∧ win0_1.index t 1 = 0 := by decide +kernel
theorem index2 : ∀ t : Fin cfg0.N, win0_2.index t 0 = t.val / 11 ∧ win0_2.index t 1 = t.val % 11 := by decide +kernel

theorem x0_at (c : Dev nD) (t : Fin cfg0.N) (a : Fin 1024) (k : Fin 2048) :
    (iblk m c 0 t : FVec Ideal S1024x2048 .bf16) (ix2 a k) = (m ((c : Thread nD τ).loc main_arg0) : FVec Ideal S8192x2048 .bf16) (ix2 (row t a) k) := by
  unfold iblk
  rw [View.read_apply]
  refine (congrArg (V m c main_arg0) (funext fun a => Fin.ext ?_)).trans (congrFun (V_main_arg0 m c) _)
  match a with
  | ⟨0, _⟩ =>
    refine (Pipeline.Window.rect_emb_val win0_0 t (ix2 _ k) 0).trans ?_
    rw [(index0 t).1]
    exact congrArg (· + _) (Nat.mul_comm _ _)
  | ⟨1, _⟩ =>
    refine (Pipeline.Window.rect_emb_val win0_0 t (ix2 _ k) 1).trans ?_
    rw [(index0 t).2]
    exact (congrArg (· + k.val) (Nat.zero_mul 2048)).trans (Nat.zero_add _)

theorem x1_at (c : Dev nD) (t : Fin cfg0.N) (b : Fin 512) (k : Fin 2048) :
    (iblk m c 1 t : FVec Ideal S512x2048 .bf16) (ix2 b k) = (m ((c : Thread nD τ).loc main_arg1) : FVec Ideal S5632x2048 .bf16) (ix2 (col t b) k) := by
  unfold iblk
  rw [View.read_apply]
  refine (congrArg (V m c main_arg1) (funext fun a => Fin.ext ?_)).trans (congrFun (V_main_arg1 m c) _)
  match a with
  | ⟨0, _⟩ =>
    refine (Pipeline.Window.rect_emb_val win0_1 t (ix2 b k) 0).trans ?_
    rw [(index1 t).1]
    exact congrArg (· + _) (Nat.mul_comm _ _)
  | ⟨1, _⟩ =>
    refine (Pipeline.Window.rect_emb_val win0_1 t (ix2 b k) 1).trans ?_
    rw [(index1 t).2]
    exact (congrArg (· + k.val) (Nat.zero_mul 2048)).trans (Nat.zero_add _)

/-- The gate, the projection up and the two results have the same blocks. -/
theorem emb (t : Fin cfg0.N) (a : Fin 1024) (b : Fin 512) : (win0_2.blk t).view.emb (ix2 a b) = (ix2 (row t a) (col t b) : S8192x5632.Idx) := funext fun z => Fin.ext (by
  match z with
  | ⟨0, _⟩ =>
    refine (Pipeline.Window.rect_emb_val win0_2 t (ix2 a b) 0).trans ?_
    rw [(index2 t).1]
    exact congrArg (· + _) (Nat.mul_comm _ _)
  | ⟨1, _⟩ =>
    refine (Pipeline.Window.rect_emb_val win0_2 t (ix2 a b) 1).trans ?_
    rw [(index2 t).2]
    exact congrArg (· + _) (Nat.mul_comm _ _))

theorem x2_at (c : Dev nD) (t : Fin cfg0.N) (a : Fin 1024) (b : Fin 512) :
    (iblk m c 2 t : FVec Ideal S1024x512 .bf16) (ix2 a b) = (m ((c : Thread nD τ).loc main_arg2) : FVec Ideal S8192x5632 .bf16) (ix2 (row t a) (col t b)) := by
  unfold iblk
  rw [View.read_apply]
  exact congrArg (m ((c : Thread nD τ).loc main_arg2)) (emb t a b)

theorem x3_at (c : Dev nD) (t : Fin cfg0.N) (a : Fin 1024) (b : Fin 512) :
    (iblk m c 3 t : FVec Ideal S1024x512 .bf16) (ix2 a b) = (m ((c : Thread nD τ).loc main_arg3) : FVec Ideal S8192x5632 .bf16) (ix2 (row t a) (col t b)) := by
  unfold iblk
  rw [View.read_apply]
  exact congrArg (m ((c : Thread nD τ).loc main_arg3)) (emb t a b)

/-- The cotangent of the activations. -/
def cot (X : FVec Ideal S8192x2048 .bf16) (W : FVec Ideal S5632x2048 .bf16) (i : Fin 8192) (j : Fin 5632) : EReal :=
  ∑ k : Fin 2048, X (ix2 i k) * W (ix2 j k)

/-- The gradients. -/
def gradGate (X : FVec Ideal S8192x2048 .bf16) (W : FVec Ideal S5632x2048 .bf16) (G U : FVec Ideal S8192x5632 .bf16) : FVec Ideal S8192x5632 .bf16 :=
  fun y => gateOf (cot X W (y 0) (y 1)) (G y) (U y)
def gradUp (X : FVec Ideal S8192x2048 .bf16) (W : FVec Ideal S5632x2048 .bf16) (G : FVec Ideal S8192x5632 .bf16) : FVec Ideal S8192x5632 .bf16 :=
  fun y => upOf (cot X W (y 0) (y 1)) (G y)

theorem final4 (c : Dev nD) : (dats m 0 c).arrAt 4 cfg0.N = gradGate (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  obtain ⟨a, b, rfl⟩ : ∃ (a : Fin 1024) (b : Fin 512), y = ix2 a b := ⟨y 0, y 1, eq_ix2 y⟩
  refine Eq.trans (b := out0_4 (iblk m c 0 t) (iblk m c 1 t) (iblk m c 2 t) (iblk m c 3 t) (ix2 a b)) (by rw [after0_4]; generalize out0_4 (F := Ideal) _ _ _ _ = z; rfl) ?_
  rw [out4_eq]
  refine (pay3_at _ _ _ _ a b).trans (Eq.trans ?_ (congrArg (gradGate _ _ _ _) (emb t a b)).symm)
  simp only [x0_at, x1_at, x2_at, x3_at]
  rfl

theorem final5 (c : Dev nD) : (dats m 0 c).arrAt 5 cfg0.N = gradUp (m ((c : Thread nD τ).loc main_arg0)) (m ((c : Thread nD τ).loc main_arg1))
    (m ((c : Thread nD τ).loc main_arg2)) := by
  refine (dats m 0 c).arrAt_eq_of_covers 5 _ (by decide +kernel) fun t hf y => ?_
  obtain ⟨a, b, rfl⟩ : ∃ (a : Fin 1024) (b : Fin 512), y = ix2 a b := ⟨y 0, y 1, eq_ix2 y⟩
  refine Eq.trans (b := out0_5 (iblk m c 0 t) (iblk m c 1 t) (iblk m c 2 t) (iblk m c 3 t) (ix2 a b)) (by rw [after0_5]; generalize out0_5 (F := Ideal) _ _ _ _ = z; rfl) ?_
  rw [out5_eq]
  refine (pay4_at _ _ _ a b).trans (Eq.trans ?_ (congrArg (gradUp _ _ _) (emb t a b)).symm)
  simp only [x0_at, x1_at, x2_at]
  rfl

open Cert.Reference2Ideal.Read

/-- The reference's cotangent of the activations and its logistic function. -/
theorem ref_cot (X : FVec Ideal S8192x2048 .bf16) (W : FVec Ideal S5632x2048 .bf16) (i : Fin 8192) (j : Fin 5632) :
    val_main_v13 (F := Ideal) X W (ix2 i j) = cot X W i j := by
  rw [val_main_v13_apply, val_main_v12_apply]
  refine (val_main_v11_apply _ _ _).trans (Finset.sum_congr rfl fun k _ => congrArg₂ (· * ·) (congrArg X (funext fun a => ?_)) (congrArg W (funext fun a => ?_))) <;>
    match a with | ⟨0, _⟩ => rfl | ⟨1, _⟩ => rfl

theorem ref_logistic (G : FVec Ideal S8192x5632 .bf16) (y : S8192x5632.Idx) : val_main_v4_2 (F := Ideal) G y = Ideal.logistic (G y) := by
  rw [val_main_v4_2_apply, val_main_call0_v3_apply, val_main_call0_v4_apply, val_main_call0_v2_apply]
  show Ideal.div (Ideal.ofBits .f32 0x3F800000#32) (Ideal.ofBits .f32 0x3F800000#32 + Ideal.exp (-(G y))) = _
  rw [ofBits_one]
  rfl

theorem ref_up (X : FVec Ideal S8192x2048 .bf16) (W : FVec Ideal S5632x2048 .bf16) (G : FVec Ideal S8192x5632 .bf16) :
    val_main_v20 (F := Ideal) X W G = gradUp X W G := by
  funext y
  obtain ⟨i, j, rfl⟩ : ∃ (i : Fin 8192) (j : Fin 5632), y = ix2 i j := ⟨y 0, y 1, eq_ix2 y⟩
  show val_main_v4_0 (F := Ideal) G (ix2 i j) * val_main_v13 (F := Ideal) X W (ix2 i j) = _
  rw [ref_cot, mul_comm]
  refine congrArg (cot X W i j * ·) (?_ : G (ix2 i j) * val_main_v4_2 (F := Ideal) G (ix2 i j) = _)
  rw [ref_logistic]

theorem ref_gate (X : FVec Ideal S8192x2048 .bf16) (W : FVec Ideal S5632x2048 .bf16) (G U : FVec Ideal S8192x5632 .bf16)
    (hX : ∀ i, ∃ r : ℝ, X i = (r : EReal)) (hW : ∀ i, ∃ r : ℝ, W i = (r : EReal)) (hU : ∀ i, ∃ r : ℝ, U i = (r : EReal)) :
    val_main_v19 (F := Ideal) X W G U = gradGate X W G U := by
  funext y
  obtain ⟨i, j, rfl⟩ : ∃ (i : Fin 8192) (j : Fin 5632), y = ix2 i j := ⟨y 0, y 1, eq_ix2 y⟩
  choose x hx using hX
  choose w hw using hW
  choose u hu using hU
  have hd : cot X W i j = ((∑ k : Fin 2048, x (ix2 i k) * w (ix2 j k) : ℝ) : EReal) :=
    (Attention.sum_coe _ fun k => by rw [hx, hw, EReal.coe_mul])
  show val_main_v13 (F := Ideal) X W (ix2 i j) * U (ix2 i j) * val_main_v4_2 (F := Ideal) G (ix2 i j)
    + G (ix2 i j) * (val_main_v13 (F := Ideal) X W (ix2 i j) * U (ix2 i j))
      * (val_main_v4_2 (F := Ideal) G (ix2 i j) * (Ideal.ofBits .f32 0x3F800000#32 - val_main_v4_2 (F := Ideal) G (ix2 i j))) = gateOf (cot X W i j) (G (ix2 i j)) (U (ix2 i j))
  rw [ref_cot, ref_logistic, ofBits_one, hd, hu, ← EReal.coe_mul, ← derivative, EReal.coe_mul]
  rfl

theorem frame_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Kernel and reference compute the gradients. -/
theorem algebraic : Cert.algebraic_Kernel2Ideal_Reference2Ideal_pre_finite2 := by
  intro m ρ m' ρ' hpre hag
  refine ⟨fun c => gradGate (m ((c : Thread nD τ).loc main_arg0)) (m ((c : Thread nD τ).loc main_arg1)) (m ((c : Thread nD τ).loc main_arg2)) (m ((c : Thread nD τ).loc main_arg3)),
    fun c => gradUp (m ((c : Thread nD τ).loc main_arg0)) (m ((c : Thread nD τ).loc main_arg1)) (m ((c : Thread nD τ).loc main_arg2)), ?_, ?_⟩
  · exact (θ_run defs _ _).mono (fun r h c => ⟨(h c).1.trans (final4 m c), (h c).2.1.trans (final5 m c), (h c).2.2⟩) (Value.run_blocks (F := Ideal) m ρ)
  · refine (θ_run Cert.Reference2Ideal.defs _ _).mono (fun r h c => ?_) (Cert.Reference2Ideal.Value.run (F := Ideal) m' ρ')
    obtain ⟨hX, hW, hU⟩ := Cert.Pre_finite2.real_args (hpre c)
    refine ⟨(h c).1.trans ?_, (h c).2.1.trans ?_, (h c).2.2⟩
    · rw [val_main_v19_eq, (hag c).1, (hag c).2.1, (hag c).2.2.1, (hag c).2.2.2]
      exact ref_gate _ _ _ _ hX hW hU
    · rw [val_main_v20_eq, (hag c).1, (hag c).2.1, (hag c).2.2.1]
      exact ref_up _ _ _

end Cert.Kernel2Ideal.Product
-- ==== Proof.Sums.lean ====
/-
  A sum taken in blocks, one block after another from zero, and places in blocks.
-/
module

public import Idealize.ShloMosaic.PureOps.Ideal

@[expose] public section
noncomputable section
namespace Cert.Blocked

/-- A sequence of `n` terms, continued by zeros. -/
def ext {n : ℕ} (f : Fin n → EReal) (k : ℕ) : EReal := if h : k < n then f ⟨k, h⟩ else 0

theorem ext_of_lt {n : ℕ} (f : Fin n → EReal) {k : ℕ} (h : k < n) : ext f k = f ⟨k, h⟩ := dif_pos h

/-- The first `a` terms and the block of `b` terms after them. -/
theorem sum_step {n : ℕ} (f : Fin n → EReal) (a b : ℕ) (g : Fin b → EReal) (h : ∀ k : Fin b, g k = ext f (a + k)) :
    ∑ k ∈ Finset.range a, ext f k + ∑ k, g k = ∑ k ∈ Finset.range (a + b), ext f k := by
  rw [Finset.sum_range_add, Finset.sum_congr rfl fun k _ => h k, Finset.sum_range fun k => ext f (a + k)]

/-- All the terms. -/
theorem sum_all {n : ℕ} (f : Fin n → EReal) : ∑ k ∈ Finset.range n, ext f k = ∑ k, f k := by
  rw [Finset.sum_range fun k => ext f k]
  exact Finset.sum_congr rfl fun k _ => ext_of_lt f k.isLt

/-- Two sequences' blocks, added term by term. -/
theorem sum_add_step {n : ℕ} (f : Fin n → EReal) (a b : ℕ) (g g' : Fin b → EReal) (h : ∀ k : Fin b, g k + g' k = ext f (a + k)) :
    ∑ k ∈ Finset.range a, ext f k + (∑ k, g k + ∑ k, g' k) = ∑ k ∈ Finset.range (a + b), ext f k := by
  rw [← Finset.sum_add_distrib]
  exact sum_step f a b _ h

/-- An offset in a block of width `b`, from the block's number. -/
theorem at_block {i n : ℕ} (b a : ℕ) (h : i = n) : i * b + a = b * n + a := by rw [h, Nat.mul_comm]

theorem at_zero {i : ℕ} (b a : ℕ) (h : i = 0) : i * b + a = a := by rw [h, Nat.zero_mul, Nat.zero_add]

end Cert.Blocked
-- ==== Proof.DownGrad.lean ====
/-
  The gradient of the weights of the projection down: the call's result is the product of the activations, transposed, with
  the cotangent, summed over the rows in four blocks of 2048.
-/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Sums
public import Idealize.ShloMosaic.Lib.Claim
public import Idealize.ShloMosaic.Lib.Pointwise
public import Idealize.ShloMosaic.Lib.WritesUnit

@[expose] public section
set_option maxRecDepth 16384
noncomputable section
namespace Cert.Kernel3Ideal.Product
open Idealize.ShloMosaic Idealize.ShloMosaic.TcCoe Idealize.ShloMosaic.Tactic Idealize.SL.Sem Cert.Kernel3Ideal Cert.Kernel3Ideal.Gen Cert.Blocked

theorem hz : (![0, 0] : Fin 2 → Nat) = fun _ => 0 := funext fun a => by fin_cases a <;> rfl

/-- The accumulator's block after a point: what it held, and the product of the point's two blocks. -/
theorem pay2_at (x0 : FVec Ideal S2048x1408 .bf16) (x1 : FVec Ideal S2048x1024 .bf16) (v : FVec Ideal S1408x1024 .f32) (a : Fin 1408) (b : Fin 1024) :
    k0_pay2 x0 x1 v (ix2 a b) = v (ix2 a b) + ∑ k : Fin 2048, x0 (ix2 k a) * x1 (ix2 k b) := by
  unfold k0_pay2
  pointwise
theorem pay1_at (a : Fin 1408) (b : Fin 1024) : k0_pay1 (F := Ideal) (ix2 a b) = 0 := by
  unfold k0_pay1
  pointwise

section cases
variable {F : FTy → Type} [FloatOps F]
variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole)
  (x0 : Vec F S2048x1408 .bf16) (x1 : Vec F S2048x1024 .bf16) (xs : Vec F S1408x1024 .f32)

theorem scratch_A (hc0 : cond0_0 i) (hc1 : ¬cond0_1 i) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1408x1024) hz, View.readCov_unit_zero (S := S1408x1024) _ hz]
  simp only [View.readAt_eq_ld, harg3.read_unread, harg4.read_unread, View.ld_unit_zero (S := S2048x1408) hz, View.ld_unit_zero (S := S2048x1024) hz]

theorem scratch_B (hc0 : ¬cond0_0 i) (hc1 : ¬cond0_1 i) :
    sout0_B_0 c i arg3 harg3 arg4 harg4 arg5 harg5 arg6 harg6 hc0 hc1 x0 x1 xs = k0_pay2 x0 x1 xs := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero (S := S1408x1024) hz]
  simp only [View.readAt_eq_ld, harg3.read_unread, harg4.read_unread, harg6.read_unread, View.ld_unit_zero (S := S2048x1408) hz, View.ld_unit_zero (S := S2048x1024) hz, View.ld_unit_zero (S := S1408x1024) hz]

theorem out_C (hc0 : ¬cond0_0 i) (hc1 : cond0_1 i) :
    out0_C_2 c i arg3 harg3 arg4 harg4 arg5 harg5 arg6 harg6 hc0 hc1 x0 x1 xs = k0_pay3 (k0_pay2 x0 x1 xs) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1408x1024) hz, View.readCov_unit_zero (S := S1408x1024) _ hz]
  simp only [View.readAt_eq_ld, harg3.read_unread, harg4.read_unread, harg6.read_unread, View.ld_unit_zero (S := S2048x1408) hz, View.ld_unit_zero (S := S2048x1024) hz, View.ld_unit_zero (S := S1408x1024) hz]
end cases

variable (m : (ℓ : Loc nD τ sig) → Buf (Elt Ideal) ℓ)

theorem lt_N (t : Fin cfg0.N) : t.val < 32 := lt_of_lt_of_eq t.isLt N_0

theorem index0 : ∀ t : Fin cfg0.N, (cfg0.win 0).index t 0 = t.val % 4 ∧ (cfg0.win 0).index t 1 = t.val / 8 := by decide
theorem index1 : ∀ t : Fin cfg0.N, (cfg0.win 1).index t 0 = t.val % 4 ∧ (cfg0.win 1).index t 1 = t.val / 4 % 2 := by decide

theorem x0_at (c : Dev nD) (t : Fin cfg0.N) (k : Fin 2048) (a : Fin 1408) :
    (iblk m c 0 t : FVec Ideal S2048x1408 .bf16) (ix2 k a)
      = (m ((c : Thread nD τ).loc main_arg0) : FVec Ideal S8192x5632 .bf16) (ix2 ⟨2048 * (t.val % 4) + k.val, by omega⟩ ⟨1408 * (t.val / 8) + a.val, by have := lt_N t; omega⟩) := by
  unfold iblk
  rw [View.read_apply]
  refine (congrArg (V m c main_arg0) (funext fun a => Fin.ext ?_)).trans (congrFun (V_main_arg0 m c) _)
  match a with
  | ⟨0, _⟩ =>
    refine (Pipeline.Window.rect_emb_val win0_0 t (ix2 k _) 0).trans ?_
    rw [show win0_0.index t 0 = t.val % 4 from (index0 t).1]
    show (t.val % 4) * 2048 + k.val = 2048 * (t.val % 4) + k.val
    omega
  | ⟨1, _⟩ =>
    refine (Pipeline.Window.rect_emb_val win0_0 t (ix2 k _) 1).trans ?_
    rw [show win0_0.index t 1 = t.val / 8 from (index0 t).2]
    exact congrArg (· + _) (Nat.mul_comm _ _)

theorem x1_at (c : Dev nD) (t : Fin cfg0.N) (k : Fin 2048) (b : Fin 1024) :
    (iblk m c 1 t : FVec Ideal S2048x1024 .bf16) (ix2 k b)
      = (m ((c : Thread nD τ).loc main_arg1) : FVec Ideal S8192x2048 .bf16) (ix2 ⟨2048 * (t.val % 4) + k.val, by omega⟩ ⟨1024 * (t.val / 4 % 2) + b.val, by omega⟩) := by
  unfold iblk
  rw [View.read_apply]
  refine (congrArg (V m c main_arg1) (funext fun a => Fin.ext ?_)).trans (congrFun (V_main_arg1 m c) _)
  match a with
  | ⟨0, _⟩ =>
    refine (Pipeline.Window.rect_emb_val win0_1 t (ix2 k b) 0).trans ?_
    rw [show win0_1.index t 0 = t.val % 4 from (index1 t).1]
    exact congrArg (· + _) (Nat.mul_comm _ _)
  | ⟨1, _⟩ =>
    refine (Pipeline.Window.rect_emb_val win0_1 t (ix2 k b) 1).trans ?_
    rw [show win0_1.index t 1 = t.val / 4 % 2 from (index1 t).2]
    exact congrArg (· + _) (Nat.mul_comm _ _)

/-- The terms of entry `(i, j)` of the gradient. -/
def term (A : FVec Ideal S8192x5632 .bf16) (B : FVec Ideal S8192x2048 .bf16) (i : Fin 5632) (j : Fin 2048) (k : Fin 8192) : EReal :=
  A (ix2 k i) * B (ix2 k j)

/-- The gradient. -/
def grad (A : FVec Ideal S8192x5632 .bf16) (B : FVec Ideal S8192x2048 .bf16) : FVec Ideal S5632x2048 .bf16 :=
  fun y => ∑ k : Fin 8192, term A B (y 0) (y 1) k

/-- The terms of the entry that a point holds at `(a, b)` of its block. -/
abbrev termAt (c : Dev nD) (t : Fin cfg0.N) (a : Fin 1408) (b : Fin 1024) : Fin 8192 → EReal :=
  term (m ((c : Thread nD τ).loc main_arg0)) (m ((c : Thread nD τ).loc main_arg1)) ⟨1408 * (t.val / 8) + a.val, by have := lt_N t; omega⟩ ⟨1024 * (t.val / 4 % 2) + b.val, by omega⟩

/-- A point adds its block's terms to those before. -/
theorem step (c : Dev nD) (t : Fin cfg0.N) (v : FVec Ideal S1408x1024 .f32) (a : Fin 1408) (b : Fin 1024)
    (hv : v (ix2 a b) = ∑ k ∈ Finset.range (2048 * (t.val % 4)), ext (termAt m c t a b) k) :
    k0_pay2 (iblk m c 0 t) (iblk m c 1 t) v (ix2 a b) = ∑ k ∈ Finset.range (2048 * (t.val % 4) + 2048), ext (termAt m c t a b) k := by
  rw [pay2_at, hv]
  refine sum_step _ _ _ _ fun k => ?_
  rw [x0_at, x1_at, ext_of_lt _ (by omega)]
  rfl

/-- The accumulator after a point that is not the last of its block holds the terms up to the point. -/
theorem scratch_eq (c : Dev nD) (a : Fin 1408) (b : Fin 1024) : ∀ (n : ℕ) (hn : n < cfg0.N), n % 4 ≠ 3 →
    (outsAt0 m c n hn).2 (ix2 a b) = ∑ k ∈ Finset.range (2048 * (n % 4) + 2048), ext (termAt m c ⟨n, hn⟩ a b) k
  | 0, hn, _ => by
    rw [outsAt0_A m c ⟨0, hn⟩ rfl (by simp), scratch_A]
    exact step m c ⟨0, hn⟩ _ a b (by rw [pay1_at]; simp)
  | n + 1, hn, h3 => by
    by_cases h0 : (n + 1) % 4 = 0
    · rw [outsAt0_A m c ⟨n + 1, hn⟩ h0 h3, scratch_A]
      exact step m c ⟨n + 1, hn⟩ _ a b (by rw [pay1_at]; simp [h0])
    · rw [outsAt0_B m c ⟨n + 1, hn⟩ h0 h3, scratch_B]
      refine step m c ⟨n + 1, hn⟩ _ a b ((scratch_eq c a b n (Nat.lt_of_succ_lt hn) (by omega)).trans ?_)
      have e : 2048 * (n % 4) + 2048 = 2048 * ((n + 1) % 4) := by omega
      have e1 : n / 8 = (n + 1) / 8 := by omega
      have e2 : n / 4 % 2 = (n + 1) / 4 % 2 := by omega
      simp only [e, e1, e2, termAt]

/-- The result's block after its last point is the gradient's. -/
theorem out_eq (c : Dev nD) (t : Fin cfg0.N) (h3 : t.val % 4 = 3) (a : Fin 1408) (b : Fin 1024) :
    (outsAt0 m c t.val t.isLt).1 (ix2 a b) = grad (m ((c : Thread nD τ).loc main_arg0)) (m ((c : Thread nD τ).loc main_arg1))
      (ix2 ⟨1408 * (t.val / 8) + a.val, by have := lt_N t; omega⟩ ⟨1024 * (t.val / 4 % 2) + b.val, by omega⟩) := by
  have h0 : ¬t.val % 4 = 0 := by omega
  rw [outsAt0_C m c t h0 h3, out_C]
  refine (step m c t _ a b ((scratch_eq m c a b (t.val - 1) _ (by omega)).trans ?_)).trans ?_
  · have e : 2048 * ((t.val - 1) % 4) + 2048 = 2048 * (t.val % 4) := by omega
    have e1 : (t.val - 1) / 8 = t.val / 8 := by omega
    have e2 : (t.val - 1) / 4 % 2 = t.val / 4 % 2 := by omega
    simp only [e, e1, e2, termAt]
  · rw [show 2048 * (t.val % 4) + 2048 = 8192 by omega, sum_all]
    rfl

/-- The array after the run is the gradient. -/
theorem final (c : Dev nD) : Value.G2 m c = grad (m ((c : Thread nD τ).loc main_arg0)) (m ((c : Thread nD τ).loc main_arg1)) := by
  funext i
  obtain ⟨i0, i1, rfl⟩ : ∃ i0 i1, i = ix2 i0 i1 := ⟨i 0, i 1, eq_ix2 i⟩
  have h0 := i0.isLt
  have h1 := i1.isLt
  have hp : Value.pt2Of (ix2 i0 i1) = 4 * (2 * (i0.val / 1408) + i1.val / 1024) + 3 := by
    show 4 * (2 * (i0.val / 1408 - 0) + 1 * (i1.val / 1024 - 0)) + 3 = _
    omega
  have hN : Value.pt2Of (ix2 i0 i1) < cfg0.N := lt_of_lt_of_eq (by omega) N_0.symm
  have hl : Value.loc2Of (ix2 i0 i1) = ix2 ⟨i0.val % 1408, Nat.mod_lt _ (by decide)⟩ ⟨i1.val % 1024, Nat.mod_lt _ (by decide)⟩ :=
    funext fun a => by match a with | ⟨0, _⟩ => rfl | ⟨1, _⟩ => rfl
  unfold Value.G2
  rw [dif_pos hN, ← Value.outsAt0_sweep m c _ hN, hl]
  refine (out_eq m c ⟨_, hN⟩ (by show Value.pt2Of (ix2 i0 i1) % 4 = 3; omega) _ _).trans (congrArg _ (congrArg₂ ix2 (Fin.ext ?_) (Fin.ext ?_)))
  · show 1408 * (Value.pt2Of (ix2 i0 i1) / 8) + i0.val % 1408 = i0.val
    omega
  · show 1024 * (Value.pt2Of (ix2 i0 i1) / 4 % 2) + i1.val % 1024 = i1.val
    omega

/-- The reference's result is the gradient. -/
theorem ref_eq (A : FVec Ideal S8192x5632 .bf16) (B : FVec Ideal S8192x2048 .bf16) :
    Cert.Reference3Ideal.Read.val_main_v6 (F := Ideal) A B = grad A B := by
  funext i
  rw [Cert.Reference3Ideal.Read.val_main_v6_apply, Cert.Reference3Ideal.Read.val_main_v5_apply]
  refine (Cert.Reference3Ideal.Read.val_main_v4_apply _ _ _).trans (Finset.sum_congr rfl fun k _ => ?_)
  rw [mul_comm, Cert.Reference3Ideal.Read.val_main_v0_apply, Cert.Reference3Ideal.Read.val_main_v1_apply]
  refine congrArg₂ (· * ·) (congrArg A (funext fun a => ?_)) (congrArg B (funext fun a => ?_)) <;>
    match a with | ⟨0, _⟩ => rfl | ⟨1, _⟩ => rfl

theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference compute the gradient. -/
theorem algebraic : Cert.algebraic_Kernel3Ideal_Reference3Ideal := by
  intro m ρ m' ρ' _ hag
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run (F := Ideal) m ρ)
  · refine (θ_run Cert.Reference3Ideal.defs _ _).mono (fun r h c => ?_) (Cert.Reference3Ideal.Value.run (F := Ideal) m' ρ')
    refine ⟨(h c).1.trans ?_, (h c).2⟩
    rw [Cert.Reference3Ideal.Read.val_main_v6_eq, (hag c).1, (hag c).2]
    exact ref_eq _ _

end Cert.Kernel3Ideal.Product
-- ==== Proof.UpGrad.lean ====
/-
  The gradient of the weights of a projection up, in the form the chips hold them (chip, row, column of the chip): the
  call's result is the product of the layer's input, transposed, with the cotangent, summed over the rows in four blocks
  of 2048.
-/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Sums
public import Idealize.ShloMosaic.Lib.Claim
public import Idealize.ShloMosaic.Lib.Pointwise
public import Idealize.ShloMosaic.Lib.WritesUnit

@[expose] public section
set_option maxRecDepth 16384
noncomputable section
namespace Cert.Kernel4Ideal.Product
open Idealize.ShloMosaic Idealize.ShloMosaic.TcCoe Idealize.ShloMosaic.Tactic Idealize.SL.Sem Cert.Kernel4Ideal Cert.Kernel4Ideal.Gen Cert.Blocked

theorem hz : (![0, 0] : Fin 2 → Nat) = fun _ => 0 := funext fun a => by fin_cases a <;> rfl
theorem hz3 : (![0, 0, 0] : Fin 3 → Nat) = fun _ => 0 := funext fun a => by fin_cases a <;> rfl

/-- The accumulator's block after a point: what it held, and the product of the point's two blocks. -/
theorem pay2_at (x0 : FVec Ideal S2048x1024 .bf16) (x1 : FVec Ideal S2048x1408 .bf16) (v : FVec Ideal S1024x1408 .f32) (a : Fin 1024) (b : Fin 1408) :
    k0_pay2 x0 x1 v (ix2 a b) = v (ix2 a b) + ∑ k : Fin 2048, x0 (ix2 k a) * x1 (ix2 k b) := by
  unfold k0_pay2
  pointwise
theorem pay3_at (v : FVec Ideal S1024x1408 .f32) (a : Fin 1024) (b : Fin 1408) : k0_pay3 (F := Ideal) v (ix3 (0 : Fin 1) a b) = (v (ix2 a b) : EReal) := by
  unfold k0_pay3
  refine shapeCast_apply _ _ _ (ix2 a b) ?_
  rw [Shape.rowMajor_val_two, Shape.rowMajor_val_three]
  show a.val * 1408 + b.val = (0 * 1024 + a.val) * 1408 + b.val
  omega
theorem pay1_at (a : Fin 1024) (b : Fin 1408) : k0_pay1 (F := Ideal) (ix2 a b) = 0 := by
  unfold k0_pay1
  pointwise

section cases
variable {F : FTy → Type} [FloatOps F]
variable (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1x1024x1408 .bf16) (harg5 : arg5.IsWhole) (arg6 : Memref sig .tc .vmem S1024x1408 .f32) (harg6 : arg6.IsWhole)
  (x0 : Vec F S2048x1024 .bf16) (x1 : Vec F S2048x1408 .bf16) (xs : Vec F S1024x1408 .f32)

theorem scratch_A (hc0 : cond0_0 i) (hc1 : ¬cond0_1 i) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1408) hz, View.readCov_unit_zero (S := S1024x1408) _ hz]
  simp only [View.readAt_eq_ld, harg3.read_unread, harg4.read_unread, View.ld_unit_zero (S := S2048x1024) hz, View.ld_unit_zero (S := S2048x1408) hz]

theorem scratch_B (hc0 : ¬cond0_0 i) (hc1 : ¬cond0_1 i) :
    sout0_B_0 c i arg3 harg3 arg4 harg4 arg5 harg5 arg6 harg6 hc0 hc1 x0 x1 xs = k0_pay2 x0 x1 xs := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero (S := S1024x1408) hz]
  simp only [View.readAt_eq_ld, harg3.read_unread, harg4.read_unread, harg6.read_unread, View.ld_unit_zero (S := S2048x1024) hz, View.ld_unit_zero (S := S2048x1408) hz, View.ld_unit_zero (S := S1024x1408) hz]

theorem out_C (hc0 : ¬cond0_0 i) (hc1 : cond0_1 i) :
    out0_C_2 c i arg3 harg3 arg4 harg4 arg5 harg5 arg6 harg6 hc0 hc1 x0 x1 xs = k0_pay3 (k0_pay2 x0 x1 xs) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1x1024x1408) hz3, View.readCov_unit_zero (S := S1024x1408) _ hz]
  simp only [View.readAt_eq_ld, harg3.read_unread, harg4.read_unread, harg6.read_unread, View.ld_unit_zero (S := S2048x1024) hz, View.ld_unit_zero (S := S2048x1408) hz, View.ld_unit_zero (S := S1024x1408) hz]
end cases

variable (m : (ℓ : Loc nD τ sig) → Buf (Elt Ideal) ℓ)

theorem lt_N (t : Fin cfg0.N) : t.val < 32 := lt_of_lt_of_eq t.isLt N_0

theorem index0 : ∀ t : Fin cfg0.N, (cfg0.win 0).index t 0 = t.val % 4 ∧ (cfg0.win 0).index t 1 = t.val / 16 := by decide
theorem index1 : ∀ t : Fin cfg0.N, (cfg0.win 1).index t 0 = t.val % 4 ∧ (cfg0.win 1).index t 1 = t.val / 4 % 4 := by decide

theorem x0_at (c : Dev nD) (t : Fin cfg0.N) (k : Fin 2048) (a : Fin 1024) :
    (iblk m c 0 t : FVec Ideal S2048x1024 .bf16) (ix2 k a)
      = (m ((c : Thread nD τ).loc main_arg0) : FVec Ideal S8192x2048 .bf16) (ix2 ⟨2048 * (t.val % 4) + k.val, by omega⟩ ⟨1024 * (t.val / 16) + a.val, by have := lt_N t; omega⟩) := by
  unfold iblk
  rw [View.read_apply]
  refine (congrArg (V m c main_arg0) (funext fun a => Fin.ext ?_)).trans (congrFun (V_main_arg0 m c) _)
  match a with
  | ⟨0, _⟩ =>
    refine (Pipeline.Window.rect_emb_val win0_0 t (ix2 k _) 0).trans ?_
    rw [show win0_0.index t 0 = t.val % 4 from (index0 t).1]
    show (t.val % 4) * 2048 + k.val = 2048 * (t.val % 4) + k.val
    omega
  | ⟨1, _⟩ =>
    refine (Pipeline.Window.rect_emb_val win0_0 t (ix2 k _) 1).trans ?_
    rw [show win0_0.index t 1 = t.val / 16 from (index0 t).2]
    exact congrArg (· + _) (Nat.mul_comm _ _)

theorem x1_at (c : Dev nD) (t : Fin cfg0.N) (k : Fin 2048) (b : Fin 1408) :
    (iblk m c 1 t : FVec Ideal S2048x1408 .bf16) (ix2 k b)
      = (m ((c : Thread nD τ).loc main_arg1) : FVec Ideal S8192x5632 .bf16) (ix2 ⟨2048 * (t.val % 4) + k.val, by omega⟩ ⟨1408 * (t.val / 4 % 4) + b.val, by omega⟩) := by
  unfold iblk
  rw [View.read_apply]
  refine (congrArg (V m c main_arg1) (funext fun a => Fin.ext ?_)).trans (congrFun (V_main_arg1 m c) _)
  match a with
  | ⟨0, _⟩ =>
    refine (Pipeline.Window.rect_emb_val win0_1 t (ix2 k b) 0).trans ?_
    rw [show win0_1.index t 0 = t.val % 4 from (index1 t).1]
    exact congrArg (· + _) (Nat.mul_comm _ _)
  | ⟨1, _⟩ =>
    refine (Pipeline.Window.rect_emb_val win0_1 t (ix2 k b) 1).trans ?_
    rw [show win0_1.index t 1 = t.val / 4 % 4 from (index1 t).2]
    exact congrArg (· + _) (Nat.mul_comm _ _)

/-- The terms of entry `(i, j)` of the gradient. -/
def term (A : FVec Ideal S8192x2048 .bf16) (B : FVec Ideal S8192x5632 .bf16) (i : Fin 2048) (j : Fin 5632) (k : Fin 8192) : EReal :=
  A (ix2 k i) * B (ix2 k j)

/-- The gradient. -/
def grad (A : FVec Ideal S8192x2048 .bf16) (B : FVec Ideal S8192x5632 .bf16) : FVec Ideal S4x2048x1408 .bf16 :=
  fun y => ∑ k : Fin 8192, term A B (y 1) ⟨1408 * (y 0).val + (y 2).val, by have h0 : (y 0).val < 4 := (y 0).isLt; have h2 : (y 2).val < 1408 := (y 2).isLt; omega⟩ k

/-- The terms of the entry that a point holds at `(a, b)` of its block. -/
abbrev termAt (c : Dev nD) (t : Fin cfg0.N) (a : Fin 1024) (b : Fin 1408) : Fin 8192 → EReal :=
  term (m ((c : Thread nD τ).loc main_arg0)) (m ((c : Thread nD τ).loc main_arg1)) ⟨1024 * (t.val / 16) + a.val, by have := lt_N t; omega⟩ ⟨1408 * (t.val / 4 % 4) + b.val, by omega⟩

/-- A point adds its block's terms to those before. -/
theorem step (c : Dev nD) (t : Fin cfg0.N) (v : FVec Ideal S1024x1408 .f32) (a : Fin 1024) (b : Fin 1408)
    (hv : v (ix2 a b) = ∑ k ∈ Finset.range (2048 * (t.val % 4)), ext (termAt m c t a b) k) :
    k0_pay2 (iblk m c 0 t) (iblk m c 1 t) v (ix2 a b) = ∑ k ∈ Finset.range (2048 * (t.val % 4) + 2048), ext (termAt m c t a b) k := by
  rw [pay2_at, hv]
  refine sum_step _ _ _ _ fun k => ?_
  rw [x0_at, x1_at, ext_of_lt _ (by omega)]
  rfl

/-- The accumulator after a point that is not the last of its block holds the terms up to the point. -/
theorem scratch_eq (c : Dev nD) (a : Fin 1024) (b : Fin 1408) : ∀ (n : ℕ) (hn : n < cfg0.N), n % 4 ≠ 3 →
    (outsAt0 m c n hn).2 (ix2 a b) = ∑ k ∈ Finset.range (2048 * (n % 4) + 2048), ext (termAt m c ⟨n, hn⟩ a b) k
  | 0, hn, _ => by
    rw [outsAt0_A m c ⟨0, hn⟩ rfl (by simp), scratch_A]
    exact step m c ⟨0, hn⟩ _ a b (by rw [pay1_at]; simp)
  | n + 1, hn, h3 => by
    by_cases h0 : (n + 1) % 4 = 0
    · rw [outsAt0_A m c ⟨n + 1, hn⟩ h0 h3, scratch_A]
      exact step m c ⟨n + 1, hn⟩ _ a b (by rw [pay1_at]; simp [h0])
    · rw [outsAt0_B m c ⟨n + 1, hn⟩ h0 h3, scratch_B]
      refine step m c ⟨n + 1, hn⟩ _ a b ((scratch_eq c a b n (Nat.lt_of_succ_lt hn) (by omega)).trans ?_)
      have e : 2048 * (n % 4) + 2048 = 2048 * ((n + 1) % 4) := by omega
      have e1 : n / 16 = (n + 1) / 16 := by omega
      have e2 : n / 4 % 4 = (n + 1) / 4 % 4 := by omega
      simp only [e, e1, e2, termAt]

/-- The result's block after its last point is the gradient's. -/
theorem out_eq (c : Dev nD) (t : Fin cfg0.N) (h3 : t.val % 4 = 3) (a : Fin 1024) (b : Fin 1408) :
    (outsAt0 m c t.val t.isLt).1 (ix3 0 a b) = grad (m ((c : Thread nD τ).loc main_arg0)) (m ((c : Thread nD τ).loc main_arg1))
      (ix3 ⟨t.val / 4 % 4, by omega⟩ ⟨1024 * (t.val / 16) + a.val, by have := lt_N t; omega⟩ b) := by
  have h0 : ¬t.val % 4 = 0 := by omega
  rw [outsAt0_C m c t h0 h3, out_C]
  refine (pay3_at _ a b).trans ((step m c t _ a b ((scratch_eq m c a b (t.val - 1) _ (by omega)).trans ?_)).trans ?_)
  · have e : 2048 * ((t.val - 1) % 4) + 2048 = 2048 * (t.val % 4) := by omega
    have e1 : (t.val - 1) / 16 = t.val / 16 := by omega
    have e2 : (t.val - 1) / 4 % 4 = t.val / 4 % 4 := by omega
    simp only [e, e1, e2, termAt]
  · rw [show 2048 * (t.val % 4) + 2048 = 8192 by omega, sum_all]
    rfl

/-- The array after the run is the gradient. -/
theorem final (c : Dev nD) : Value.G2 m c = grad (m ((c : Thread nD τ).loc main_arg0)) (m ((c : Thread nD τ).loc main_arg1)) := by
  funext i
  obtain ⟨i0, i1, i2, rfl⟩ : ∃ i0 i1 i2, i = ix3 i0 i1 i2 := ⟨i 0, i 1, i 2, eq_ix3 i⟩
  have h0 := i0.isLt
  have h1 := i1.isLt
  have h2 := i2.isLt
  have hp : Value.pt2Of (ix3 i0 i1 i2) = 4 * (i0.val + 4 * (i1.val / 1024)) + 3 := by
    show 4 * (1 * (i0.val / 1 - 0) + 4 * (i1.val / 1024 - 0) + 8 * (i2.val / 1408 - 0)) + 3 = _
    omega
  have hN : Value.pt2Of (ix3 i0 i1 i2) < cfg0.N := lt_of_lt_of_eq (by omega) N_0.symm
  have hl : Value.loc2Of (ix3 i0 i1 i2) = ix3 (0 : Fin 1) ⟨i1.val % 1024, Nat.mod_lt _ (by decide)⟩ i2 :=
    funext fun a => by
      match a with
      | ⟨0, _⟩ => exact Fin.ext (Nat.mod_one _)
      | ⟨1, _⟩ => rfl
      | ⟨2, _⟩ => exact Fin.ext (Nat.mod_eq_of_lt h2)
  unfold Value.G2
  rw [dif_pos hN, ← Value.outsAt0_sweep m c _ hN, hl]
  refine (out_eq m c ⟨_, hN⟩ (by show Value.pt2Of (ix3 i0 i1 i2) % 4 = 3; omega) _ _).trans (congrArg _ ?_)
  refine funext fun a => Fin.ext ?_
  match a with
  | ⟨0, _⟩ =>
    show Value.pt2Of (ix3 i0 i1 i2) / 4 % 4 = i0.val
    omega
  | ⟨1, _⟩ =>
    show 1024 * (Value.pt2Of (ix3 i0 i1 i2) / 16) + i1.val % 1024 = i1.val
    omega
  | ⟨2, _⟩ => rfl

/-- The reference's result is the gradient. -/
theorem ref_eq (A : FVec Ideal S8192x2048 .bf16) (B : FVec Ideal S8192x5632 .bf16) :
    Cert.Reference4Ideal.Read.val_main_v8 (F := Ideal) A B = grad A B := by
  funext i
  have h0 : (i 0).val < 4 := (i 0).isLt
  have h1 : (i 1).val < 2048 := (i 1).isLt
  have h2 : (i 2).val < 1408 := (i 2).isLt
  rw [Cert.Reference4Ideal.Read.val_main_v8_apply, Cert.Reference4Ideal.Read.val_main_v7_apply, Cert.Reference4Ideal.Read.val_main_v6_apply, Cert.Reference4Ideal.Read.val_main_v5_apply]
  refine (Cert.Reference4Ideal.Read.val_main_v4_apply _ _ _).trans (Finset.sum_congr rfl fun k _ => ?_)
  rw [mul_comm, Cert.Reference4Ideal.Read.val_main_v0_apply, Cert.Reference4Ideal.Read.val_main_v1_apply]
  refine congrArg₂ (· * ·) (congrArg A (funext fun a => Fin.ext ?_)) (congrArg B (funext fun a => Fin.ext ?_))
  · match a with
    | ⟨0, _⟩ => rfl
    | ⟨1, _⟩ =>
      show (((i 1).val * 4 + (i 0).val) * 1408 + (i 2).val) / 5632 = (i 1).val
      omega
  · match a with
    | ⟨0, _⟩ => rfl
    | ⟨1, _⟩ =>
      show (((i 1).val * 4 + (i 0).val) * 1408 + (i 2).val) % 5632 = 1408 * (i 0).val + (i 2).val
      omega

theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference compute the gradient. -/
theorem algebraic : Cert.algebraic_Kernel4Ideal_Reference4Ideal := by
  intro m ρ m' ρ' _ hag
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run (F := Ideal) m ρ)
  · refine (θ_run Cert.Reference4Ideal.defs _ _).mono (fun r h c => ?_) (Cert.Reference4Ideal.Value.run (F := Ideal) m' ρ')
    refine ⟨(h c).1.trans ?_, (h c).2⟩
    rw [Cert.Reference4Ideal.Read.val_main_v8_eq, (hag c).1, (hag c).2]
    exact ref_eq _ _

end Cert.Kernel4Ideal.Product
-- ==== Proof.InputGrad.lean ====
/-
  The gradient of the feed-forward layer's input: the call's result is the sum of the two cotangents' products with the
  weights of their projections, transposed, over the columns in the chips' four blocks of 1408.
-/
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Sums
public import Idealize.ShloMosaic.Lib.Claim
public import Idealize.ShloMosaic.Lib.Pointwise
public import Idealize.ShloMosaic.Lib.WritesUnit

@[expose] public section
set_option maxRecDepth 16384
noncomputable section
namespace Cert.Kernel5Ideal.Product
open Idealize.ShloMosaic Idealize.ShloMosaic.TcCoe Idealize.ShloMosaic.Tactic Idealize.SL.Sem Cert.Kernel5Ideal Cert.Kernel5Ideal.Gen Cert.Blocked

theorem hz : (![0, 0] : Fin 2 → Nat) = fun _ => 0 := funext fun a => by fin_cases a <;> rfl
theorem hz3 : (![0, 0, 0] : Fin 3 → Nat) = fun _ => 0 := funext fun a => by fin_cases a <;> rfl

/-- A chip's block of the weights, read as a matrix. -/
theorem chip_at (x : FVec Ideal S1x1024x1408 .bf16) (b : Fin 1024) (k : Fin 1408) :
    shapeCast S1024x1408 x shapeCasts_S1x1024x1408_S1024x1408 (ix2 b k) = x (ix3 (0 : Fin 1) b k) := by
  refine shapeCast_apply _ _ _ (ix3 (0 : Fin 1) b k) ?_
  rw [Shape.rowMajor_val_two, Shape.rowMajor_val_three]
  show (0 * 1024 + b.val) * 1408 + k.val = b.val * 1408 + k.val
  omega

/-- The accumulator's block after a point: what it held, and the products of the point's blocks. -/
theorem pay2_at (x0 : FVec Ideal S1024x1408 .bf16) (x1 : FVec Ideal S1x1024x1408 .bf16) (x2 : FVec Ideal S1024x1408 .bf16) (x3 : FVec Ideal S1x1024x1408 .bf16) (v : FVec Ideal S1024x1024 .f32) (a b : Fin 1024) :
    k0_pay2 x0 x1 x2 x3 v (ix2 a b) = v (ix2 a b)
      + (∑ k : Fin 1408, x0 (ix2 a k) * x1 (ix3 (0 : Fin 1) b k) + ∑ k : Fin 1408, x2 (ix2 a k) * x3 (ix3 (0 : Fin 1) b k)) := by
  simp only [← chip_at]
  unfold k0_pay2
  generalize shapeCast S1024x1408 x1 shapeCasts_S1x1024x1408_S1024x1408 = y1
  generalize shapeCast S1024x1408 x3 shapeCasts_S1x1024x1408_S1024x1408 = y3
  pointwise
theorem pay1_at (a b : Fin 1024) : k0_pay1 (F := Ideal) (ix2 a b) = 0 := by
  unfold k0_pay1
  pointwise

section cases
variable {F : FTy → Type} [FloatOps F]
variable (c : Dev nD) (i : grid0.Coords) (arg3 : Memref sig .tc .vmem S1024x1408 .bf16) (harg3 : arg3.IsWhole) (arg4 : Memref sig .tc .vmem S1x1024x1408 .bf16) (harg4 : arg4.IsWhole) (arg5 : Memref sig .tc .vmem S1024x1408 .bf16) (harg5 : arg5.IsWhole) (arg6 : Memref sig .tc .vmem S1x1024x1408 .bf16) (harg6 : arg6.IsWhole) (arg7 : Memref sig .tc .vmem S1024x1024 .bf16) (harg7 : arg7.IsWhole) (arg8 : Memref sig .tc .vmem S1024x1024 .f32) (harg8 : arg8.IsWhole)
  (x0 : Vec F S1024x1408 .bf16) (x1 : Vec F S1x1024x1408 .bf16) (x2 : Vec F S1024x1408 .bf16) (x3 : Vec F S1x1024x1408 .bf16) (xs : Vec F S1024x1024 .f32)

theorem scratch_A (hc0 : cond0_0 i) (hc1 : ¬cond0_1 i) :
    sout0_A_0 c i arg3 harg3 arg4 harg4 arg5 harg5 arg6 harg6 arg7 harg7 arg8 harg8 hc0 hc1 x0 x1 x2 x3 = k0_pay2 x0 x1 x2 x3 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, View.ld_unit_zero (S := S1024x1408) hz, View.ld_unit_zero (S := S1x1024x1408) hz3]

theorem scratch_B (hc0 : ¬cond0_0 i) (hc1 : ¬cond0_1 i) :
    sout0_B_0 c i arg3 harg3 arg4 harg4 arg5 harg5 arg6 harg6 arg7 harg7 arg8 harg8 hc0 hc1 x0 x1 x2 x3 xs = k0_pay2 x0 x1 x2 x3 xs := by
  unfold sout0_B_0
  rw [View.read_writes_eq_canon _ _ _ (scover0_B_0 c i arg3 harg3 arg4 harg4 arg5 harg5 arg6 harg6 arg7 harg7 arg8 harg8 hc0 hc1 x0 x1 x2 x3 xs)]
  unfold kernelRun0_B
  dsimp only
  sl_unfold_words
  rw [View.canon_unit_zero (S := S1024x1024) hz]
  simp only [View.readAt_eq_ld, harg3.read_unread, harg4.read_unread, harg5.read_unread, harg6.read_unread, harg8.read_unread, View.ld_unit_zero (S := S1024x1408) hz, View.ld_unit_zero (S := S1x1024x1408) hz3, View.ld_unit_zero (S := S1024x1024) hz]

theorem out_C (hc0 : ¬cond0_0 i) (hc1 : cond0_1 i) :
    out0_C_4 c i arg3 harg3 arg4 harg4 arg5 harg5 arg6 harg6 arg7 harg7 arg8 harg8 hc0 hc1 x0 x1 x2 x3 xs = k0_pay3 (k0_pay2 x0 x1 x2 x3 xs) := by
  unfold out0_C_4
  rw [View.read_writes_eq_canon _ _ _ (cover0_C_4 c i arg3 harg3 arg4 harg4 arg5 harg5 arg6 harg6 arg7 harg7 arg8 harg8 hc0 hc1 x0 x1 x2 x3 xs)]
  unfold kernelRun0_C
  dsimp only
  sl_unfold_words
  rw [View.canon_unit_zero (S := S1024x1024) hz, View.readCov_unit_zero (S := S1024x1024) _ hz]
  simp only [View.readAt_eq_ld, harg3.read_unread, harg4.read_unread, harg5.read_unread, harg6.read_unread, harg8.read_unread, View.ld_unit_zero (S := S1024x1408) hz, View.ld_unit_zero (S := S1x1024x1408) hz3, View.ld_unit_zero (S := S1024x1024) hz]
end cases

variable (m : (ℓ : Loc nD τ sig) → Buf (Elt Ideal) ℓ)

theorem lt_N (t : Fin cfg0.N) : t.val < 64 := lt_of_lt_of_eq t.isLt N_0

theorem index0 : ∀ t : Fin cfg0.N, (cfg0.win 0).index t 0 = t.val / 8 ∧ (cfg0.win 0).index t 1 = t.val % 4 := by decide
theorem index1 : ∀ t : Fin cfg0.N, (cfg0.win 1).index t 0 = t.val % 4 ∧ (cfg0.win 1).index t 1 = t.val / 4 % 2 ∧ (cfg0.win 1).index t 2 = 0 := by decide
theorem index2 : ∀ t : Fin cfg0.N, (cfg0.win 2).index t 0 = t.val / 8 ∧ (cfg0.win 2).index t 1 = t.val % 4 := by decide
theorem index3 : ∀ t : Fin cfg0.N, (cfg0.win 3).index t 0 = t.val % 4 ∧ (cfg0.win 3).index t 1 = t.val / 4 % 2 ∧ (cfg0.win 3).index t 2 = 0 := by decide

theorem x0_at (c : Dev nD) (t : Fin cfg0.N) (a : Fin 1024) (k : Fin 1408) :
    (iblk m c 0 t : FVec Ideal S1024x1408 .bf16) (ix2 a k)
      = (m ((c : Thread nD τ).loc main_arg0) : FVec Ideal S8192x5632 .bf16) (ix2 ⟨1024 * (t.val / 8) + a.val, by have := lt_N t; omega⟩ ⟨1408 * (t.val % 4) + k.val, by omega⟩) := by
  unfold iblk
  rw [View.read_apply]
  refine (congrArg (V m c main_arg0) (funext fun a => Fin.ext ?_)).trans (congrFun (V_main_arg0 m c) _)
  match a with
  | ⟨0, _⟩ =>
    refine (Pipeline.Window.rect_emb_val win0_0 t (ix2 _ k) 0).trans ?_
    rw [show win0_0.index t 0 = t.val / 8 from (index0 t).1]
    exact congrArg (· + _) (Nat.mul_comm _ _)
  | ⟨1, _⟩ =>
    refine (Pipeline.Window.rect_emb_val win0_0 t (ix2 _ k) 1).trans ?_
    rw [show win0_0.index t 1 = t.val % 4 from (index0 t).2]
    exact congrArg (· + _) (Nat.mul_comm _ _)

theorem x1_at (c : Dev nD) (t : Fin cfg0.N) (b : Fin 1024) (k : Fin 1408) :
    (iblk m c 1 t : FVec Ideal S1x1024x1408 .bf16) (ix3 (0 : Fin 1) b k)
      = (m ((c : Thread nD τ).loc main_arg1) : FVec Ideal S4x2048x1408 .bf16) (ix3 ⟨t.val % 4, by omega⟩ ⟨1024 * (t.val / 4 % 2) + b.val, by omega⟩ k) := by
  unfold iblk
  rw [View.read_apply]
  refine (congrArg (V m c main_arg1) (funext fun a => Fin.ext ?_)).trans (congrFun (V_main_arg1 m c) _)
  match a with
  | ⟨0, _⟩ =>
    refine (Pipeline.Window.rect_emb_val win0_1 t (ix3 (0 : Fin 1) b k) 0).trans ?_
    rw [show win0_1.index t 0 = t.val % 4 from (index1 t).1]
    show t.val % 4 * 1 + 0 = t.val % 4
    omega
  | ⟨1, _⟩ =>
    refine (Pipeline.Window.rect_emb_val win0_1 t (ix3 (0 : Fin 1) b k) 1).trans ?_
    rw [show win0_1.index t 1 = t.val / 4 % 2 from (index1 t).2.1]
    exact congrArg (· + _) (Nat.mul_comm _ _)
  | ⟨2, _⟩ =>
    refine (Pipeline.Window.rect_emb_val win0_1 t (ix3 (0 : Fin 1) b k) 2).trans ?_
    rw [show win0_1.index t 2 = 0 from (index1 t).2.2]
    show 0 * 1408 + k.val = k.val
    omega

theorem x2_at (c : Dev nD) (t : Fin cfg0.N) (a : Fin 1024) (k : Fin 1408) :
    (iblk m c 2 t : FVec Ideal S1024x1408 .bf16) (ix2 a k)
      = (m ((c : Thread nD τ).loc main_arg2) : FVec Ideal S8192x5632 .bf16) (ix2 ⟨1024 * (t.val / 8) + a.val, by have := lt_N t; omega⟩ ⟨1408 * (t.val % 4) + k.val, by omega⟩) := by
  unfold iblk
  rw [View.read_apply]
  refine (congrArg (V m c main_arg2) (funext fun a => Fin.ext ?_)).trans (congrFun (V_main_arg2 m c) _)
  match a with
  | ⟨0, _⟩ =>
    refine (Pipeline.Window.rect_emb_val win0_2 t (ix2 _ k) 0).trans ?_
    rw [show win0_2.index t 0 = t.val / 8 from (index2 t).1]
    exact congrArg (· + _) (Nat.mul_comm _ _)
  | ⟨1, _⟩ =>
    refine (Pipeline.Window.rect_emb_val win0_2 t (ix2 _ k) 1).trans ?_
    rw [show win0_2.index t 1 = t.val % 4 from (index2 t).2]
    exact congrArg (· + _) (Nat.mul_comm _ _)

theorem x3_at (c : Dev nD) (t : Fin cfg0.N) (b : Fin 1024) (k : Fin 1408) :
    (iblk m c 3 t : FVec Ideal S1x1024x1408 .bf16) (ix3 (0 : Fin 1) b k)
      = (m ((c : Thread nD τ).loc main_arg3) : FVec Ideal S4x2048x1408 .bf16) (ix3 ⟨t.val % 4, by omega⟩ ⟨1024 * (t.val / 4 % 2) + b.val, by omega⟩ k) := by
  unfold iblk
  rw [View.read_apply]
  refine (congrArg (V m c main_arg3) (funext fun a => Fin.ext ?_)).trans (congrFun (V_main_arg3 m c) _)
  match a with
  | ⟨0, _⟩ =>
    refine (Pipeline.Window.rect_emb_val win0_3 t (ix3 (0 : Fin 1) b k) 0).trans ?_
    rw [show win0_3.index t 0 = t.val % 4 from (index3 t).1]
    show t.val % 4 * 1 + 0 = t.val % 4
    omega
  | ⟨1, _⟩ =>
    refine (Pipeline.Window.rect_emb_val win0_3 t (ix3 (0 : Fin 1) b k) 1).trans ?_
    rw [show win0_3.index t 1 = t.val / 4 % 2 from (index3 t).2.1]
    exact congrArg (· + _) (Nat.mul_comm _ _)
  | ⟨2, _⟩ =>
    refine (Pipeline.Window.rect_emb_val win0_3 t (ix3 (0 : Fin 1) b k) 2).trans ?_
    rw [show win0_3.index t 2 = 0 from (index3 t).2.2]
    show 0 * 1408 + k.val = k.val
    omega

/-- The terms of entry `(i, j)` of one of the two products; the weights are the chips' columns. -/
def term (D : FVec Ideal S8192x5632 .bf16) (W : FVec Ideal S4x2048x1408 .bf16) (i : Fin 8192) (j : Fin 2048) (k : Fin 5632) : EReal :=
  D (ix2 i k) * W (ix3 ⟨k.val / 1408, by omega⟩ j ⟨k.val % 1408, Nat.mod_lt _ (by decide)⟩)

/-- The gradient. -/
def grad (D : FVec Ideal S8192x5632 .bf16) (W : FVec Ideal S4x2048x1408 .bf16) (D' : FVec Ideal S8192x5632 .bf16) (W' : FVec Ideal S4x2048x1408 .bf16) : FVec Ideal S8192x2048 .bf16 :=
  fun y => ∑ k : Fin 5632, (term D W (y 0) (y 1) k + term D' W' (y 0) (y 1) k)

/-- The terms of the entry that a point holds at `(a, b)` of its block. -/
abbrev termAt (c : Dev nD) (t : Fin cfg0.N) (a b : Fin 1024) (k : Fin 5632) : EReal :=
  have i : Fin 8192 := ⟨1024 * (t.val / 8) + a.val, by have := lt_N t; omega⟩
  have j : Fin 2048 := ⟨1024 * (t.val / 4 % 2) + b.val, by omega⟩
  term (m ((c : Thread nD τ).loc main_arg0)) (m ((c : Thread nD τ).loc main_arg1)) i j k + term (m ((c : Thread nD τ).loc main_arg2)) (m ((c : Thread nD τ).loc main_arg3)) i j k

/-- A point adds its block's terms to those before. -/
theorem step (c : Dev nD) (t : Fin cfg0.N) (v : FVec Ideal S1024x1024 .f32) (a b : Fin 1024)
    (hv : v (ix2 a b) = ∑ k ∈ Finset.range (1408 * (t.val % 4)), ext (termAt m c t a b) k) :
    k0_pay2 (iblk m c 0 t) (iblk m c 1 t) (iblk m c 2 t) (iblk m c 3 t) v (ix2 a b) = ∑ k ∈ Finset.range (1408 * (t.val % 4) + 1408), ext (termAt m c t a b) k := by
  rw [pay2_at, hv]
  refine sum_add_step _ _ _ _ _ fun k => ?_
  have e : (⟨t.val % 4, by omega⟩ : Fin 4) = ⟨(1408 * (t.val % 4) + k.val) / 1408, by omega⟩ := Fin.ext (by show t.val % 4 = (1408 * (t.val % 4) + k.val) / 1408; omega)
  have e' : k = ⟨(1408 * (t.val % 4) + k.val) % 1408, Nat.mod_lt _ (by decide)⟩ := Fin.ext (by show k.val = (1408 * (t.val % 4) + k.val) % 1408; omega)
  rw [x0_at, x1_at, x2_at, x3_at, ext_of_lt _ (by omega)]
  unfold termAt term
  dsimp only
  rw [← e, ← e']

/-- The accumulator after a point that is not the last of its block holds the terms up to the point. -/
theorem scratch_eq (c : Dev nD) (a b : Fin 1024) : ∀ (n : ℕ) (hn : n < cfg0.N), n % 4 ≠ 3 →
    (outsAt0 m c n hn).2 (ix2 a b) = ∑ k ∈ Finset.range (1408 * (n % 4) + 1408), ext (termAt m c ⟨n, hn⟩ a b) k
  | 0, hn, _ => by
    rw [outsAt0_A m c ⟨0, hn⟩ rfl (by simp), scratch_A]
    exact step m c ⟨0, hn⟩ _ a b (by rw [pay1_at]; simp)
  | n + 1, hn, h3 => by
    by_cases h0 : (n + 1) % 4 = 0
    · rw [outsAt0_A m c ⟨n + 1, hn⟩ h0 h3, scratch_A]
      exact step m c ⟨n + 1, hn⟩ _ a b (by rw [pay1_at]; simp [h0])
    · rw [outsAt0_B m c ⟨n + 1, hn⟩ h0 h3, scratch_B]
      refine step m c ⟨n + 1, hn⟩ _ a b ((scratch_eq c a b n (Nat.lt_of_succ_lt hn) (by omega)).trans ?_)
      have e : 1408 * (n % 4) + 1408 = 1408 * ((n + 1) % 4) := by omega
      have e1 : n / 8 = (n + 1) / 8 := by omega
      have e2 : n / 4 % 2 = (n + 1) / 4 % 2 := by omega
      unfold termAt
      simp only [e, e1, e2]

/-- The result's block after its last point is the gradient's. -/
theorem out_eq (c : Dev nD) (t : Fin cfg0.N) (h3 : t.val % 4 = 3) (a b : Fin 1024) :
    (outsAt0 m c t.val t.isLt).1 (ix2 a b) = grad (m ((c : Thread nD τ).loc main_arg0)) (m ((c : Thread nD τ).loc main_arg1)) (m ((c : Thread nD τ).loc main_arg2)) (m ((c : Thread nD τ).loc main_arg3))
      (ix2 ⟨1024 * (t.val / 8) + a.val, by have := lt_N t; omega⟩ ⟨1024 * (t.val / 4 % 2) + b.val, by omega⟩) := by
  have h0 : ¬t.val % 4 = 0 := by omega
  rw [outsAt0_C m c t h0 h3, out_C]
  refine (step m c t _ a b ((scratch_eq m c a b (t.val - 1) _ (by omega)).trans ?_)).trans ?_
  · have e : 1408 * ((t.val - 1) % 4) + 1408 = 1408 * (t.val % 4) := by omega
    have e1 : (t.val - 1) / 8 = t.val / 8 := by omega
    have e2 : (t.val - 1) / 4 % 2 = t.val / 4 % 2 := by omega
    unfold termAt
    simp only [e, e1, e2]
  · rw [show 1408 * (t.val % 4) + 1408 = 5632 by omega, sum_all]
    rfl

/-- The array after the run is the gradient. -/
theorem final (c : Dev nD) : Value.G4 m c = grad (m ((c : Thread nD τ).loc main_arg0)) (m ((c : Thread nD τ).loc main_arg1)) (m ((c : Thread nD τ).loc main_arg2)) (m ((c : Thread nD τ).loc main_arg3)) := by
  funext i
  obtain ⟨i0, i1, rfl⟩ : ∃ i0 i1, i = ix2 i0 i1 := ⟨i 0, i 1, eq_ix2 i⟩
  have h0 := i0.isLt
  have h1 := i1.isLt
  have hp : Value.pt4Of (ix2 i0 i1) = 4 * (2 * (i0.val / 1024) + i1.val / 1024) + 3 := by
    show 4 * (2 * (i0.val / 1024 - 0) + 1 * (i1.val / 1024 - 0)) + 3 = _
    omega
  have hN : Value.pt4Of (ix2 i0 i1) < cfg0.N := lt_of_lt_of_eq (by omega) N_0.symm
  have hl : Value.loc4Of (ix2 i0 i1) = ix2 ⟨i0.val % 1024, Nat.mod_lt _ (by decide)⟩ ⟨i1.val % 1024, Nat.mod_lt _ (by decide)⟩ :=
    funext fun a => by match a with | ⟨0, _⟩ => rfl | ⟨1, _⟩ => rfl
  unfold Value.G4
  rw [dif_pos hN, ← Value.outsAt0_sweep m c _ hN, hl]
  refine (out_eq m c ⟨_, hN⟩ (by show Value.pt4Of (ix2 i0 i1) % 4 = 3; omega) _ _).trans (congrArg _ (congrArg₂ ix2 (Fin.ext ?_) (Fin.ext ?_)))
  · show 1024 * (Value.pt4Of (ix2 i0 i1) / 8) + i0.val % 1024 = i0.val
    omega
  · show 1024 * (Value.pt4Of (ix2 i0 i1) / 4 % 2) + i1.val % 1024 = i1.val
    omega

/-- The chips' weights laid side by side: the reference's two chains of layout operations are one function. -/
theorem whole_at (W : FVec Ideal S4x2048x1408 .bf16) (j : Fin 2048) (k : Fin 5632) :
    Cert.Reference5Ideal.Read.val_main_v6 (F := Ideal) W (ix2 j k) = W (ix3 ⟨k.val / 1408, by omega⟩ j ⟨k.val % 1408, Nat.mod_lt _ (by decide)⟩) := by
  rw [Cert.Reference5Ideal.Read.val_main_v6_apply, Cert.Reference5Ideal.Read.val_main_v5_apply, Cert.Reference5Ideal.Read.val_main_v1_apply]
  refine congrArg W (funext fun a => Fin.ext ?_)
  match a with
  | ⟨0, _⟩ =>
    show (j.val * 5632 + k.val) / 1408 % 4 = k.val / 1408
    omega
  | ⟨1, _⟩ =>
    show (j.val * 5632 + k.val) / 5632 = j.val
    omega
  | ⟨2, _⟩ =>
    show (j.val * 5632 + k.val) % 1408 = k.val % 1408
    omega

/-- The reference's result is the gradient. -/
theorem ref_eq (D : FVec Ideal S8192x5632 .bf16) (W : FVec Ideal S4x2048x1408 .bf16) (D' : FVec Ideal S8192x5632 .bf16) (W' : FVec Ideal S4x2048x1408 .bf16) :
    Cert.Reference5Ideal.Read.val_main_v14 (F := Ideal) D W D' W' = grad D W D' W' := by
  funext i
  obtain ⟨i0, i1, rfl⟩ : ∃ i0 i1, i = ix2 i0 i1 := ⟨i 0, i 1, eq_ix2 i⟩
  rw [Cert.Reference5Ideal.Read.val_main_v14_apply, Cert.Reference5Ideal.Read.val_main_v13_apply]
  refine (add_comm (_ : EReal) _).trans ?_
  unfold grad
  rw [Finset.sum_add_distrib]
  refine congrArg₂ (· + ·) ((Cert.Reference5Ideal.Read.val_main_v12_apply _ _ _).trans ?_) ((Cert.Reference5Ideal.Read.val_main_v11_apply _ _ _).trans ?_) <;>
    refine Finset.sum_congr rfl fun k _ => congrArg₂ (· * ·) (congrArg _ (funext fun a => ?_)) ((congrArg _ (funext fun a => ?_)).trans (whole_at _ i1 k)) <;>
    match a with | ⟨0, _⟩ => rfl | ⟨1, _⟩ => rfl

theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference compute the gradient. -/
theorem algebraic : Cert.algebraic_Kernel5Ideal_Reference5Ideal := by
  intro m ρ m' ρ' _ hag
  refine ⟨fun c => grad (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final m c), (h c).2⟩) (Value.run (F := Ideal) m ρ)
  · refine (θ_run Cert.Reference5Ideal.defs _ _).mono (fun r h c => ?_) (Cert.Reference5Ideal.Value.run (F := Ideal) m' ρ')
    refine ⟨(h c).1.trans ?_, (h c).2⟩
    rw [Cert.Reference5Ideal.Read.val_main_v14_eq, (hag c).1, (hag c).2.1, (hag c).2.2.1, (hag c).2.2.2]
    exact ref_eq _ _ _ _

end Cert.Kernel5Ideal.Product
-- ==== Proof.Up.lean ====
/-
  The feed-forward layer up to its activations: each of the call's blocks is the input's rows times one chip's columns of
  the two weights, and the gate's function of the first times the second.
-/
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gate
public import Idealize.ShloMosaic.Lib.Claim
public import Idealize.ShloMosaic.Lib.VecWindow
public import Idealize.ShloMosaic.Lib.Pipeline.ValueKit.Geometry
public import Idealize.ShloMosaic.Lib.Pointwise
public import Idealize.ShloMosaic.Lib.WritesUnit

@[expose] public section
set_option maxRecDepth 16384
noncomputable section
namespace Cert.Kernel6Ideal.Product
open Idealize.ShloMosaic Idealize.ShloMosaic.TcCoe Idealize.ShloMosaic.Tactic Idealize.SL.Sem Cert.Kernel6Ideal Cert.Kernel6Ideal.Gen Cert.Gate

theorem hz : (![0, 0] : Fin 2 → Nat) = fun _ => 0 := funext fun a => by fin_cases a <;> rfl
theorem hz3 : (![0, 0, 0] : Fin 3 → Nat) = fun _ => 0 := funext fun a => by fin_cases a <;> rfl

/-- A chip's columns of the weights, read as a matrix. -/
theorem chip_at (x : FVec Ideal S1x2048x1408 .bf16) (k : Fin 2048) (b : Fin 1408) :
    shapeCast S2048x1408 x shapeCasts_S1x2048x1408_S2048x1408 (ix2 k b) = x (ix3 (0 : Fin 1) k b) := by
  refine shapeCast_apply _ _ _ (ix3 (0 : Fin 1) k b) ?_
  rw [Shape.rowMajor_val_two, Shape.rowMajor_val_three]
  show (0 * 2048 + k.val) * 1408 + b.val = k.val * 1408 + b.val
  omega

/-- The two accumulators after the point that starts and ends them. -/
theorem gate_at (x0 : FVec Ideal S512x2048 .bf16) (x1 : FVec Ideal S1x2048x1408 .bf16) (a : Fin 512) (b : Fin 1408) :
    k0_pay3 (F := Ideal) x0 (k0_pay1 (F := Ideal)) x1 (ix2 a b) = ∑ k : Fin 2048, (x0 (ix2 a k) * x1 (ix3 (0 : Fin 1) k b) : EReal) := by
  simp only [← chip_at]
  unfold k0_pay3 k0_pay1
  generalize shapeCast S2048x1408 x1 shapeCasts_S1x2048x1408_S2048x1408 = y
  pointwise
theorem up_at (x0 : FVec Ideal S512x2048 .bf16) (x2 : FVec Ideal S1x2048x1408 .bf16) (a : Fin 512) (b : Fin 1408) :
    k0_pay4 (F := Ideal) x0 (k0_pay2 (F := Ideal)) x2 (ix2 a b) = ∑ k : Fin 2048, (x0 (ix2 a k) * x2 (ix3 (0 : Fin 1) k b) : EReal) :=
  gate_at x0 x2 a b

/-- The activations from the gate and the other factor. -/
theorem act_at (g u : FVec Ideal S512x1408 .f32) (y : S512x1408.Idx) :
    k0_pay5 (F := Ideal) g u y = (g y * Ideal.logistic (g y) * u y : EReal) := by
  show (g y : EReal) * Ideal.div (Ideal.ofBits .f32 0x3F800000#32) (Ideal.ofBits .f32 0x3F800000#32 + Ideal.exp (Ideal.ofBits .f32 0x00000000#32 - g y)) * u y = _
  rw [ofBits_one, ofBits_zero, logistic_sub]

section cases
variable {F : FTy → Type} [FloatOps F]
variable (c : Dev nD) (i : grid0.Coords) (arg3 : Memref sig .tc .vmem S512x2048 .bf16) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S512x1408 .bf16) (harg6 : arg6.IsWhole) (arg7 : Memref sig .tc .vmem S512x1408 .bf16) (harg7 : arg7.IsWhole) (arg8 : Memref sig .tc .vmem S512x1408 .bf16) (harg8 : arg8.IsWhole)
  (arg9 : Memref sig .tc .vmem S512x1408 .f32) (harg9 : arg9.IsWhole) (arg10 : Memref sig .tc .vmem S512x1408 .f32) (harg10 : arg10.IsWhole)
  (x0 : Vec F S512x2048 .bf16) (x1 x2 : Vec F S1x2048x1408 .bf16)

/-- What an accumulator holds is what was stored last. -/
theorem readCov_first (v : View sig .tc .vmem S512x1408 .f32) (inb inb' : ∀ a, (![0, 0] : Fin 2 → Nat) a + S512x1408.size a ≤ S512x1408.size a) (w : Vec F S512x1408 .f32) (L : List (View.Piece (Elt F) S512x1408 .f32)) :
    v.readCov (⟨Rect.unit ![0, 0] S512x1408.size inb', w⟩ :: L) (Rect.unit ![0, 0] S512x1408.size inb).toLoadRect = w :=
  View.readCov_full v inb inb' w L

theorem out3_eq (hc0 : cond0_0 i) (hc1 : cond0_1 i) :
    out0_A_3 c i arg3 harg3 arg4 harg4 arg5 harg5 arg6 harg6 arg7 harg7 arg8 harg8 arg9 harg9 arg10 harg10 hc0 hc1 x0 x1 x2 = k0_pay5 (k0_pay3 x0 k0_pay1 x1) (k0_pay4 x0 k0_pay2 x2) := by
  unfold out0_A_3
  rw [View.read_writes_eq_canon _ _ _ (cover0_A_3 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero (S := S512x1408) hz]
  simp only [View.readCov_unit_zero (S := S512x1408) _ hz, View.readAt_eq_ld, harg3.read_unread, harg4.read_unread, harg5.read_unread, View.ld_unit_zero (S := S512x2048) hz, View.ld_unit_zero (S := S1x2048x1408) hz3]
  exact congrArg₂ k0_pay5 (readCov_first _ _ _ _ _) (readCov_first _ _ _ _ _)

theorem out4_eq (hc0 : cond0_0 i) (hc1 : cond0_1 i) :
    out0_A_4 c i arg3 harg3 arg4 harg4 arg5 harg5 arg6 harg6 arg7 harg7 arg8 harg8 arg9 harg9 arg10 harg10 hc0 hc1 x0 x1 x2 = k0_pay6 (k0_pay3 x0 k0_pay1 x1) := by
  unfold out0_A_4
  rw [View.read_writes_eq_canon _ _ _ (cover0_A_4 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero (S := S512x1408) hz]
  simp only [View.readCov_unit_zero (S := S512x1408) _ hz, View.readAt_eq_ld, harg3.read_unread, harg4.read_unread, harg5.read_unread, View.ld_unit_zero (S := S512x2048) hz, View.ld_unit_zero (S := S1x2048x1408) hz3]
  exact congrArg k0_pay6 (readCov_first _ _ _ _ _)

theorem out5_eq (hc0 : cond0_0 i) (hc1 : cond0_1 i) :
    out0_A_5 c i arg3 harg3 arg4 harg4 arg5 harg5 arg6 harg6 arg7 harg7 arg8 harg8 arg9 harg9 arg10 harg10 hc0 hc1 x0 x1 x2 = k0_pay7 (k0_pay4 x0 k0_pay2 x2) := by
  unfold out0_A_5
  rw [View.read_writes_eq_canon _ _ _ (cover0_A_5 c i arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero (S := S512x1408) hz]
  simp only [View.readCov_unit_zero (S := S512x1408) _ hz, View.readAt_eq_ld, harg3.read_unread, harg4.read_unread, harg5.read_unread, View.ld_unit_zero (S := S512x2048) hz, View.ld_unit_zero (S := S1x2048x1408) hz3]
  exact congrArg k0_pay7 (readCov_first _ _ _ _ _)

end cases

variable (m : (ℓ : Loc nD τ sig) → Buf (Elt Ideal) ℓ)

theorem lt_N (t : Fin cfg0.N) : t.val < 64 := lt_of_lt_of_eq t.isLt N_0

/-- The rows and the columns of a point's block. -/
abbrev row (t : Fin cfg0.N) (a : Fin 512) : Fin 8192 := ⟨512 * (t.val / 4) + a.val, by have := lt_N t; omega⟩
abbrev col (t : Fin cfg0.N) (b : Fin 1408) : Fin 5632 := ⟨1408 * (t.val % 4) + b.val, by omega⟩

theorem index0 : ∀ t : Fin cfg0.N, win0_0.index t 0 = t.val / 4 ∧ win0_0.index t 1 = 0 := by decide +kernel
theorem index1 : ∀ t : Fin cfg0.N, win0_1.index t 0 = t.val % 4 ∧ win0_1.index t 1 = 0 ∧ win0_1.index t 2 = 0 := by decide +kernel
theorem index3 : ∀ t : Fin cfg0.N, win0_3.index t 0 = t.val / 4 ∧ win0_3.index t 1 = t.val % 4 := by decide +kernel

theorem x0_at (c : Dev nD) (t : Fin cfg0.N) (a : Fin 512) (k : Fin 2048) :
    (iblk m c 0 t : FVec Ideal S512x2048 .bf16) (ix2 a k) = (m ((c : Thread nD τ).loc main_arg0) : FVec Ideal S8192x2048 .bf16) (ix2 (row t a) k) := by
  unfold iblk
  rw [View.read_apply]
  refine (congrArg (V m c main_arg0) (funext fun a => Fin.ext ?_)).trans (congrFun (V_main_arg0 m c) _)
  match a with
  | ⟨0, _⟩ =>
    refine (Pipeline.Window.rect_emb_val win0_0 t (ix2 _ k) 0).trans ?_
    rw [(index0 t).1]
    exact congrArg (· + _) (Nat.mul_comm _ _)
  | ⟨1, _⟩ =>
    refine (Pipeline.Window.rect_emb_val win0_0 t (ix2 _ k) 1).trans ?_
    rw [(index0 t).2]
    exact (congrArg (· + k.val) (Nat.zero_mul 2048)).trans (Nat.zero_add _)

/-- The two weights have the same blocks, and so have the three results. -/
theorem chip_emb (t : Fin cfg0.N) (k : Fin 2048) (b : Fin 1408) :
    (win0_1.blk t).view.emb (ix3 (0 : Fin 1) k b) = (ix3 ⟨t.val % 4, by omega⟩ k b : S4x2048x1408.Idx) := funext fun z => Fin.ext (by
  match z with
  | ⟨0, _⟩ =>
    refine (Pipeline.Window.rect_emb_val win0_1 t (ix3 (0 : Fin 1) k b) 0).trans ?_
    rw [(index1 t).1]
    show t.val % 4 * 1 + 0 = t.val % 4
    omega
  | ⟨1, _⟩ =>
    refine (Pipeline.Window.rect_emb_val win0_1 t (ix3 (0 : Fin 1) k b) 1).trans ?_
    rw [(index1 t).2.1]
    show 0 * 2048 + k.val = k.val
    omega
  | ⟨2, _⟩ =>
    refine (Pipeline.Window.rect_emb_val win0_1 t (ix3 (0 : Fin 1) k b) 2).trans ?_
    rw [(index1 t).2.2]
    show 0 * 1408 + b.val = b.val
    omega)

theorem emb (t : Fin cfg0.N) (a : Fin 512) (b : Fin 1408) : (win0_3.blk t).view.emb (ix2 a b) = (ix2 (row t a) (col t b) : S8192x5632.Idx) := funext fun z => Fin.ext (by
  match z with
  | ⟨0, _⟩ =>
    refine (Pipeline.Window.rect_emb_val win0_3 t (ix2 a b) 0).trans ?_
    rw [(index3 t).1]
    exact congrArg (· + _) (Nat.mul_comm _ _)
  | ⟨1, _⟩ =>
    refine (Pipeline.Window.rect_emb_val win0_3 t (ix2 a b) 1).trans ?_
    rw [(index3 t).2]
    exact congrArg (· + _) (Nat.mul_comm _ _))

theorem x1_at (c : Dev nD) (t : Fin cfg0.N) (k : Fin 2048) (b : Fin 1408) :
    (iblk m c 1 t : FVec Ideal S1x2048x1408 .bf16) (ix3 (0 : Fin 1) k b)
      = (m ((c : Thread nD τ).loc main_arg1) : FVec Ideal S4x2048x1408 .bf16) (ix3 ⟨t.val % 4, by omega⟩ k b) := by
  unfold iblk
  rw [View.read_apply]
  exact (congrArg (V m c main_arg1) (chip_emb t k b)).trans (congrFun (V_main_arg1 m c) _)

theorem x2_at (c : Dev nD) (t : Fin cfg0.N) (k : Fin 2048) (b : Fin 1408) :
    (iblk m c 2 t : FVec Ideal S1x2048x1408 .bf16) (ix3 (0 : Fin 1) k b)
      = (m ((c : Thread nD τ).loc main_arg2) : FVec Ideal S4x2048x1408 .bf16) (ix3 ⟨t.val % 4, by omega⟩ k b) := by
  unfold iblk
  rw [View.read_apply]
  exact (congrArg (V m c main_arg2) (chip_emb t k b)).trans (congrFun (V_main_arg2 m c) _)

/-- The product of the input with weights whose columns are given chip by chip. -/
def prod (H : FVec Ideal S8192x2048 .bf16) (W : FVec Ideal S4x2048x1408 .bf16) : FVec Ideal S8192x5632 .bf16 :=
  fun y => ∑ k : Fin 2048, H (ix2 (y 0) k)
    * W (ix3 ⟨(y 1).val / 1408, by have h : (y 1).val < 5632 := (y 1).isLt; omega⟩ k ⟨(y 1).val % 1408, Nat.mod_lt _ (by decide)⟩)

/-- The activations. -/
def act (G U : FVec Ideal S8192x5632 .bf16) : FVec Ideal S8192x5632 .bf16 := fun y => (G y * Ideal.logistic (G y) * U y : EReal)

/-- What the products of a point's blocks are. -/
theorem prod_at (H : FVec Ideal S8192x2048 .bf16) (W : FVec Ideal S4x2048x1408 .bf16) (t : Fin cfg0.N) (a : Fin 512) (b : Fin 1408) :
    ∑ k : Fin 2048, (H (ix2 (row t a) k) * W (ix3 ⟨t.val % 4, by omega⟩ k b) : EReal) = prod H W (ix2 (row t a) (col t b)) := by
  refine Finset.sum_congr rfl fun k _ => congrArg (H (ix2 (row t a) k) * W ·) (congrArg₂ (fun i j => ix3 i k j) (Fin.ext ?_) (Fin.ext ?_))
  · show t.val % 4 = (1408 * (t.val % 4) + b.val) / 1408
    omega
  · show b.val = (1408 * (t.val % 4) + b.val) % 1408
    omega

theorem gate_blk (c : Dev nD) (t : Fin cfg0.N) (a : Fin 512) (b : Fin 1408) :
    k0_pay3 (F := Ideal) (iblk m c 0 t) (k0_pay1 (F := Ideal)) (iblk m c 1 t) (ix2 a b)
      = prod (m ((c : Thread nD τ).loc main_arg0)) (m ((c : Thread nD τ).loc main_arg1)) (ix2 (row t a) (col t b)) := by
  refine (gate_at _ _ a b).trans (Eq.trans ?_ (prod_at _ _ t a b))
  simp only [x0_at, x1_at]

theorem up_blk (c : Dev nD) (t : Fin cfg0.N) (a : Fin 512) (b : Fin 1408) :
    k0_pay4 (F := Ideal) (iblk m c 0 t) (k0_pay2 (F := Ideal)) (iblk m c 2 t) (ix2 a b)
      = prod (m ((c : Thread nD τ).loc main_arg0)) (m ((c : Thread nD τ).loc main_arg2)) (ix2 (row t a) (col t b)) := by
  refine (up_at _ _ a b).trans (Eq.trans ?_ (prod_at _ _ t a b))
  simp only [x0_at, x2_at]

/-- The three arrays after the run. -/
theorem final3 (c : Dev nD) : (dats m 0 c).arrAt 3 cfg0.N = act (prod (m ((c : Thread nD τ).loc main_arg0)) (m ((c : Thread nD τ).loc main_arg1)))
    (prod (m ((c : Thread nD τ).loc main_arg0)) (m ((c : Thread nD τ).loc main_arg2))) := by
  refine (dats m 0 c).arrAt_eq_of_covers 3 _ (by decide +kernel) fun t hf y => ?_
  obtain ⟨a, b, rfl⟩ : ∃ (a : Fin 512) (b : Fin 1408), y = ix2 a b := ⟨y 0, y 1, eq_ix2 y⟩
  refine Eq.trans (b := (outsAt0 m c t).1 (ix2 a b)) (by rw [after0_3]; generalize (outsAt0 m c t).1 = z; rfl) ?_
  unfold outsAt0
  dsimp only
  rw [out3_eq]
  refine (act_at _ _ _).trans (Eq.trans ?_ (congrArg (act _ _) (emb t a b)).symm)
  rw [gate_blk, up_blk]
  rfl

theorem final4 (c : Dev nD) : (dats m 0 c).arrAt 4 cfg0.N = prod (m ((c : Thread nD τ).loc main_arg0)) (m ((c : Thread nD τ).loc main_arg1)) := by
  refine (dats m 0 c).arrAt_eq_of_covers 4 _ (by decide +kernel) fun t hf y => ?_
  obtain ⟨a, b, rfl⟩ : ∃ (a : Fin 512) (b : Fin 1408), y = ix2 a b := ⟨y 0, y 1, eq_ix2 y⟩
  refine Eq.trans (b := (outsAt0 m c t).2.1 (ix2 a b)) (by rw [after0_4]; generalize (outsAt0 m c t).2.1 = z; rfl) ?_
  unfold outsAt0
  dsimp only
  rw [out4_eq]
  exact (gate_blk m c t a b).trans (congrArg (prod _ _) (emb t a b)).symm

theorem final5 (c : Dev nD) : (dats m 0 c).arrAt 5 cfg0.N = prod (m ((c : Thread nD τ).loc main_arg0)) (m ((c : Thread nD τ).loc main_arg2)) := by
  refine (dats m 0 c).arrAt_eq_of_covers 5 _ (by decide +kernel) fun t hf y => ?_
  obtain ⟨a, b, rfl⟩ : ∃ (a : Fin 512) (b : Fin 1408), y = ix2 a b := ⟨y 0, y 1, eq_ix2 y⟩
  refine Eq.trans (b := (outsAt0 m c t).2.2 (ix2 a b)) (by rw [after0_5]; generalize (outsAt0 m c t).2.2 = z; rfl) ?_
  unfold outsAt0
  dsimp only
  rw [out5_eq]
  exact (up_blk m c t a b).trans (congrArg (prod _ _) (emb t a b)).symm

open Cert.Reference6Ideal.Read

/-- The reference's gate, and its other factor, which it computes in the same way. -/
theorem ref_gate (H : FVec Ideal S8192x2048 .bf16) (W : FVec Ideal S4x2048x1408 .bf16) : val_main_v18 (F := Ideal) H W = prod H W := by
  funext y
  have h0 : (y 0).val < 8192 := (y 0).isLt
  have h1 : (y 1).val < 5632 := (y 1).isLt
  rw [val_main_v18_apply, val_main_v7_apply, val_main_v6_apply]
  refine (val_main_v5_apply _ _ _).trans (Finset.sum_congr rfl fun k _ => ?_)
  have hk : k.val < 2048 := k.isLt
  rw [val_main_v0_apply, val_main_v4_apply, val_main_v3_apply, val_main_v1_apply]
  refine congrArg₂ (· * ·) (congrArg H (funext fun a => ?_)) (congrArg W (funext fun a => Fin.ext ?_))
  · match a with | ⟨0, _⟩ => rfl | ⟨1, _⟩ => rfl
  · match a with
    | ⟨0, _⟩ =>
      show (k.val * 5632 + (y 1).val) / 1408 % 4 = (y 1).val / 1408
      omega
    | ⟨1, _⟩ =>
      show (k.val * 5632 + (y 1).val) / 5632 = k.val
      omega
    | ⟨2, _⟩ =>
      show (k.val * 5632 + (y 1).val) % 1408 = (y 1).val % 1408
      omega

theorem ref_up (H : FVec Ideal S8192x2048 .bf16) (W : FVec Ideal S4x2048x1408 .bf16) : val_main_v19 (F := Ideal) H W = prod H W :=
  ref_gate H W

theorem ref_act (H : FVec Ideal S8192x2048 .bf16) (W W' : FVec Ideal S4x2048x1408 .bf16) :
    val_main_v17 (F := Ideal) H W W' = act (prod H W) (prod H W') := by
  rw [← ref_gate H W, ← ref_up H W']
  funext y
  have hs : val_main_call0_v5 (F := Ideal) H W y = Ideal.logistic (val_main_v18 (F := Ideal) H W y) := by
    rw [val_main_call0_v5_apply, val_main_call0_v4_apply, val_main_call0_v3_apply, val_main_call0_v2_apply]
    show Ideal.div (Ideal.ofBits .f32 0x3F800000#32) (Ideal.ofBits .f32 0x3F800000#32 + Ideal.exp (-(val_main_v18 (F := Ideal) H W y))) = _
    rw [ofBits_one]
    rfl
  show (val_main_v18 (F := Ideal) H W y * val_main_call0_v5 (F := Ideal) H W y * val_main_v19 (F := Ideal) H W' y : EReal) = _
  rw [hs]
  rfl

theorem frame_ref : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- Kernel and reference compute the activations, the gate and the other factor. -/
theorem algebraic : Cert.algebraic_Kernel6Ideal_Reference6Ideal := by
  intro m ρ m' ρ' _ hag
  refine ⟨fun c => act (prod (m ((c : Thread nD τ).loc main_arg0)) (m ((c : Thread nD τ).loc main_arg1))) (prod (m ((c : Thread nD τ).loc main_arg0)) (m ((c : Thread nD τ).loc main_arg2))),
    fun c => prod (m ((c : Thread nD τ).loc main_arg0)) (m ((c : Thread nD τ).loc main_arg1)),
    fun c => prod (m ((c : Thread nD τ).loc main_arg0)) (m ((c : Thread nD τ).loc main_arg2)), ?_, ?_⟩
  · exact (θ_run defs _ _).mono (fun r h c => ⟨(h c).1.trans (final3 m c), (h c).2.1.trans (final4 m c), (h c).2.2.1.trans (final5 m c), (h c).2.2.2⟩) (Value.run_blocks (F := Ideal) m ρ)
  · refine (θ_run Cert.Reference6Ideal.defs _ _).mono (fun r h c => ?_) (Cert.Reference6Ideal.Value.run (F := Ideal) m' ρ')
    refine ⟨(h c).1.trans ?_, (h c).2.1.trans ?_, (h c).2.2.1.trans ?_, (h c).2.2.2⟩
    · rw [val_main_v17_eq, (hag c).1, (hag c).2.1, (hag c).2.2]
      exact ref_act _ _ _
    · rw [val_main_v18_eq, (hag c).1, (hag c).2.1]
      exact ref_gate _ _
    · rw [val_main_v19_eq, (hag c).1, (hag c).2.2]
      exact ref_up _ _

end Cert.Kernel6Ideal.Product
-- ==== Proof.Down.lean ====
/-
  The projection down: the call's result is the layer's own input plus the product of the activations with the weights,
  summed over the inner width in two blocks of 2816.
-/
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Sums
public import Idealize.ShloMosaic.Lib.Claim
public import Idealize.ShloMosaic.Lib.Pointwise
public import Idealize.ShloMosaic.Lib.WritesUnit

@[expose] public section
set_option maxRecDepth 16384
noncomputable section
namespace Cert.Kernel7Ideal.Product
open Idealize.ShloMosaic Idealize.ShloMosaic.TcCoe Idealize.ShloMosaic.Tactic Idealize.SL.Sem Cert.Kernel7Ideal Cert.Kernel7Ideal.Gen Cert.Blocked

theorem hz : (![0, 0] : Fin 2 → Nat) = fun _ => 0 := funext fun a => by fin_cases a <;> rfl

/-- The accumulator's block after a point: what it held, and the product of the point's two blocks. -/
theorem pay2_at (x0 : FVec Ideal S1024x2816 .bf16) (x1 : FVec Ideal S2816x1024 .bf16) (v : FVec Ideal S1024x1024 .f32) (a b : Fin 1024) :
    k0_pay2 x0 x1 v (ix2 a b) = v (ix2 a b) + ∑ k : Fin 2816, x0 (ix2 a k) * x1 (ix2 k b) := by
  unfold k0_pay2
  pointwise
theorem pay1_at (a b : Fin 1024) : k0_pay1 (F := Ideal) (ix2 a b) = 0 := by
  unfold k0_pay1
  pointwise

section cases
variable {F : FTy → Type} [FloatOps F]
variable (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 : Vec F S1024x2816 .bf16) (x1 : Vec F S2816x1024 .bf16) (x2 : Vec F S1024x1024 .f32) (xs : Vec F S1024x1024 .f32)

theorem scratch_A (hc0 : cond0_0 i) (hc1 : ¬cond0_1 i) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2816) hz, View.ld_unit_zero (S := S2816x1024) hz]

theorem out_B (hc0 : ¬cond0_0 i) (hc1 : cond0_1 i) :
    out0_B_3 c i arg3 harg3 arg4 harg4 arg5 harg5 arg6 harg6 arg7 harg7 hc0 hc1 x0 x1 x2 xs = k0_pay3 (k0_pay2 x0 x1 xs) x2 := by
  unfold out0_B_3
  rw [View.read_writes_eq_canon _ _ _ (cover0_B_3 c i arg3 harg3 arg4 harg4 arg5 harg5 arg6 harg6 arg7 harg7 hc0 hc1 x0 x1 x2 xs)]
  unfold kernelRun0_B
  dsimp only
  sl_unfold_words
  rw [View.canon_unit_zero (S := S1024x1024) hz, View.readCov_unit_zero (S := S1024x1024) _ hz]
  simp only [View.readAt_eq_ld, harg3.read_unread, harg4.read_unread, harg5.read_unread, harg7.read_unread, View.ld_unit_zero (S := S1024x2816) hz, View.ld_unit_zero (S := S2816x1024) hz, View.ld_unit_zero (S := S1024x1024) hz]
end cases

variable (m : (ℓ : Loc nD τ sig) → Buf (Elt Ideal) ℓ)

theorem lt_N (t : Fin cfg0.N) : t.val < 32 := lt_of_lt_of_eq t.isLt N_0

/-- The rows and the columns of the result's block at a point. -/
abbrev row (n : ℕ) (hn : n < 32) (a : Fin 1024) : Fin 8192 := ⟨1024 * (n / 4) + a.val, by omega⟩
abbrev col (n : ℕ) (b : Fin 1024) : Fin 2048 := ⟨1024 * (n / 2 % 2) + b.val, by omega⟩

theorem index0 : ∀ t : Fin cfg0.N, win0_0.index t 0 = t.val / 4 ∧ win0_0.index t 1 = t.val % 2 := by decide
theorem index1 : ∀ t : Fin cfg0.N, win0_1.index t 0 = t.val % 2 ∧ win0_1.index t 1 = t.val / 2 % 2 := by decide
theorem index2 : ∀ t : Fin cfg0.N, win0_2.index t 0 = t.val / 4 ∧ win0_2.index t 1 = t.val / 2 % 2 := by decide

theorem x0_at (c : Dev nD) (t : Fin cfg0.N) (a : Fin 1024) (k : Fin 2816) :
    (iblk m c 0 t : FVec Ideal S1024x2816 .bf16) (ix2 a k)
      = (m ((c : Thread nD τ).loc main_arg0) : FVec Ideal S8192x5632 .bf16) (ix2 (row t.val (lt_N t) a) ⟨2816 * (t.val % 2) + k.val, by omega⟩) := by
  unfold iblk
  rw [View.read_apply]
  refine (congrArg (V m c main_arg0) (funext fun a => Fin.ext ?_)).trans (congrFun (V_main_arg0 m c) _)
  match a with
  | ⟨0, _⟩ =>
    refine (Pipeline.Window.rect_emb_val win0_0 t (ix2 _ k) 0).trans ?_
    rw [(index0 t).1]
    exact congrArg (· + _) (Nat.mul_comm _ _)
  | ⟨1, _⟩ =>
    refine (Pipeline.Window.rect_emb_val win0_0 t (ix2 _ k) 1).trans ?_
    rw [(index0 t).2]
    exact congrArg (· + _) (Nat.mul_comm _ _)

theorem x1_at (c : Dev nD) (t : Fin cfg0.N) (k : Fin 2816) (b : Fin 1024) :
    (iblk m c 1 t : FVec Ideal S2816x1024 .bf16) (ix2 k b)
      = (m ((c : Thread nD τ).loc main_arg1) : FVec Ideal S5632x2048 .bf16) (ix2 ⟨2816 * (t.val % 2) + k.val, by omega⟩ (col t.val b)) := by
  unfold iblk
  rw [View.read_apply]
  refine (congrArg (V m c main_arg1) (funext fun a => Fin.ext ?_)).trans (congrFun (V_main_arg1 m c) _)
  match a with
  | ⟨0, _⟩ =>
    refine (Pipeline.Window.rect_emb_val win0_1 t (ix2 k b) 0).trans ?_
    rw [(index1 t).1]
    exact congrArg (· + _) (Nat.mul_comm _ _)
  | ⟨1, _⟩ =>
    refine (Pipeline.Window.rect_emb_val win0_1 t (ix2 k b) 1).trans ?_
    rw [(index1 t).2]
    exact congrArg (· + _) (Nat.mul_comm _ _)

theorem x2_at (c : Dev nD) (t : Fin cfg0.N) (a b : Fin 1024) :
    (iblk m c 2 t : FVec Ideal S1024x1024 .f32) (ix2 a b)
      = (m ((c : Thread nD τ).loc main_arg2) : FVec Ideal S8192x2048 .f32) (ix2 (row t.val (lt_N t) a) (col t.val b)) := by
  unfold iblk
  rw [View.read_apply]
  refine (congrArg (V m c main_arg2) (funext fun a => Fin.ext ?_)).trans (congrFun (V_main_arg2 m c) _)
  match a with
  | ⟨0, _⟩ =>
    refine (Pipeline.Window.rect_emb_val win0_2 t (ix2 _ b) 0).trans ?_
    rw [(index2 t).1]
    exact congrArg (· + _) (Nat.mul_comm _ _)
  | ⟨1, _⟩ =>
    refine (Pipeline.Window.rect_emb_val win0_2 t (ix2 _ b) 1).trans ?_
    rw [(index2 t).2]
    exact congrArg (· + _) (Nat.mul_comm _ _)

/-- The terms of the product's entry `(i, j)`. -/
def term (A : FVec Ideal S8192x5632 .bf16) (B : FVec Ideal S5632x2048 .bf16) (i : Fin 8192) (j : Fin 2048) (k : Fin 5632) : EReal :=
  A (ix2 i k) * B (ix2 k j)

/-- The layer's result. -/
def down (A : FVec Ideal S8192x5632 .bf16) (B : FVec Ideal S5632x2048 .bf16) (X : FVec Ideal S8192x2048 .f32) : FVec Ideal S8192x2048 .f32 :=
  fun y => ∑ k : Fin 5632, term A B (y 0) (y 1) k + X y

/-- The terms of the entry that point `n` holds at `(a, b)` of its block. -/
abbrev termAt (c : Dev nD) (n : ℕ) (hn : n < 32) (a b : Fin 1024) : Fin 5632 → EReal :=
  term (m ((c : Thread nD τ).loc main_arg0)) (m ((c : Thread nD τ).loc main_arg1)) (row n hn a) (col n b)

/-- A point adds its block's terms to those before. -/
theorem step (c : Dev nD) (t : Fin cfg0.N) (v : FVec Ideal S1024x1024 .f32) (a b : Fin 1024)
    (hv : v (ix2 a b) = ∑ k ∈ Finset.range (2816 * (t.val % 2)), ext (termAt m c t.val (lt_N t) a b) k) :
    k0_pay2 (iblk m c 0 t) (iblk m c 1 t) v (ix2 a b) = ∑ k ∈ Finset.range (2816 * (t.val % 2) + 2816), ext (termAt m c t.val (lt_N t) a b) k := by
  rw [pay2_at, hv]
  refine sum_step _ _ _ _ fun k => ?_
  rw [x0_at, x1_at, ext_of_lt _ (by omega)]
  rfl

/-- The accumulator after the first of a block's two points. -/
theorem scratch_eq (c : Dev nD) (t : Fin cfg0.N) (h0 : t.val % 2 = 0) (a b : Fin 1024) :
    (outsAt0 m c t.val t.isLt).2 (ix2 a b) = ∑ k ∈ Finset.range 2816, ext (termAt m c t.val (lt_N t) a b) k := by
  rw [outsAt0_A m c t h0 (by omega), scratch_A]
  exact (step m c t _ a b (by rw [pay1_at]; simp [h0])).trans (by rw [h0])

/-- The result's block after its second point. -/
theorem out_eq (c : Dev nD) (t : Fin cfg0.N) (h1 : t.val % 2 = 1) (a b : Fin 1024) :
    (outsAt0 m c t.val t.isLt).1 (ix2 a b) = down (m ((c : Thread nD τ).loc main_arg0)) (m ((c : Thread nD τ).loc main_arg1)) (m ((c : Thread nD τ).loc main_arg2))
      (ix2 (row t.val (lt_N t) a) (col t.val b)) := by
  rw [outsAt0_B m c t (by omega) h1, out_B]
  refine congrArg₂ (· + ·) ((step m c t _ a b ((scratch_eq m c ⟨t.val - 1, by have := t.isLt; omega⟩ (by show (t.val - 1) % 2 = 0; omega) a b).trans ?_)).trans ?_) (x2_at m c t a b)
  · have e1 : (t.val - 1) / 4 = t.val / 4 := by omega
    have e2 : (t.val - 1) / 2 % 2 = t.val / 2 % 2 := by omega
    simp only [h1, Nat.mul_one, e1, e2, termAt, row, col]
  · rw [show 2816 * (t.val % 2) + 2816 = 5632 by omega, sum_all]
    rfl

/-- The array after the run. -/
theorem final (c : Dev nD) : Value.G3 m c = down (m ((c : Thread nD τ).loc main_arg0)) (m ((c : Thread nD τ).loc main_arg1)) (m ((c : Thread nD τ).loc main_arg2)) := by
  funext i
  obtain ⟨i0, i1, rfl⟩ : ∃ i0 i1, i = ix2 i0 i1 := ⟨i 0, i 1, eq_ix2 i⟩
  have h0 := i0.isLt
  have h1 := i1.isLt
  have hp : Value.pt3Of (ix2 i0 i1) = 2 * (2 * (i0.val / 1024) + i1.val / 1024) + 1 := by
    show 2 * (2 * (i0.val / 1024 - 0) + 1 * (i1.val / 1024 - 0)) + 1 = _
    omega
  have hN : Value.pt3Of (ix2 i0 i1) < cfg0.N := lt_of_lt_of_eq (by omega) N_0.symm
  have hl : Value.loc3Of (ix2 i0 i1) = ix2 ⟨i0.val % 1024, Nat.mod_lt _ (by decide)⟩ ⟨i1.val % 1024, Nat.mod_lt _ (by decide)⟩ :=
    funext fun a => by match a with | ⟨0, _⟩ => rfl | ⟨1, _⟩ => rfl
  unfold Value.G3
  rw [dif_pos hN, ← Value.outsAt0_sweep m c _ hN, hl]
  refine (out_eq m c ⟨_, hN⟩ (by show Value.pt3Of (ix2 i0 i1) % 2 = 1; omega) _ _).trans (congrArg _ (congrArg₂ ix2 (Fin.ext ?_) (Fin.ext ?_)))
  · show 1024 * (Value.pt3Of (ix2 i0 i1) / 4) + i0.val % 1024 = i0.val
    omega
  · show 1024 * (Value.pt3Of (ix2 i0 i1) / 2 % 2) + i1.val % 1024 = i1.val
    omega

open Cert.Reference7Ideal.Read

/-- The reference's result. -/
theorem ref_eq (A : FVec Ideal S8192x5632 .bf16) (B : FVec Ideal S5632x2048 .bf16) (X : FVec Ideal S8192x2048 .f32) :
    val_main_v5 (F := Ideal) A B X = down A B X := by
  funext i
  rw [val_main_v5_apply, val_main_v4_apply, val_main_v3_apply]
  refine (add_comm (X i) (val_main_v2 (F := Ideal) A B i : EReal)).trans (congrArg (· + X i) ?_)
  refine (val_main_v2_apply _ _ _).trans (Finset.sum_congr rfl fun k _ => ?_)
  rw [val_main_v0_apply, val_main_v1_apply]
  refine congrArg₂ (· * ·) (congrArg A (funext fun a => ?_)) (congrArg B (funext fun a => ?_)) <;>
    match a with | ⟨0, _⟩ => rfl | ⟨1, _⟩ => rfl

theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference compute the layer's result. -/
theorem algebraic : Cert.algebraic_Kernel7Ideal_Reference7Ideal := by
  intro m ρ m' ρ' _ hag
  refine ⟨fun c => down (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Value.run (F := Ideal) m ρ)
  · refine (θ_run Cert.Reference7Ideal.defs _ _).mono (fun r h c => ?_) (Cert.Reference7Ideal.Value.run (F := Ideal) m' ρ')
    refine ⟨(h c).1.trans ?_, (h c).2⟩
    rw [val_main_v5_eq, (hag c).1, (hag c).2.1, (hag c).2.2]
    exact ref_eq _ _ _

end Cert.Kernel7Ideal.Product
-- ==== Proof.In.lean ====
/-
  The projection in: each of the call's blocks is the input's rows times a block of the weights' columns.
-/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Sums
public import Idealize.ShloMosaic.Lib.Claim
public import Idealize.ShloMosaic.Lib.VecWindow
public import Idealize.ShloMosaic.Lib.Pipeline.ValueKit.Geometry
public import Idealize.ShloMosaic.Lib.Pointwise
public import Idealize.ShloMosaic.Lib.WritesUnit

@[expose] public section
set_option maxRecDepth 16384
noncomputable section
namespace Cert.Kernel8Ideal.Product
open Idealize.ShloMosaic Idealize.ShloMosaic.TcCoe Idealize.ShloMosaic.Tactic Idealize.SL.Sem Cert.Kernel8Ideal Cert.Kernel8Ideal.Gen Cert.Blocked

theorem hz : (![0, 0] : Fin 2 → Nat) = fun _ => 0 := funext fun a => by fin_cases a <;> rfl

/-- The accumulator after the point that starts and ends it. -/
theorem pay2_at (x0 : FVec Ideal S1024x2048 .bf16) (x1 : FVec Ideal S2048x896 .bf16) (a : Fin 1024) (b : Fin 896) :
    k0_pay2 (F := Ideal) x0 x1 (k0_pay1 (F := Ideal)) (ix2 a b) = ∑ k : Fin 2048, (x0 (ix2 a k) * x1 (ix2 k b) : EReal) := by
  unfold k0_pay2 k0_pay1
  pointwise

section cases
variable {F : FTy → Type} [FloatOps F]
variable (c : Dev nD) (i : grid0.Coords) (arg3 : Memref sig .tc .vmem S1024x2048 .bf16) (harg3 : arg3.IsWhole) (arg4 : Memref sig .tc .vmem S2048x896 .bf16) (harg4 : arg4.IsWhole) (arg5 : Memref sig .tc .vmem S1024x896 .f32) (harg5 : arg5.IsWhole) (arg6 : Memref sig .tc .vmem S1024x896 .f32) (harg6 : arg6.IsWhole)
  (x0 : Vec F S1024x2048 .bf16) (x1 : Vec F S2048x896 .bf16)

/-- What an accumulator holds is what was stored last. -/
theorem readCov_first (v : View sig .tc .vmem S1024x896 .f32) (inb inb' : ∀ a, (![0, 0] : Fin 2 → Nat) a + S1024x896.size a ≤ S1024x896.size a) (w : Vec F S1024x896 .f32) (L : List (View.Piece (Elt F) S1024x896 .f32)) :
    v.readCov (⟨Rect.unit ![0, 0] S1024x896.size inb', w⟩ :: L) (Rect.unit ![0, 0] S1024x896.size inb).toLoadRect = w :=
  View.readCov_full v inb inb' w L

theorem out_A (hc0 : cond0_0 i) (hc1 : cond0_1 i) :
    out0_A_2 c i arg3 harg3 arg4 harg4 arg5 harg5 arg6 harg6 hc0 hc1 x0 x1 = k0_pay2 x0 x1 k0_pay1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S1024x896) hz]
  simp only [View.readCov_unit_zero (S := S1024x896) _ hz, View.readAt_eq_ld, harg3.read_unread, harg4.read_unread, View.ld_unit_zero (S := S1024x2048) hz, View.ld_unit_zero (S := S2048x896) hz]
  exact readCov_first _ _ _ _ _
end cases

variable (m : (ℓ : Loc nD τ sig) → Buf (Elt Ideal) ℓ)

theorem lt_N (t : Fin cfg0.N) : t.val < 48 := lt_of_lt_of_eq t.isLt N_0

/-- The rows and the columns of a point's block. -/
abbrev row (t : Fin cfg0.N) (a : Fin 1024) : Fin 8192 := ⟨1024 * (t.val / 6) + a.val, by have := lt_N t; omega⟩
abbrev col (t : Fin cfg0.N) (b : Fin 896) : Fin 5376 := ⟨896 * (t.val % 6) + b.val, by omega⟩

theorem index0 : ∀ t : Fin cfg0.N, win0_0.index t 0 = t.val / 6 ∧ win0_0.index t 1 = 0 := by decide +kernel
theorem index1 : ∀ t : Fin cfg0.N, win0_1.index t 0 = 0 ∧ win0_1.index t 1 = t.val % 6 := by decide +kernel
theorem index2 : ∀ t : Fin cfg0.N, win0_2.index t 0 = t.val / 6 ∧ win0_2.index t 1 = t.val % 6 := by decide +kernel

theorem x0_at (c : Dev nD) (t : Fin cfg0.N) (a : Fin 1024) (k : Fin 2048) :
    (iblk m c 0 t : FVec Ideal S1024x2048 .bf16) (ix2 a k) = (m ((c : Thread nD τ).loc main_arg0) : FVec Ideal S8192x2048 .bf16) (ix2 (row t a) k) := by
  unfold iblk
  rw [View.read_apply]
  refine (congrArg (V m c main_arg0) (funext fun z => Fin.ext ?_)).trans (congrFun (V_main_arg0 m c) _)
  match z with
  | ⟨0, _⟩ => exact (Pipeline.Window.rect_emb_val win0_0 t (ix2 a k) 0).trans (at_block _ _ (index0 t).1)
  | ⟨1, _⟩ => exact (Pipeline.Window.rect_emb_val win0_0 t (ix2 a k) 1).trans (at_zero _ _ (index0 t).2)

theorem x1_at (c : Dev nD) (t : Fin cfg0.N) (k : Fin 2048) (b : Fin 896) :
    (iblk m c 1 t : FVec Ideal S2048x896 .bf16) (ix2 k b) = (m ((c : Thread nD τ).loc main_arg1) : FVec Ideal S2048x5376 .bf16) (ix2 k (col t b)) := by
  unfold iblk
  rw [View.read_apply]
  refine (congrArg (V m c main_arg1) (funext fun z => Fin.ext ?_)).trans (congrFun (V_main_arg1 m c) _)
  match z with
  | ⟨0, _⟩ => exact (Pipeline.Window.rect_emb_val win0_1 t (ix2 k b) 0).trans (at_zero _ _ (index1 t).1)
  | ⟨1, _⟩ => exact (Pipeline.Window.rect_emb_val win0_1 t (ix2 k b) 1).trans (at_block _ _ (index1 t).2)

theorem emb (t : Fin cfg0.N) (a : Fin 1024) (b : Fin 896) : (win0_2.blk t).view.emb (ix2 a b) = (ix2 (row t a) (col t b) : S8192x5376.Idx) := funext fun z => Fin.ext (by
  match z with
  | ⟨0, _⟩ => exact (Pipeline.Window.rect_emb_val win0_2 t (ix2 a b) 0).trans (at_block _ _ (index2 t).1)
  | ⟨1, _⟩ => exact (Pipeline.Window.rect_emb_val win0_2 t (ix2 a b) 1).trans (at_block _ _ (index2 t).2))

/-- The product. -/
def prod (H : FVec Ideal S8192x2048 .bf16) (W : FVec Ideal S2048x5376 .bf16) : FVec Ideal S8192x5376 .f32 :=
  fun y => ∑ k : Fin 2048, (H (ix2 (y 0) k) * W (ix2 k (y 1)) : EReal)

/-- The array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨a, b, rfl⟩ : ∃ (a : Fin 1024) (b : Fin 896), y = ix2 a b := ⟨y 0, y 1, eq_ix2 y⟩
  refine Eq.trans (b := (outsAt0 m c t) (ix2 a b)) (by rw [after0_2]; generalize outsAt0 m c t = z; rfl) ?_
  unfold outsAt0
  rw [out_A]
  refine (pay2_at _ _ a b).trans (Eq.trans ?_ (congrArg (prod _ _) (emb t a b)).symm)
  simp only [x0_at, x1_at]
  rfl

open Cert.Reference8Ideal.Read

/-- The reference's result. -/
theorem ref_eq (H : FVec Ideal S8192x2048 .bf16) (W : FVec Ideal S2048x5376 .bf16) : val_main_v4 (F := Ideal) H W = prod H W := by
  funext y
  rw [val_main_v4_apply, val_main_v3_apply]
  refine (val_main_v2_apply _ _ _).trans (Finset.sum_congr rfl fun k _ => ?_)
  rw [val_main_v0_apply, val_main_v1_apply]
  refine congrArg₂ (· * ·) (congrArg H (funext fun a => ?_)) (congrArg W (funext fun a => ?_)) <;>
    match a with | ⟨0, _⟩ => rfl | ⟨1, _⟩ => rfl

theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Kernel and reference compute the product. -/
theorem algebraic : Cert.algebraic_Kernel8Ideal_Reference8Ideal := by
  intro m ρ m' ρ' _ hag
  refine ⟨fun c => prod (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m ρ)
  · refine (θ_run Cert.Reference8Ideal.defs _ _).mono (fun r h c => ?_) (Cert.Reference8Ideal.Value.run (F := Ideal) m' ρ')
    refine ⟨(h c).1.trans ?_, (h c).2⟩
    rw [val_main_v4_eq, (hag c).1, (hag c).2]
    exact ref_eq _ _

end Cert.Kernel8Ideal.Product
-- ==== Proof.InGrad.lean ====
/-
  The gradient of the weights of the projection in: the call's result is the product of the input, transposed, with the
  cotangent, summed over the rows in four blocks of 2048.
-/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Sums
public import Idealize.ShloMosaic.Lib.Claim
public import Idealize.ShloMosaic.Lib.Pointwise
public import Idealize.ShloMosaic.Lib.WritesUnit

@[expose] public section
set_option maxRecDepth 16384
noncomputable section
namespace Cert.Kernel9Ideal.Product
open Idealize.ShloMosaic Idealize.ShloMosaic.TcCoe Idealize.ShloMosaic.Tactic Idealize.SL.Sem Cert.Kernel9Ideal Cert.Kernel9Ideal.Gen Cert.Blocked

theorem hz : (![0, 0] : Fin 2 → Nat) = fun _ => 0 := funext fun a => by fin_cases a <;> rfl

/-- The accumulator's block after a point: what it held, and the product of the point's two blocks. -/
theorem pay2_at (x0 : FVec Ideal S2048x1024 .bf16) (x1 : FVec Ideal S2048x896 .bf16) (v : FVec Ideal S1024x896 .f32) (a : Fin 1024) (b : Fin 896) :
    k0_pay2 x0 x1 v (ix2 a b) = v (ix2 a b) + ∑ k : Fin 2048, x0 (ix2 k a) * x1 (ix2 k b) := by
  unfold k0_pay2
  pointwise
theorem pay1_at (a : Fin 1024) (b : Fin 896) : k0_pay1 (F := Ideal) (ix2 a b) = 0 := by
  unfold k0_pay1
  pointwise

section cases
variable {F : FTy → Type} [FloatOps F]
variable (c : Dev nD) (i : grid0.Coords) (arg3 : Memref sig .tc .vmem S2048x1024 .bf16) (harg3 : arg3.IsWhole) (arg4 : Memref sig .tc .vmem S2048x896 .bf16) (harg4 : arg4.IsWhole) (arg5 : Memref sig .tc .vmem S1024x896 .bf16) (harg5 : arg5.IsWhole) (arg6 : Memref sig .tc .vmem S1024x896 .f32) (harg6 : arg6.IsWhole)
  (x0 : Vec F S2048x1024 .bf16) (x1 : Vec F S2048x896 .bf16) (xs : Vec F S1024x896 .f32)

theorem scratch_A (hc0 : cond0_0 i) (hc1 : ¬cond0_1 i) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x896) hz, View.readCov_unit_zero (S := S1024x896) _ hz]
  simp only [View.readAt_eq_ld, harg3.read_unread, harg4.read_unread, View.ld_unit_zero (S := S2048x1024) hz, View.ld_unit_zero (S := S2048x896) hz]

theorem scratch_B (hc0 : ¬cond0_0 i) (hc1 : ¬cond0_1 i) :
    sout0_B_0 c i arg3 harg3 arg4 harg4 arg5 harg5 arg6 harg6 hc0 hc1 x0 x1 xs = k0_pay2 x0 x1 xs := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero (S := S1024x896) hz]
  simp only [View.readAt_eq_ld, harg3.read_unread, harg4.read_unread, harg6.read_unread, View.ld_unit_zero (S := S2048x1024) hz, View.ld_unit_zero (S := S2048x896) hz, View.ld_unit_zero (S := S1024x896) hz]

theorem out_C (hc0 : ¬cond0_0 i) (hc1 : cond0_1 i) :
    out0_C_2 c i arg3 harg3 arg4 harg4 arg5 harg5 arg6 harg6 hc0 hc1 x0 x1 xs = k0_pay3 (k0_pay2 x0 x1 xs) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1024x896) hz, View.readCov_unit_zero (S := S1024x896) _ hz]
  simp only [View.readAt_eq_ld, harg3.read_unread, harg4.read_unread, harg6.read_unread, View.ld_unit_zero (S := S2048x1024) hz, View.ld_unit_zero (S := S2048x896) hz, View.ld_unit_zero (S := S1024x896) hz]
end cases

variable (m : (ℓ : Loc nD τ sig) → Buf (Elt Ideal) ℓ)

theorem lt_N (t : Fin cfg0.N) : t.val < 48 := lt_of_lt_of_eq t.isLt N_0

/-- The rows and the columns of the result's block at a point, and the terms that the point adds. -/
abbrev row (t : Fin cfg0.N) (a : Fin 1024) : Fin 2048 := ⟨1024 * (t.val / 24) + a.val, by have := lt_N t; omega⟩
abbrev col (t : Fin cfg0.N) (b : Fin 896) : Fin 5376 := ⟨896 * (t.val / 4 % 6) + b.val, by omega⟩
abbrev inner (t : Fin cfg0.N) (k : Fin 2048) : Fin 8192 := ⟨2048 * (t.val % 4) + k.val, by omega⟩

theorem index0 : ∀ t : Fin cfg0.N, win0_0.index t 0 = t.val % 4 ∧ win0_0.index t 1 = t.val / 24 := by decide +kernel
theorem index1 : ∀ t : Fin cfg0.N, win0_1.index t 0 = t.val % 4 ∧ win0_1.index t 1 = t.val / 4 % 6 := by decide +kernel

theorem x0_at (c : Dev nD) (t : Fin cfg0.N) (k : Fin 2048) (a : Fin 1024) :
    (iblk m c 0 t : FVec Ideal S2048x1024 .bf16) (ix2 k a) = (m ((c : Thread nD τ).loc main_arg0) : FVec Ideal S8192x2048 .bf16) (ix2 (inner t k) (row t a)) := by
  unfold iblk
  rw [View.read_apply]
  refine (congrArg (V m c main_arg0) (funext fun z => Fin.ext ?_)).trans (congrFun (V_main_arg0 m c) _)
  match z with
  | ⟨0, _⟩ => exact (Pipeline.Window.rect_emb_val win0_0 t (ix2 k a) 0).trans (at_block _ _ (index0 t).1)
  | ⟨1, _⟩ => exact (Pipeline.Window.rect_emb_val win0_0 t (ix2 k a) 1).trans (at_block _ _ (index0 t).2)

theorem x1_at (c : Dev nD) (t : Fin cfg0.N) (k : Fin 2048) (b : Fin 896) :
    (iblk m c 1 t : FVec Ideal S2048x896 .bf16) (ix2 k b) = (m ((c : Thread nD τ).loc main_arg1) : FVec Ideal S8192x5376 .bf16) (ix2 (inner t k) (col t b)) := by
  unfold iblk
  rw [View.read_apply]
  refine (congrArg (V m c main_arg1) (funext fun z => Fin.ext ?_)).trans (congrFun (V_main_arg1 m c) _)
  match z with
  | ⟨0, _⟩ => exact (Pipeline.Window.rect_emb_val win0_1 t (ix2 k b) 0).trans (at_block _ _ (index1 t).1)
  | ⟨1, _⟩ => exact (Pipeline.Window.rect_emb_val win0_1 t (ix2 k b) 1).trans (at_block _ _ (index1 t).2)

/-- The terms of entry `(i, j)` of the gradient. -/
def term (A : FVec Ideal S8192x2048 .bf16) (B : FVec Ideal S8192x5376 .bf16) (i : Fin 2048) (j : Fin 5376) (k : Fin 8192) : EReal :=
  A (ix2 k i) * B (ix2 k j)

/-- The gradient. -/
def grad (A : FVec Ideal S8192x2048 .bf16) (B : FVec Ideal S8192x5376 .bf16) : FVec Ideal S2048x5376 .bf16 :=
  fun y => ∑ k : Fin 8192, term A B (y 0) (y 1) k

/-- The terms of the entry that a point holds at `(a, b)` of its block. -/
abbrev termAt (c : Dev nD) (t : Fin cfg0.N) (a : Fin 1024) (b : Fin 896) : Fin 8192 → EReal :=
  term (m ((c : Thread nD τ).loc main_arg0)) (m ((c : Thread nD τ).loc main_arg1)) (row t a) (col t b)

/-- They are those of the point before, unless a block of the result begins. -/
theorem termAt_succ (c : Dev nD) (n : ℕ) (hn : n + 1 < cfg0.N) (h : (n + 1) % 4 ≠ 0) (a : Fin 1024) (b : Fin 896) :
    termAt m c ⟨n, Nat.lt_of_succ_lt hn⟩ a b = termAt m c ⟨n + 1, hn⟩ a b := by
  have e1 : n / 24 = (n + 1) / 24 := by omega
  have e2 : n / 4 % 6 = (n + 1) / 4 % 6 := by omega
  simp only [termAt, row, col, e1, e2]

/-- A point adds its block's terms to those before. -/
theorem step (c : Dev nD) (t : Fin cfg0.N) (v : FVec Ideal S1024x896 .f32) (a : Fin 1024) (b : Fin 896)
    (hv : v (ix2 a b) = ∑ k ∈ Finset.range (2048 * (t.val % 4)), ext (termAt m c t a b) k) :
    k0_pay2 (iblk m c 0 t) (iblk m c 1 t) v (ix2 a b) = ∑ k ∈ Finset.range (2048 * (t.val % 4) + 2048), ext (termAt m c t a b) k := by
  rw [pay2_at, hv]
  refine sum_step _ _ _ _ fun k => ?_
  rw [x0_at, x1_at, ext_of_lt _ (by omega)]
  rfl

/-- The accumulator after a point that is not the last of its block holds the terms up to the point. -/
theorem scratch_eq (c : Dev nD) (a : Fin 1024) (b : Fin 896) : ∀ (n : ℕ) (hn : n < cfg0.N), n % 4 ≠ 3 →
    (outsAt0 m c n hn).2 (ix2 a b) = ∑ k ∈ Finset.range (2048 * (n % 4) + 2048), ext (termAt m c ⟨n, hn⟩ a b) k
  | 0, hn, _ => by
    rw [outsAt0_A m c ⟨0, hn⟩ rfl (by simp), scratch_A]
    exact step m c ⟨0, hn⟩ _ a b (by rw [pay1_at]; simp)
  | n + 1, hn, h3 => by
    by_cases h0 : (n + 1) % 4 = 0
    · rw [outsAt0_A m c ⟨n + 1, hn⟩ h0 h3, scratch_A]
      exact step m c ⟨n + 1, hn⟩ _ a b (by rw [pay1_at]; simp [h0])
    · rw [outsAt0_B m c ⟨n + 1, hn⟩ h0 h3, scratch_B]
      refine step m c ⟨n + 1, hn⟩ _ a b ((scratch_eq c a b n (Nat.lt_of_succ_lt hn) (by omega)).trans ?_)
      rw [termAt_succ m c n hn h0, show 2048 * (n % 4) + 2048 = 2048 * ((n + 1) % 4) by omega]

/-- The result's block after its last point is the gradient's. -/
theorem out_eq (c : Dev nD) (t : Fin cfg0.N) (h3 : t.val % 4 = 3) (a : Fin 1024) (b : Fin 896) :
    (outsAt0 m c t.val t.isLt).1 (ix2 a b) = grad (m ((c : Thread nD τ).loc main_arg0)) (m ((c : Thread nD τ).loc main_arg1)) (ix2 (row t a) (col t b)) := by
  obtain ⟨_ | n, hn⟩ := t
  · exact absurd h3 (by simp)
  have h3 : (n + 1) % 4 = 3 := h3
  have h0 : ¬(n + 1) % 4 = 0 := by omega
  rw [outsAt0_C m c ⟨n + 1, hn⟩ h0 h3, out_C]
  refine (step m c ⟨n + 1, hn⟩ _ a b ((scratch_eq m c a b n _ (by omega)).trans ?_)).trans ?_
  · rw [termAt_succ m c n hn h0, show 2048 * (n % 4) + 2048 = 2048 * ((n + 1) % 4) by omega]
  · rw [show 2048 * ((n + 1) % 4) + 2048 = 8192 by omega, sum_all]
    rfl

/-- The array after the run is the gradient. -/
theorem final (c : Dev nD) : Value.G2 m c = grad (m ((c : Thread nD τ).loc main_arg0)) (m ((c : Thread nD τ).loc main_arg1)) := by
  funext i
  obtain ⟨i0, i1, rfl⟩ : ∃ i0 i1, i = ix2 i0 i1 := ⟨i 0, i 1, eq_ix2 i⟩
  have h0 := i0.isLt
  have h1 := i1.isLt
  have hp : Value.pt2Of (ix2 i0 i1) = 4 * (6 * (i0.val / 1024) + i1.val / 896) + 3 := by
    show 4 * (6 * (i0.val / 1024 - 0) + 1 * (i1.val / 896 - 0)) + 3 = _
    omega
  have hN : Value.pt2Of (ix2 i0 i1) < cfg0.N := lt_of_lt_of_eq (by omega) N_0.symm
  have hl : Value.loc2Of (ix2 i0 i1) = ix2 ⟨i0.val % 1024, Nat.mod_lt _ (by decide)⟩ ⟨i1.val % 896, Nat.mod_lt _ (by decide)⟩ :=
    funext fun a => by match a with | ⟨0, _⟩ => rfl | ⟨1, _⟩ => rfl
  unfold Value.G2
  rw [dif_pos hN, ← Value.outsAt0_sweep m c _ hN, hl]
  refine (out_eq m c ⟨_, hN⟩ (by show Value.pt2Of (ix2 i0 i1) % 4 = 3; omega) _ _).trans (congrArg _ (congrArg₂ ix2 (Fin.ext ?_) (Fin.ext ?_)))
  · show 1024 * (Value.pt2Of (ix2 i0 i1) / 24) + i0.val % 1024 = i0.val
    omega
  · show 896 * (Value.pt2Of (ix2 i0 i1) / 4 % 6) + i1.val % 896 = i1.val
    omega

open Cert.Reference9Ideal.Read

/-- The reference's result is the gradient. -/
theorem ref_eq (A : FVec Ideal S8192x2048 .bf16) (B : FVec Ideal S8192x5376 .bf16) : val_main_v6 (F := Ideal) A B = grad A B := by
  funext i
  rw [val_main_v6_apply, val_main_v5_apply]
  refine (val_main_v4_apply _ _ _).trans (Finset.sum_congr rfl fun k _ => ?_)
  rw [mul_comm, val_main_v0_apply, val_main_v1_apply]
  refine congrArg₂ (· * ·) (congrArg A (funext fun a => ?_)) (congrArg B (funext fun a => ?_)) <;>
    match a with | ⟨0, _⟩ => rfl | ⟨1, _⟩ => rfl

theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Kernel and reference compute the gradient. -/
theorem algebraic : Cert.algebraic_Kernel9Ideal_Reference9Ideal := by
  intro m ρ m' ρ' _ hag
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run (F := Ideal) m ρ)
  · refine (θ_run Cert.Reference9Ideal.defs _ _).mono (fun r h c => ?_) (Cert.Reference9Ideal.Value.run (F := Ideal) m' ρ')
    refine ⟨(h c).1.trans ?_, (h c).2⟩
    rw [val_main_v6_eq, (hag c).1, (hag c).2]
    exact ref_eq _ _

end Cert.Kernel9Ideal.Product
-- ==== Proof.InBack.lean ====
/-
  The gradient of what the projection in is of: the call's result is the product of the cotangent with the weights,
  transposed, summed over the projection's width in three blocks of 1792.
-/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Sums
public import Idealize.ShloMosaic.Lib.Claim
public import Idealize.ShloMosaic.Lib.Pointwise
public import Idealize.ShloMosaic.Lib.WritesUnit

@[expose] public section
set_option maxRecDepth 16384
noncomputable section
namespace Cert.Kernel10Ideal.Product
open Idealize.ShloMosaic Idealize.ShloMosaic.TcCoe Idealize.ShloMosaic.Tactic Idealize.SL.Sem Cert.Kernel10Ideal Cert.Kernel10Ideal.Gen Cert.Blocked

theorem hz : (![0, 0] : Fin 2 → Nat) = fun _ => 0 := funext fun a => by fin_cases a <;> rfl

/-- The accumulator's block after a point: what it held, and the product of the point's two blocks. -/
theorem pay2_at (x0 x1 : FVec Ideal S1024x1792 .bf16) (v : FVec Ideal S1024x1024 .f32) (a b : Fin 1024) :
    k0_pay2 x0 x1 v (ix2 a b) = v (ix2 a b) + ∑ k : Fin 1792, x0 (ix2 a k) * x1 (ix2 b k) := by
  unfold k0_pay2
  pointwise
theorem pay1_at (a b : Fin 1024) : k0_pay1 (F := Ideal) (ix2 a b) = 0 := by
  unfold k0_pay1
  pointwise

section cases
variable {F : FTy → Type} [FloatOps F]
variable (c : Dev nD) (i : grid0.Coords) (arg3 : Memref sig .tc .vmem S1024x1792 .bf16) (harg3 : arg3.IsWhole) (arg4 : Memref sig .tc .vmem S1024x1792 .bf16) (harg4 : arg4.IsWhole) (arg5 : Memref sig .tc .vmem S1024x1024 .bf16) (harg5 : arg5.IsWhole) (arg6 : Memref sig .tc .vmem S1024x1024 .f32) (harg6 : arg6.IsWhole)
  (x0 x1 : Vec F S1024x1792 .bf16) (xs : Vec F S1024x1024 .f32)

theorem scratch_A (hc0 : cond0_0 i) (hc1 : ¬cond0_1 i) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1792) hz]

theorem scratch_B (hc0 : ¬cond0_0 i) (hc1 : ¬cond0_1 i) :
    sout0_B_0 c i arg3 harg3 arg4 harg4 arg5 harg5 arg6 harg6 hc0 hc1 x0 x1 xs = k0_pay2 x0 x1 xs := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero (S := S1024x1024) hz]
  simp only [View.readAt_eq_ld, harg3.read_unread, harg4.read_unread, harg6.read_unread, View.ld_unit_zero (S := S1024x1792) hz, View.ld_unit_zero (S := S1024x1024) hz]

theorem out_C (hc0 : ¬cond0_0 i) (hc1 : cond0_1 i) :
    out0_C_2 c i arg3 harg3 arg4 harg4 arg5 harg5 arg6 harg6 hc0 hc1 x0 x1 xs = k0_pay3 (k0_pay2 x0 x1 xs) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S1024x1792) hz, View.ld_unit_zero (S := S1024x1024) hz]
end cases

variable (m : (ℓ : Loc nD τ sig) → Buf (Elt Ideal) ℓ)

theorem lt_N (t : Fin cfg0.N) : t.val < 48 := lt_of_lt_of_eq t.isLt N_0

/-- The rows and the columns of the result's block at a point, and the terms that the point adds. -/
abbrev row (t : Fin cfg0.N) (a : Fin 1024) : Fin 8192 := ⟨1024 * (t.val / 6) + a.val, by have := lt_N t; omega⟩
abbrev col (t : Fin cfg0.N) (b : Fin 1024) : Fin 2048 := ⟨1024 * (t.val / 3 % 2) + b.val, by omega⟩
abbrev inner (t : Fin cfg0.N) (k : Fin 1792) : Fin 5376 := ⟨1792 * (t.val % 3) + k.val, by omega⟩

theorem index0 : ∀ t : Fin cfg0.N, win0_0.index t 0 = t.val / 6 ∧ win0_0.index t 1 = t.val % 3 := by decide +kernel
theorem index1 : ∀ t : Fin cfg0.N, win0_1.index t 0 = t.val / 3 % 2 ∧ win0_1.index t 1 = t.val % 3 := by decide +kernel

theorem x0_at (c : Dev nD) (t : Fin cfg0.N) (a : Fin 1024) (k : Fin 1792) :
    (iblk m c 0 t : FVec Ideal S1024x1792 .bf16) (ix2 a k) = (m ((c : Thread nD τ).loc main_arg0) : FVec Ideal S8192x5376 .bf16) (ix2 (row t a) (inner t k)) := by
  unfold iblk
  rw [View.read_apply]
  refine (congrArg (V m c main_arg0) (funext fun z => Fin.ext ?_)).trans (congrFun (V_main_arg0 m c) _)
  match z with
  | ⟨0, _⟩ => exact (Pipeline.Window.rect_emb_val win0_0 t (ix2 a k) 0).trans (at_block _ _ (index0 t).1)
  | ⟨1, _⟩ => exact (Pipeline.Window.rect_emb_val win0_0 t (ix2 a k) 1).trans (at_block _ _ (index0 t).2)

theorem x1_at (c : Dev nD) (t : Fin cfg0.N) (b : Fin 1024) (k : Fin 1792) :
    (iblk m c 1 t : FVec Ideal S1024x1792 .bf16) (ix2 b k) = (m ((c : Thread nD τ).loc main_arg1) : FVec Ideal S2048x5376 .bf16) (ix2 (col t b) (inner t k)) := by
  unfold iblk
  rw [View.read_apply]
  refine (congrArg (V m c main_arg1) (funext fun z => Fin.ext ?_)).trans (congrFun (V_main_arg1 m c) _)
  match z with
  | ⟨0, _⟩ => exact (Pipeline.Window.rect_emb_val win0_1 t (ix2 b k) 0).trans (at_block _ _ (index1 t).1)
  | ⟨1, _⟩ => exact (Pipeline.Window.rect_emb_val win0_1 t (ix2 b k) 1).trans (at_block _ _ (index1 t).2)

/-- The terms of entry `(i, j)` of the gradient. -/
def term (A : FVec Ideal S8192x5376 .bf16) (B : FVec Ideal S2048x5376 .bf16) (i : Fin 8192) (j : Fin 2048) (k : Fin 5376) : EReal :=
  A (ix2 i k) * B (ix2 j k)

/-- The gradient. -/
def grad (A : FVec Ideal S8192x5376 .bf16) (B : FVec Ideal S2048x5376 .bf16) : FVec Ideal S8192x2048 .bf16 :=
  fun y => ∑ k : Fin 5376, term A B (y 0) (y 1) k

/-- The terms of the entry that a point holds at `(a, b)` of its block. -/
abbrev termAt (c : Dev nD) (t : Fin cfg0.N) (a b : Fin 1024) : Fin 5376 → EReal :=
  term (m ((c : Thread nD τ).loc main_arg0)) (m ((c : Thread nD τ).loc main_arg1)) (row t a) (col t b)

/-- They are those of the point before, unless a block of the result begins. -/
theorem termAt_succ (c : Dev nD) (n : ℕ) (hn : n + 1 < cfg0.N) (h : (n + 1) % 3 ≠ 0) (a b : Fin 1024) :
    termAt m c ⟨n, Nat.lt_of_succ_lt hn⟩ a b = termAt m c ⟨n + 1, hn⟩ a b := by
  have e1 : n / 6 = (n + 1) / 6 := by omega
  have e2 : n / 3 % 2 = (n + 1) / 3 % 2 := by omega
  simp only [termAt, row, col, e1, e2]

/-- A point adds its block's terms to those before. -/
theorem step (c : Dev nD) (t : Fin cfg0.N) (v : FVec Ideal S1024x1024 .f32) (a b : Fin 1024)
    (hv : v (ix2 a b) = ∑ k ∈ Finset.range (1792 * (t.val % 3)), ext (termAt m c t a b) k) :
    k0_pay2 (iblk m c 0 t) (iblk m c 1 t) v (ix2 a b) = ∑ k ∈ Finset.range (1792 * (t.val % 3) + 1792), ext (termAt m c t a b) k := by
  rw [pay2_at, hv]
  refine sum_step _ _ _ _ fun k => ?_
  rw [x0_at, x1_at, ext_of_lt _ (by omega)]
  rfl

/-- The accumulator after a point that is not the last of its block holds the terms up to the point. -/
theorem scratch_eq (c : Dev nD) (a b : Fin 1024) : ∀ (n : ℕ) (hn : n < cfg0.N), n % 3 ≠ 2 →
    (outsAt0 m c n hn).2 (ix2 a b) = ∑ k ∈ Finset.range (1792 * (n % 3) + 1792), ext (termAt m c ⟨n, hn⟩ a b) k
  | 0, hn, _ => by
    rw [outsAt0_A m c ⟨0, hn⟩ rfl (by simp), scratch_A]
    exact step m c ⟨0, hn⟩ _ a b (by rw [pay1_at]; simp)
  | n + 1, hn, h3 => by
    by_cases h0 : (n + 1) % 3 = 0
    · rw [outsAt0_A m c ⟨n + 1, hn⟩ h0 h3, scratch_A]
      exact step m c ⟨n + 1, hn⟩ _ a b (by rw [pay1_at]; simp [h0])
    · rw [outsAt0_B m c ⟨n + 1, hn⟩ h0 h3, scratch_B]
      refine step m c ⟨n + 1, hn⟩ _ a b ((scratch_eq c a b n (Nat.lt_of_succ_lt hn) (by omega)).trans ?_)
      rw [termAt_succ m c n hn h0, show 1792 * (n % 3) + 1792 = 1792 * ((n + 1) % 3) by omega]

/-- The result's block after its last point is the gradient's. -/
theorem out_eq (c : Dev nD) (t : Fin cfg0.N) (h3 : t.val % 3 = 2) (a b : Fin 1024) :
    (outsAt0 m c t.val t.isLt).1 (ix2 a b) = grad (m ((c : Thread nD τ).loc main_arg0)) (m ((c : Thread nD τ).loc main_arg1)) (ix2 (row t a) (col t b)) := by
  obtain ⟨_ | n, hn⟩ := t
  · exact absurd h3 (by simp)
  have h3 : (n + 1) % 3 = 2 := h3
  have h0 : ¬(n + 1) % 3 = 0 := by omega
  rw [outsAt0_C m c ⟨n + 1, hn⟩ h0 h3, out_C]
  refine (step m c ⟨n + 1, hn⟩ _ a b ((scratch_eq m c a b n _ (by omega)).trans ?_)).trans ?_
  · rw [termAt_succ m c n hn h0, show 1792 * (n % 3) + 1792 = 1792 * ((n + 1) % 3) by omega]
  · rw [show 1792 * ((n + 1) % 3) + 1792 = 5376 by omega, sum_all]
    rfl

/-- The array after the run is the gradient. -/
theorem final (c : Dev nD) : Value.G2 m c = grad (m ((c : Thread nD τ).loc main_arg0)) (m ((c : Thread nD τ).loc main_arg1)) := by
  funext i
  obtain ⟨i0, i1, rfl⟩ : ∃ i0 i1, i = ix2 i0 i1 := ⟨i 0, i 1, eq_ix2 i⟩
  have h0 := i0.isLt
  have h1 := i1.isLt
  have hp : Value.pt2Of (ix2 i0 i1) = 3 * (2 * (i0.val / 1024) + i1.val / 1024) + 2 := by
    show 3 * (2 * (i0.val / 1024 - 0) + 1 * (i1.val / 1024 - 0)) + 2 = _
    omega
  have hN : Value.pt2Of (ix2 i0 i1) < cfg0.N := lt_of_lt_of_eq (by omega) N_0.symm
  have hl : Value.loc2Of (ix2 i0 i1) = ix2 ⟨i0.val % 1024, Nat.mod_lt _ (by decide)⟩ ⟨i1.val % 1024, Nat.mod_lt _ (by decide)⟩ :=
    funext fun a => by match a with | ⟨0, _⟩ => rfl | ⟨1, _⟩ => rfl
  unfold Value.G2
  rw [dif_pos hN, ← Value.outsAt0_sweep m c _ hN, hl]
  refine (out_eq m c ⟨_, hN⟩ (by show Value.pt2Of (ix2 i0 i1) % 3 = 2; omega) _ _).trans (congrArg _ (congrArg₂ ix2 (Fin.ext ?_) (Fin.ext ?_)))
  · show 1024 * (Value.pt2Of (ix2 i0 i1) / 6) + i0.val % 1024 = i0.val
    omega
  · show 1024 * (Value.pt2Of (ix2 i0 i1) / 3 % 2) + i1.val % 1024 = i1.val
    omega

open Cert.Reference10Ideal.Read

/-- The reference's result is the gradient. -/
theorem ref_eq (A : FVec Ideal S8192x5376 .bf16) (B : FVec Ideal S2048x5376 .bf16) : val_main_v5 (F := Ideal) A B = grad A B := by
  funext i
  rw [val_main_v5_apply]
  refine (val_main_v4_apply _ _ _).trans (Finset.sum_congr rfl fun k _ => ?_)
  rw [val_main_v0_apply, val_main_v1_apply]
  refine congrArg₂ (· * ·) (congrArg A (funext fun a => ?_)) (congrArg B (funext fun a => ?_)) <;>
    match a with | ⟨0, _⟩ => rfl | ⟨1, _⟩ => rfl

theorem frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Kernel and reference compute the gradient. -/
theorem algebraic : Cert.algebraic_Kernel10Ideal_Reference10Ideal := by
  intro m ρ m' ρ' _ hag
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run (F := Ideal) m ρ)
  · refine (θ_run Cert.Reference10Ideal.defs _ _).mono (fun r h c => ?_) (Cert.Reference10Ideal.Value.run (F := Ideal) m' ρ')
    refine ⟨(h c).1.trans ?_, (h c).2⟩
    rw [val_main_v5_eq, (hag c).1, (hag c).2]
    exact ref_eq _ _

end Cert.Kernel10Ideal.Product
-- ==== Proof.OutBack.lean ====
/-
  The gradient of what the projection out is of: each of the call's blocks is the cotangent's rows times a block of the
  weights' rows.
-/
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Sums
public import Idealize.ShloMosaic.Lib.Claim
public import Idealize.ShloMosaic.Lib.VecWindow
public import Idealize.ShloMosaic.Lib.Pipeline.ValueKit.Geometry
public import Idealize.ShloMosaic.Lib.Pointwise
public import Idealize.ShloMosaic.Lib.WritesUnit

@[expose] public section
set_option maxRecDepth 16384
noncomputable section
namespace Cert.Kernel11Ideal.Product
open Idealize.ShloMosaic Idealize.ShloMosaic.TcCoe Idealize.ShloMosaic.Tactic Idealize.SL.Sem Cert.Kernel11Ideal Cert.Kernel11Ideal.Gen Cert.Blocked

theorem hz : (![0, 0] : Fin 2 → Nat) = fun _ => 0 := funext fun a => by fin_cases a <;> rfl

/-- The accumulator after the point that starts and ends it. -/
theorem pay2_at (x0 x1 : FVec Ideal S1024x2048 .bf16) (a b : Fin 1024) :
    k0_pay2 (F := Ideal) x0 x1 (k0_pay1 (F := Ideal)) (ix2 a b) = ∑ k : Fin 2048, (x0 (ix2 a k) * x1 (ix2 b k) : EReal) := by
  unfold k0_pay2 k0_pay1
  pointwise

section cases
variable {F : FTy → Type} [FloatOps F]
variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole)
  (x0 x1 : Vec F S1024x2048 .bf16)

/-- What an accumulator holds is what was stored last. -/
theorem readCov_first (v : View sig .tc .vmem S1024x1024 .f32) (inb inb' : ∀ a, (![0, 0] : Fin 2 → Nat) a + S1024x1024.size a ≤ S1024x1024.size a) (w : Vec F S1024x1024 .f32) (L : List (View.Piece (Elt F) S1024x1024 .f32)) :
    v.readCov (⟨Rect.unit ![0, 0] S1024x1024.size inb', w⟩ :: L) (Rect.unit ![0, 0] S1024x1024.size inb).toLoadRect = w :=
  View.readCov_full v inb inb' w L

theorem out_A (hc0 : cond0_0 i) (hc1 : cond0_1 i) :
    out0_A_2 c i arg3 harg3 arg4 harg4 arg5 harg5 arg6 harg6 hc0 hc1 x0 x1 = k0_pay3 (k0_pay2 x0 x1 k0_pay1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero (S := S1024x1024) hz]
  simp only [View.readCov_unit_zero (S := S1024x1024) _ hz, View.readAt_eq_ld, harg3.read_unread, harg4.read_unread, View.ld_unit_zero (S := S1024x2048) hz]
  exact congrArg k0_pay3 (readCov_first _ _ _ _ _)
end cases

variable (m : (ℓ : Loc nD τ sig) → Buf (Elt Ideal) ℓ)

theorem lt_N (t : Fin cfg0.N) : t.val < 16 := lt_of_lt_of_eq t.isLt N_0

/-- The rows and the columns of a point's block. -/
abbrev row (t : Fin cfg0.N) (a : Fin 1024) : Fin 8192 := ⟨1024 * (t.val / 2) + a.val, by have := lt_N t; omega⟩
abbrev col (t : Fin cfg0.N) (b : Fin 1024) : Fin 2048 := ⟨1024 * (t.val % 2) + b.val, by omega⟩

theorem index0 : ∀ t : Fin cfg0.N, win0_0.index t 0 = t.val / 2 ∧ win0_0.index t 1 = 0 := by decide +kernel
theorem index1 : ∀ t : Fin cfg0.N, win0_1.index t 0 = t.val % 2 ∧ win0_1.index t 1 = 0 := by decide +kernel
theorem index2 : ∀ t : Fin cfg0.N, win0_2.index t 0 = t.val / 2 ∧ win0_2.index t 1 = t.val % 2 := by decide +kernel

theorem x0_at (c : Dev nD) (t : Fin cfg0.N) (a : Fin 1024) (k : Fin 2048) :
    (iblk m c 0 t : FVec Ideal S1024x2048 .bf16) (ix2 a k) = (m ((c : Thread nD τ).loc main_arg0) : FVec Ideal S8192x2048 .bf16) (ix2 (row t a) k) := by
  unfold iblk
  rw [View.read_apply]
  refine (congrArg (V m c main_arg0) (funext fun z => Fin.ext ?_)).trans (congrFun (V_main_arg0 m c) _)
  match z with
  | ⟨0, _⟩ => exact (Pipeline.Window.rect_emb_val win0_0 t (ix2 a k) 0).trans (at_block _ _ (index0 t).1)
  | ⟨1, _⟩ => exact (Pipeline.Window.rect_emb_val win0_0 t (ix2 a k) 1).trans (at_zero _ _ (index0 t).2)

theorem x1_at (c : Dev nD) (t : Fin cfg0.N) (b : Fin 1024) (k : Fin 2048) :
    (iblk m c 1 t : FVec Ideal S1024x2048 .bf16) (ix2 b k) = (m ((c : Thread nD τ).loc main_arg1) : FVec Ideal S2048x2048 .bf16) (ix2 (col t b) k) := by
  unfold iblk
  rw [View.read_apply]
  refine (congrArg (V m c main_arg1) (funext fun z => Fin.ext ?_)).trans (congrFun (V_main_arg1 m c) _)
  match z with
  | ⟨0, _⟩ => exact (Pipeline.Window.rect_emb_val win0_1 t (ix2 b k) 0).trans (at_block _ _ (index1 t).1)
  | ⟨1, _⟩ => exact (Pipeline.Window.rect_emb_val win0_1 t (ix2 b k) 1).trans (at_zero _ _ (index1 t).2)

theorem emb (t : Fin cfg0.N) (a b : Fin 1024) : (win0_2.blk t).view.emb (ix2 a b) = (ix2 (row t a) (col t b) : S8192x2048.Idx) := funext fun z => Fin.ext (by
  match z with
  | ⟨0, _⟩ => exact (Pipeline.Window.rect_emb_val win0_2 t (ix2 a b) 0).trans (at_block _ _ (index2 t).1)
  | ⟨1, _⟩ => exact (Pipeline.Window.rect_emb_val win0_2 t (ix2 a b) 1).trans (at_block _ _ (index2 t).2))

/-- The gradient. -/
def grad (H : FVec Ideal S8192x2048 .bf16) (W : FVec Ideal S2048x2048 .bf16) : FVec Ideal S8192x2048 .bf16 :=
  fun y => ∑ k : Fin 2048, (H (ix2 (y 0) k) * W (ix2 (y 1) k) : EReal)

/-- The array after the run. -/
theorem final (c : Dev nD) : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  obtain ⟨a, b, rfl⟩ : ∃ (a b : Fin 1024), y = ix2 a b := ⟨y 0, y 1, eq_ix2 y⟩
  refine Eq.trans (b := (outsAt0 m c t) (ix2 a b)) (by rw [after0_2]; generalize outsAt0 m c t = z; rfl) ?_
  unfold outsAt0
  rw [out_A]
  refine (pay2_at _ _ a b).trans (Eq.trans ?_ (congrArg (grad _ _) (emb t a b)).symm)
  simp only [x0_at, x1_at]
  rfl

open Cert.Reference11Ideal.Read

/-- The reference's result. -/
theorem ref_eq (H : FVec Ideal S8192x2048 .bf16) (W : FVec Ideal S2048x2048 .bf16) : val_main_v5 (F := Ideal) H W = grad H W := by
  funext y
  rw [val_main_v5_apply]
  refine (val_main_v4_apply _ _ _).trans (Finset.sum_congr rfl fun k _ => ?_)
  rw [val_main_v0_apply, val_main_v1_apply]
  refine congrArg₂ (· * ·) (congrArg H (funext fun a => ?_)) (congrArg W (funext fun a => ?_)) <;>
    match a with | ⟨0, _⟩ => rfl | ⟨1, _⟩ => rfl

theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Kernel and reference compute the gradient. -/
theorem algebraic : Cert.algebraic_Kernel11Ideal_Reference11Ideal := by
  intro m ρ m' ρ' _ hag
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run_blocks (F := Ideal) m ρ)
  · refine (θ_run Cert.Reference11Ideal.defs _ _).mono (fun r h c => ?_) (Cert.Reference11Ideal.Value.run (F := Ideal) m' ρ')
    refine ⟨(h c).1.trans ?_, (h c).2⟩
    rw [val_main_v5_eq, (hag c).1, (hag c).2]
    exact ref_eq _ _

end Cert.Kernel11Ideal.Product
-- ==== Proof.OutGrad.lean ====
/-
  The gradient of the weights of the projection out: the call's result is the product of its input, transposed, with the
  cotangent, summed over the rows in four blocks of 2048.
-/
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Sums
public import Idealize.ShloMosaic.Lib.Claim
public import Idealize.ShloMosaic.Lib.Pointwise
public import Idealize.ShloMosaic.Lib.WritesUnit

@[expose] public section
set_option maxRecDepth 16384
noncomputable section
namespace Cert.Kernel12Ideal.Product
open Idealize.ShloMosaic Idealize.ShloMosaic.TcCoe Idealize.ShloMosaic.Tactic Idealize.SL.Sem Cert.Kernel12Ideal Cert.Kernel12Ideal.Gen Cert.Blocked

theorem hz : (![0, 0] : Fin 2 → Nat) = fun _ => 0 := funext fun a => by fin_cases a <;> rfl

/-- The accumulator's block after a point: what it held, and the product of the point's two blocks. -/
theorem pay2_at (x0 : FVec Ideal S2048x1024 .bf16) (x1 : FVec Ideal S2048x1024 .bf16) (v : FVec Ideal S1024x1024 .f32) (a b : Fin 1024) :
    k0_pay2 x0 x1 v (ix2 a b) = v (ix2 a b) + ∑ k : Fin 2048, x0 (ix2 k a) * x1 (ix2 k b) := by
  unfold k0_pay2
  pointwise
theorem pay1_at (a b : Fin 1024) : k0_pay1 (F := Ideal) (ix2 a b) = 0 := by
  unfold k0_pay1
  pointwise

section cases
variable {F : FTy → Type} [FloatOps F]
variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec F S2048x1024 .bf16) (x1 : Vec F S2048x1024 .bf16) (xs : Vec F S1024x1024 .f32)

theorem scratch_A (hc0 : cond0_0 i) (hc1 : ¬cond0_1 i) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S2048x1024) hz, View.ld_unit_zero (S := S2048x1024) hz]

theorem scratch_B (hc0 : ¬cond0_0 i) (hc1 : ¬cond0_1 i) :
    sout0_B_0 c i arg3 harg3 arg4 harg4 arg5 harg5 arg6 harg6 hc0 hc1 x0 x1 xs = k0_pay2 x0 x1 xs := by
  unfold sout0_B_0
  rw [View.read_writes_eq_canon _ _ _ (scover0_B_0 c i arg3 harg3 arg4 harg4 arg5 harg5 arg6 harg6 hc0 hc1 x0 x1 xs)]
  unfold kernelRun0_B
  dsimp only
  sl_unfold_words
  rw [View.canon_unit_zero (S := S1024x1024) hz]
  simp only [View.readAt_eq_ld, harg3.read_unread, harg4.read_unread, harg6.read_unread, View.ld_unit_zero (S := S2048x1024) hz, View.ld_unit_zero (S := S2048x1024) hz, View.ld_unit_zero (S := S1024x1024) hz]

theorem out_C (hc0 : ¬cond0_0 i) (hc1 : cond0_1 i) :
    out0_C_2 c i arg3 harg3 arg4 harg4 arg5 harg5 arg6 harg6 hc0 hc1 x0 x1 xs = k0_pay3 (k0_pay2 x0 x1 xs) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1024x1024) hz, View.readCov_unit_zero (S := S1024x1024) _ hz]
  simp only [View.readAt_eq_ld, harg3.read_unread, harg4.read_unread, harg6.read_unread, View.ld_unit_zero (S := S2048x1024) hz, View.ld_unit_zero (S := S2048x1024) hz, View.ld_unit_zero (S := S1024x1024) hz]
end cases

variable (m : (ℓ : Loc nD τ sig) → Buf (Elt Ideal) ℓ)

theorem lt_N (t : Fin cfg0.N) : t.val < 16 := lt_of_lt_of_eq t.isLt N_0

/-- The rows and the columns of the result's block at a point, and the terms that the point adds. -/
abbrev row (t : Fin cfg0.N) (a : Fin 1024) : Fin 2048 := ⟨1024 * (t.val / 8) + a.val, by have := lt_N t; omega⟩
abbrev col (t : Fin cfg0.N) (b : Fin 1024) : Fin 2048 := ⟨1024 * (t.val / 4 % 2) + b.val, by omega⟩
abbrev inner (t : Fin cfg0.N) (k : Fin 2048) : Fin 8192 := ⟨2048 * (t.val % 4) + k.val, by omega⟩

theorem index0 : ∀ t : Fin cfg0.N, win0_0.index t 0 = t.val % 4 ∧ win0_0.index t 1 = t.val / 8 := by decide +kernel
theorem index1 : ∀ t : Fin cfg0.N, win0_1.index t 0 = t.val % 4 ∧ win0_1.index t 1 = t.val / 4 % 2 := by decide +kernel

theorem x0_at (c : Dev nD) (t : Fin cfg0.N) (k : Fin 2048) (a : Fin 1024) :
    (iblk m c 0 t : FVec Ideal S2048x1024 .bf16) (ix2 k a) = (m ((c : Thread nD τ).loc main_arg0) : FVec Ideal S8192x2048 .bf16) (ix2 (inner t k) (row t a)) := by
  unfold iblk
  rw [View.read_apply]
  refine (congrArg (V m c main_arg0) (funext fun z => Fin.ext ?_)).trans (congrFun (V_main_arg0 m c) _)
  match z with
  | ⟨0, _⟩ => exact (Pipeline.Window.rect_emb_val win0_0 t (ix2 k a) 0).trans (at_block _ _ (index0 t).1)
  | ⟨1, _⟩ => exact (Pipeline.Window.rect_emb_val win0_0 t (ix2 k a) 1).trans (at_block _ _ (index0 t).2)

theorem x1_at (c : Dev nD) (t : Fin cfg0.N) (k : Fin 2048) (b : Fin 1024) :
    (iblk m c 1 t : FVec Ideal S2048x1024 .bf16) (ix2 k b) = (m ((c : Thread nD τ).loc main_arg1) : FVec Ideal S8192x2048 .bf16) (ix2 (inner t k) (col t b)) := by
  unfold iblk
  rw [View.read_apply]
  refine (congrArg (V m c main_arg1) (funext fun z => Fin.ext ?_)).trans (congrFun (V_main_arg1 m c) _)
  match z with
  | ⟨0, _⟩ => exact (Pipeline.Window.rect_emb_val win0_1 t (ix2 k b) 0).trans (at_block _ _ (index1 t).1)
  | ⟨1, _⟩ => exact (Pipeline.Window.rect_emb_val win0_1 t (ix2 k b) 1).trans (at_block _ _ (index1 t).2)

/-- The terms of entry `(i, j)` of the gradient. -/
def term (A : FVec Ideal S8192x2048 .bf16) (B : FVec Ideal S8192x2048 .bf16) (i : Fin 2048) (j : Fin 2048) (k : Fin 8192) : EReal :=
  A (ix2 k i) * B (ix2 k j)

/-- The gradient. -/
def grad (A : FVec Ideal S8192x2048 .bf16) (B : FVec Ideal S8192x2048 .bf16) : FVec Ideal S2048x2048 .bf16 :=
  fun y => ∑ k : Fin 8192, term A B (y 0) (y 1) k

/-- The terms of the entry that a point holds at `(a, b)` of its block. -/
abbrev termAt (c : Dev nD) (t : Fin cfg0.N) (a b : Fin 1024) : Fin 8192 → EReal :=
  term (m ((c : Thread nD τ).loc main_arg0)) (m ((c : Thread nD τ).loc main_arg1)) (row t a) (col t b)

/-- They are those of the point before, unless a block of the result begins. -/
theorem termAt_succ (c : Dev nD) (n : ℕ) (hn : n + 1 < cfg0.N) (h : (n + 1) % 4 ≠ 0) (a b : Fin 1024) :
    termAt m c ⟨n, Nat.lt_of_succ_lt hn⟩ a b = termAt m c ⟨n + 1, hn⟩ a b := by
  have e1 : n / 8 = (n + 1) / 8 := by omega
  have e2 : n / 4 % 2 = (n + 1) / 4 % 2 := by omega
  simp only [termAt, row, col, e1, e2]

/-- A point adds its block's terms to those before. -/
theorem step (c : Dev nD) (t : Fin cfg0.N) (v : FVec Ideal S1024x1024 .f32) (a b : Fin 1024)
    (hv : v (ix2 a b) = ∑ k ∈ Finset.range (2048 * (t.val % 4)), ext (termAt m c t a b) k) :
    k0_pay2 (iblk m c 0 t) (iblk m c 1 t) v (ix2 a b) = ∑ k ∈ Finset.range (2048 * (t.val % 4) + 2048), ext (termAt m c t a b) k := by
  rw [pay2_at, hv]
  refine sum_step _ _ _ _ fun k => ?_
  rw [x0_at, x1_at, ext_of_lt _ (by omega)]
  rfl

/-- The accumulator after a point that is not the last of its block holds the terms up to the point. -/
theorem scratch_eq (c : Dev nD) (a b : Fin 1024) : ∀ (n : ℕ) (hn : n < cfg0.N), n % 4 ≠ 3 →
    (outsAt0 m c n hn).2 (ix2 a b) = ∑ k ∈ Finset.range (2048 * (n % 4) + 2048), ext (termAt m c ⟨n, hn⟩ a b) k
  | 0, hn, _ => by
    rw [outsAt0_A m c ⟨0, hn⟩ rfl (by simp), scratch_A]
    exact step m c ⟨0, hn⟩ _ a b (by rw [pay1_at]; simp)
  | n + 1, hn, h3 => by
    by_cases h0 : (n + 1) % 4 = 0
    · rw [outsAt0_A m c ⟨n + 1, hn⟩ h0 h3, scratch_A]
      exact step m c ⟨n + 1, hn⟩ _ a b (by rw [pay1_at]; simp [h0])
    · rw [outsAt0_B m c ⟨n + 1, hn⟩ h0 h3, scratch_B]
      refine step m c ⟨n + 1, hn⟩ _ a b ((scratch_eq c a b n (Nat.lt_of_succ_lt hn) (by omega)).trans ?_)
      rw [termAt_succ m c n hn h0, show 2048 * (n % 4) + 2048 = 2048 * ((n + 1) % 4) by omega]

/-- The result's block after its last point is the gradient's. -/
theorem out_eq (c : Dev nD) (t : Fin cfg0.N) (h3 : t.val % 4 = 3) (a b : Fin 1024) :
    (outsAt0 m c t.val t.isLt).1 (ix2 a b) = grad (m ((c : Thread nD τ).loc main_arg0)) (m ((c : Thread nD τ).loc main_arg1)) (ix2 (row t a) (col t b)) := by
  obtain ⟨_ | n, hn⟩ := t
  · exact absurd h3 (by simp)
  have h3 : (n + 1) % 4 = 3 := h3
  have h0 : ¬(n + 1) % 4 = 0 := by omega
  rw [outsAt0_C m c ⟨n + 1, hn⟩ h0 h3, out_C]
  refine (step m c ⟨n + 1, hn⟩ _ a b ((scratch_eq m c a b n _ (by omega)).trans ?_)).trans ?_
  · rw [termAt_succ m c n hn h0, show 2048 * (n % 4) + 2048 = 2048 * ((n + 1) % 4) by omega]
  · rw [show 2048 * ((n + 1) % 4) + 2048 = 8192 by omega, sum_all]
    rfl

/-- The array after the run is the gradient. -/
theorem final (c : Dev nD) : Value.G2 m c = grad (m ((c : Thread nD τ).loc main_arg0)) (m ((c : Thread nD τ).loc main_arg1)) := by
  funext i
  obtain ⟨i0, i1, rfl⟩ : ∃ i0 i1, i = ix2 i0 i1 := ⟨i 0, i 1, eq_ix2 i⟩
  have h0 := i0.isLt
  have h1 := i1.isLt
  have hp : Value.pt2Of (ix2 i0 i1) = 4 * (2 * (i0.val / 1024) + i1.val / 1024) + 3 := by
    show 4 * (2 * (i0.val / 1024 - 0) + 1 * (i1.val / 1024 - 0)) + 3 = _
    omega
  have hN : Value.pt2Of (ix2 i0 i1) < cfg0.N := lt_of_lt_of_eq (by omega) N_0.symm
  have hl : Value.loc2Of (ix2 i0 i1) = ix2 ⟨i0.val % 1024, Nat.mod_lt _ (by decide)⟩ ⟨i1.val % 1024, Nat.mod_lt _ (by decide)⟩ :=
    funext fun a => by match a with | ⟨0, _⟩ => rfl | ⟨1, _⟩ => rfl
  unfold Value.G2
  rw [dif_pos hN, ← Value.outsAt0_sweep m c _ hN, hl]
  refine (out_eq m c ⟨_, hN⟩ (by show Value.pt2Of (ix2 i0 i1) % 4 = 3; omega) _ _).trans (congrArg _ (congrArg₂ ix2 (Fin.ext ?_) (Fin.ext ?_)))
  · show 1024 * (Value.pt2Of (ix2 i0 i1) / 8) + i0.val % 1024 = i0.val
    omega
  · show 1024 * (Value.pt2Of (ix2 i0 i1) / 4 % 2) + i1.val % 1024 = i1.val
    omega

open Cert.Reference12Ideal.Read

/-- The reference's result is the gradient. -/
theorem ref_eq (A : FVec Ideal S8192x2048 .bf16) (B : FVec Ideal S8192x2048 .bf16) : val_main_v6 (F := Ideal) A B = grad A B := by
  funext i
  rw [val_main_v6_apply, val_main_v5_apply]
  refine (val_main_v4_apply _ _ _).trans (Finset.sum_congr rfl fun k _ => ?_)
  rw [mul_comm, val_main_v0_apply, val_main_v1_apply]
  refine congrArg₂ (· * ·) (congrArg A (funext fun a => ?_)) (congrArg B (funext fun a => ?_)) <;>
    match a with | ⟨0, _⟩ => rfl | ⟨1, _⟩ => rfl

theorem frame_ref : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Kernel and reference compute the gradient. -/
theorem algebraic : Cert.algebraic_Kernel12Ideal_Reference12Ideal := by
  intro m ρ m' ρ' _ hag
  refine ⟨fun c => grad (m ((c : Thread nD τ).loc main_arg0)) (m ((c : Thread nD τ).loc main_arg1)), ?_, ?_⟩
  · exact (θ_run defs _ _).mono (fun r h c => ⟨(h c).1.trans (final m c), (h c).2⟩) (Value.run (F := Ideal) m ρ)
  · refine (θ_run Cert.Reference12Ideal.defs _ _).mono (fun r h c => ?_) (Cert.Reference12Ideal.Value.run (F := Ideal) m' ρ')
    refine ⟨(h c).1.trans ?_, (h c).2⟩
    rw [val_main_v6_eq, (hag c).1, (hag c).2]
    exact ref_eq _ _

end Cert.Kernel12Ideal.Product
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Result
public import proofs.«01_k».proof.Proof.GateGrad
public import proofs.«01_k».proof.Proof.DownGrad
public import proofs.«01_k».proof.Proof.UpGrad
public import proofs.«01_k».proof.Proof.InputGrad
public import proofs.«01_k».proof.Proof.Up
public import proofs.«01_k».proof.Proof.Down
public import proofs.«01_k».proof.Proof.In
public import proofs.«01_k».proof.Proof.InGrad
public import proofs.«01_k».proof.Proof.InBack
public import proofs.«01_k».proof.Proof.OutBack
public import proofs.«01_k».proof.Proof.OutGrad
public import proofs.«01_k».proof.Proof.WordsPoints
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.facts, Cert.Pre_finite2.facts,
  Cert.Kernel.Flash.frame,
  Cert.KernelIdeal.Flash.frame,
  fun m ρ _ => Cert.KernelIdeal.Flash.frame m ρ trivial,
  Cert.Attention.frame_ref,
  fun m ρ _ => Cert.Attention.frame_ref m ρ trivial,
  fun m ρ _ => Cert.Kernel2.Gen.frame m ρ,
  fun m ρ _ => Cert.Kernel2Ideal.Gen.frame m ρ,
  fun m ρ _ => Cert.Kernel2Ideal.Gen.frame m ρ,
  Cert.Kernel2Ideal.Product.frame_ref,
  fun m ρ _ => Cert.Kernel2Ideal.Product.frame_ref m ρ trivial,
  fun m ρ _ => Cert.Kernel3.Gen.frame m ρ,
  fun m ρ _ => Cert.Kernel3Ideal.Gen.frame m ρ,
  Cert.Kernel3Ideal.Product.frame_ref,
  fun m ρ _ => Cert.Kernel4.Gen.frame m ρ,
  fun m ρ _ => Cert.Kernel4Ideal.Gen.frame m ρ,
  Cert.Kernel4Ideal.Product.frame_ref,
  fun m ρ _ => Cert.Kernel5.Gen.frame m ρ,
  fun m ρ _ => Cert.Kernel5Ideal.Gen.frame m ρ,
  Cert.Kernel5Ideal.Product.frame_ref,
  fun m ρ _ => Cert.Kernel6.Gen.frame m ρ,
  fun m ρ _ => Cert.Kernel6Ideal.Gen.frame m ρ,
  Cert.Kernel6Ideal.Product.frame_ref,
  fun m ρ _ => Cert.Kernel7.Gen.frame m ρ,
  fun m ρ _ => Cert.Kernel7Ideal.Gen.frame m ρ,
  Cert.Kernel7Ideal.Product.frame_ref,
  fun m ρ _ => Cert.Kernel8.Gen.frame m ρ,
  fun m ρ _ => Cert.Kernel8Ideal.Gen.frame m ρ,
  Cert.Kernel8Ideal.Product.frame_ref,
  fun m ρ _ => Cert.Kernel9.Gen.frame m ρ,
  fun m ρ _ => Cert.Kernel9Ideal.Gen.frame m ρ,
  Cert.Kernel9Ideal.Product.frame_ref,
  fun m ρ _ => Cert.Kernel10.Gen.frame m ρ,
  fun m ρ _ => Cert.Kernel10Ideal.Gen.frame m ρ,
  Cert.Kernel10Ideal.Product.frame_ref,
  fun m ρ _ => Cert.Kernel11.Gen.frame m ρ,
  fun m ρ _ => Cert.Kernel11Ideal.Gen.frame m ρ,
  Cert.Kernel11Ideal.Product.frame_ref,
  fun m ρ _ => Cert.Kernel12.Gen.frame m ρ,
  fun m ρ _ => Cert.Kernel12Ideal.Gen.frame m ρ,
  Cert.Kernel12Ideal.Product.frame_ref,
  IdealRules.named_const.statement Cert.KernelIdeal.κ "mask" .f32 0xF149F2CA#32 ⊥ rfl,
  Cert.Attention.algebraic,
  trivial,
  Cert.Kernel2Ideal.Product.algebraic,
  trivial,
  Cert.Kernel3Ideal.Product.algebraic,
  trivial,
  Cert.Kernel4Ideal.Product.algebraic,
  trivial,
  Cert.Kernel5Ideal.Product.algebraic,
  trivial,
  Cert.Kernel6Ideal.Product.algebraic,
  trivial,
  Cert.Kernel7Ideal.Product.algebraic,
  trivial,
  Cert.Kernel8Ideal.Product.algebraic,
  trivial,
  Cert.Kernel9Ideal.Product.algebraic,
  trivial,
  Cert.Kernel10Ideal.Product.algebraic,
  trivial,
  Cert.Kernel11Ideal.Product.algebraic,
  trivial,
  Cert.Kernel12Ideal.Product.algebraic⟩

end Cert.Proof

end
